-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v39) = v1 c
          ∧ r.2.mem ((c.tc : Thread Cert.Reference2Ideal.nD Cert.Reference2Ideal.τ).loc Cert.Reference2Ideal.main_v40) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_v14) = v1 c
          ∧ r.2.mem ((c.tc : Thread Cert.Reference3Ideal.nD Cert.Reference3Ideal.τ).loc Cert.Reference3Ideal.main_v16) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v16)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v6) = v2 c
          ∧ r.2.mem ((c.tc : Thread Cert.Reference10Ideal.nD Cert.Reference10Ideal.τ).loc Cert.Reference10Ideal.main_v12) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)) (v3 : (c : Dev Cert.Kernel11Ideal.nD) → Buf (Elt Ideal) ((c.tc : Thread Cert.Kernel11Ideal.nD Cert.Kernel11Ideal.τ).loc Cert.Kernel11Ideal.main_v3_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_v3_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_v28) = v1 c
          ∧ r.2.mem ((c.tc : Thread Cert.Reference11Ideal.nD Cert.Reference11Ideal.τ).loc Cert.Reference11Ideal.main_v9) = v2 c
          ∧ r.2.mem ((c.tc : Thread Cert.Reference11Ideal.nD Cert.Reference11Ideal.τ).loc Cert.Reference11Ideal.main_v15) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)) (v2 : (c : Dev Cert.Kernel12Ideal.nD) → Buf (Elt Ideal) ((c.tc : Thread Cert.Kernel12Ideal.nD Cert.Kernel12Ideal.τ).loc Cert.Kernel12Ideal.main_v3_2)) (v3 : (c : Dev Cert.Kernel12Ideal.nD) → Buf (Elt Ideal) ((c.tc : Thread Cert.Kernel12Ideal.nD Cert.Kernel12Ideal.τ).loc Cert.Kernel12Ideal.main_v3_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_v3_2) = v2 c
          ∧ r.2.mem ((c.tc : Thread Cert.Kernel12Ideal.nD Cert.Kernel12Ideal.τ).loc Cert.Kernel12Ideal.main_v3_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_v28) = v1 c
          ∧ r.2.mem ((c.tc : Thread Cert.Reference12Ideal.nD Cert.Reference12Ideal.τ).loc Cert.Reference12Ideal.main_v9) = v2 c
          ∧ r.2.mem ((c.tc : Thread Cert.Reference12Ideal.nD Cert.Reference12Ideal.τ).loc Cert.Reference12Ideal.main_v15) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)) (v3 : (c : Dev Cert.Kernel13Ideal.nD) → Buf (Elt Ideal) ((c.tc : Thread Cert.Kernel13Ideal.nD Cert.Kernel13Ideal.τ).loc Cert.Kernel13Ideal.main_v1_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_v1_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_v28) = v1 c
          ∧ r.2.mem ((c.tc : Thread Cert.Reference13Ideal.nD Cert.Reference13Ideal.τ).loc Cert.Reference13Ideal.main_v9) = v2 c
          ∧ r.2.mem ((c.tc : Thread Cert.Reference13Ideal.nD Cert.Reference13Ideal.τ).loc Cert.Reference13Ideal.main_v15) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)) (v2 : (c : Dev Cert.Kernel14Ideal.nD) → Buf (Elt Ideal) ((c.tc : Thread Cert.Kernel14Ideal.nD Cert.Kernel14Ideal.τ).loc Cert.Kernel14Ideal.main_v3_2)) (v3 : (c : Dev Cert.Kernel14Ideal.nD) → Buf (Elt Ideal) ((c.tc : Thread Cert.Kernel14Ideal.nD Cert.Kernel14Ideal.τ).loc Cert.Kernel14Ideal.main_v3_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_v3_2) = v2 c
          ∧ r.2.mem ((c.tc : Thread Cert.Kernel14Ideal.nD Cert.Kernel14Ideal.τ).loc Cert.Kernel14Ideal.main_v3_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_v28) = v1 c
          ∧ r.2.mem ((c.tc : Thread Cert.Reference14Ideal.nD Cert.Reference14Ideal.τ).loc Cert.Reference14Ideal.main_v9) = v2 c
          ∧ r.2.mem ((c.tc : Thread Cert.Reference14Ideal.nD Cert.Reference14Ideal.τ).loc Cert.Reference14Ideal.main_v15) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Kernel.lean ====
abbrev S4096x16x128 : Shape := ⟨3, ![4096, 16, 128]⟩
abbrev S4096x16 : Shape := ⟨2, ![4096, 16]⟩
abbrev S4096x2048 : Shape := ⟨2, ![4096, 2048]⟩
abbrev S4096x1x16 : Shape := ⟨3, ![4096, 1, 16]⟩
abbrev S1x4096x16 : Shape := ⟨3, ![1, 4096, 16]⟩
abbrev S128x2048 : Shape := ⟨2, ![128, 2048]⟩
abbrev S1x128x16 : Shape := ⟨3, ![1, 128, 16]⟩
abbrev S128x256 : Shape := ⟨2, ![128, 256]⟩
abbrev S128x128 : Shape := ⟨2, ![128, 128]⟩
abbrev S256x128 : Shape := ⟨2, ![256, 128]⟩
abbrev S1x128x1 : Shape := ⟨3, ![1, 128, 1]⟩
abbrev S128x1 : Shape := ⟨2, ![128, 1]⟩

abbrev nBuf : Space → Nat
  | .hbm => 21
  | .vmem => 24
  | .smem => 0
  | _ => 0

abbrev bufTy : (tb : Table) → Fin (tcTables nBuf tb) → BufTy
  | .hbm, ⟨0, _⟩ => ⟨S4096x16x128, .f32⟩
  | .hbm, ⟨1, _⟩ => ⟨S4096x16x128, .f32⟩
  | .hbm, ⟨2, _⟩ => ⟨S4096x16x128, .f32⟩
  | .hbm, ⟨3, _⟩ => ⟨S4096x16x128, .f32⟩
  | .hbm, ⟨4, _⟩ => ⟨S4096x16, .f32⟩
  | .hbm, ⟨5, _⟩ => ⟨S4096x16, .f32⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S4096x2048, .bf16⟩
  | .hbm, ⟨10, _⟩ => ⟨S4096x2048, .f32⟩
  | .hbm, ⟨11, _⟩ => ⟨S4096x2048, .bf16⟩
  | .hbm, ⟨12, _⟩ => ⟨S4096x2048, .f32⟩
  | .hbm, ⟨13, _⟩ => ⟨S4096x2048, .bf16⟩
  | .hbm, ⟨14, _⟩ => ⟨S4096x1x16, .f32⟩
  | .hbm, ⟨15, _⟩ => ⟨S1x4096x16, .f32⟩
  | .hbm, ⟨16, _⟩ => ⟨S4096x1x16, .f32⟩
  | .hbm, ⟨17, _⟩ => ⟨S1x4096x16, .f32⟩
  | .hbm, ⟨18, _⟩ => ⟨S4096x2048, .bf16⟩
  | .hbm, ⟨19, _⟩ => ⟨S4096x2048, .bf16⟩
  | .hbm, ⟨20, _⟩ => ⟨S4096x2048, .bf16⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S128x2048, .bf16⟩
  | .local _ .vmem, ⟨9, _⟩ => ⟨S128x2048, .bf16⟩
  | .local _ .vmem, ⟨10, _⟩ => ⟨S128x2048, .bf16⟩
  | .local _ .vmem, ⟨11, _⟩ => ⟨S128x2048, .bf16⟩
  | .local _ .vmem, ⟨12, _⟩ => ⟨S1x128x16, .f32⟩
  | .local _ .vmem, ⟨13, _⟩ => ⟨S1x128x16, .f32⟩
  | .local _ .vmem, ⟨14, _⟩ => ⟨S1x128x16, .f32⟩
  | .local _ .vmem, ⟨15, _⟩ => ⟨S1x128x16, .f32⟩
  | .local _ .vmem, ⟨16, _⟩ => ⟨S128x2048, .bf16⟩
  | .local _ .vmem, ⟨17, _⟩ => ⟨S128x2048, .bf16⟩
  | .local _ .vmem, ⟨18, _⟩ => ⟨S128x2048, .bf16⟩
  | .local _ .vmem, ⟨19, _⟩ => ⟨S128x2048, .bf16⟩
  | .local _ .vmem, ⟨20, _⟩ => ⟨S128x2048, .bf16⟩
  | .local _ .vmem, ⟨21, _⟩ => ⟨S128x2048, .bf16⟩
  | .local _ .vmem, ⟨22, _⟩ => ⟨S128x2048, .f32⟩
  | .local _ .vmem, ⟨23, _⟩ => ⟨S128x2048, .f32⟩
  | _, _ => ⟨S4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![1, 33], ![false, false]⟩

def k0_cond2 (i : grid0.Coords) : BitVec 1 :=
  let arg1 : BitVec 32 := BitVec.ofNat 32 (i 1).val
  let c32_i32 : BitVec 32 := 32#32
  let v12 : BitVec 1 := Scalar.cmpi .slt arg1 c32_i32
  let v13 : BitVec 32 := Scalar.extui v12
  let c0_i32_2 : BitVec 32 := 0#32
  let v14 : BitVec 1 := Scalar.cmpi .ne v13 c0_i32_2
  v14

def k0_cond3 (i : grid0.Coords) : BitVec 1 :=
  let arg1 : BitVec 32 := BitVec.ofNat 32 (i 1).val
  let c32_i32_3 : BitVec 32 := 32#32
  let v15 : BitVec 1 := Scalar.cmpi .eq arg1 c32_i32_3
  let v16 : BitVec 32 := Scalar.extui v15
  let c0_i32_4 : BitVec 32 := 0#32
  let v17 : BitVec 1 := Scalar.cmpi .ne v16 c0_i32_4
  v17

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_6 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_8 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x16x128 : Shape := ⟨3, ![4096, 16, 128]⟩
abbrev S4096x16 : Shape := ⟨2, ![4096, 16]⟩
abbrev S4096x4096 : Shape := ⟨2, ![4096, 4096]⟩
abbrev S_ : Shape := ⟨0, ![]⟩
abbrev S16x4096x4096 : Shape := ⟨3, ![16, 4096, 4096]⟩
abbrev S1x4096x4096 : Shape := ⟨3, ![1, 4096, 4096]⟩
abbrev S16x4096 : Shape := ⟨2, ![16, 4096]⟩
abbrev S16x4096x1 : Shape := ⟨3, ![16, 4096, 1]⟩
abbrev S16x128x4096 : Shape := ⟨3, ![16, 128, 4096]⟩
abbrev S16x4096x128 : Shape := ⟨3, ![16, 4096, 128]⟩
abbrev S4096x2048 : Shape := ⟨2, ![4096, 2048]⟩

abbrev nBuf : Space → Nat
  | .hbm => 88
  | .vmem => 0
  | .smem => 0
  | _ => 0

abbrev bufTy : (tb : Table) → Fin (tcTables nBuf tb) → BufTy
  | .hbm, ⟨0, _⟩ => ⟨S4096x16x128, .f32⟩
  | .hbm, ⟨1, _⟩ => ⟨S4096x16x128, .f32⟩
  | .hbm, ⟨2, _⟩ => ⟨S4096x16x128, .f32⟩
  | .hbm, ⟨3, _⟩ => ⟨S4096x16x128, .f32⟩
  | .hbm, ⟨4, _⟩ => ⟨S4096x16, .f32⟩
  | .hbm, ⟨5, _⟩ => ⟨S4096x16, .f32⟩
  | .hbm, ⟨6, _⟩ => ⟨S4096x4096, .i32⟩
  | .hbm, ⟨7, _⟩ => ⟨S4096x4096, .i32⟩
  | .hbm, ⟨8, _⟩ => ⟨S4096x4096, .i32⟩
  | .hbm, ⟨9, _⟩ => ⟨S_, .i32⟩
  | .hbm, ⟨10, _⟩ => ⟨S4096x4096, .i32⟩
  | .hbm, ⟨11, _⟩ => ⟨S4096x4096, .i1⟩
  | .hbm, ⟨12, _⟩ => ⟨S_, .i32⟩
  | .hbm, ⟨13, _⟩ => ⟨S4096x4096, .i32⟩
  | .hbm, ⟨14, _⟩ => ⟨S4096x4096, .i1⟩
  | .hbm, ⟨15, _⟩ => ⟨S4096x4096, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S4096x4096, .i32⟩
  | .hbm, ⟨23, _⟩ => ⟨S4096x4096, .i32⟩
  | .hbm, ⟨24, _⟩ => ⟨S_, .i32⟩
  | .hbm, ⟨25, _⟩ => ⟨S4096x4096, .i32⟩
  | .hbm, ⟨26, _⟩ => ⟨S4096x4096, .i1⟩
  | .hbm, ⟨27, _⟩ => ⟨S_, .i32⟩
  | .hbm, ⟨28, _⟩ => ⟨S4096x4096, .i32⟩
  | .hbm, ⟨29, _⟩ => ⟨S4096x4096, .i1⟩
  | .hbm, ⟨30, _⟩ => ⟨S_, .i32⟩
  | .hbm, ⟨31, _⟩ => ⟨S_, .i1⟩
  | .hbm, ⟨32, _⟩ => ⟨S4096x4096, .i1⟩
  | .hbm, ⟨33, _⟩ => ⟨S4096x4096, .i1⟩
  | .hbm, ⟨34, _⟩ => ⟨S4096x4096, .i1⟩
  | .hbm, ⟨35, _⟩ => ⟨S4096x4096, .i32⟩
  | .hbm, ⟨36, _⟩ => ⟨S4096x4096, .i32⟩
  | .hbm, ⟨37, _⟩ => ⟨S4096x4096, .i32⟩
  | .hbm, ⟨38, _⟩ => ⟨S_, .i32⟩
  | .hbm, ⟨39, _⟩ => ⟨S4096x4096, .i32⟩
  | .hbm, ⟨40, _⟩ => ⟨S4096x4096, .i1⟩
  | .hbm, ⟨41, _⟩ => ⟨S4096x4096, .i1⟩
  | .hbm, ⟨42, _⟩ => ⟨S16x4096x4096, .f32⟩
  | .hbm, ⟨43, _⟩ => ⟨S_, .f32⟩
  | .hbm, ⟨44, _⟩ => ⟨S16x4096x4096, .f32⟩
  | .hbm, ⟨45, _⟩ => ⟨S16x4096x4096, .f32⟩
  | .hbm, ⟨46, _⟩ => ⟨S1x4096x4096, .i1⟩
  | .hbm, ⟨47, _⟩ => ⟨S_, .f32⟩
  | .hbm, ⟨48, _⟩ => ⟨S_, .f32⟩
  | .hbm, ⟨49, _⟩ => ⟨S16x4096x4096, .i1⟩
  | .hbm, ⟨50, _⟩ => ⟨S16x4096x4096, .f32⟩
  | .hbm, ⟨51, _⟩ => ⟨S16x4096x4096, .f32⟩
  | .hbm, ⟨52, _⟩ => ⟨S_, .f32⟩
  | .hbm, ⟨53, _⟩ => ⟨S16x4096x4096, .f32⟩
  | .hbm, ⟨54, _⟩ => ⟨S16x4096, .f32⟩
  | .hbm, ⟨55, _⟩ => ⟨S16x4096x1, .f32⟩
  | .hbm, ⟨56, _⟩ => ⟨S16x4096x4096, .f32⟩
  | .hbm, ⟨57, _⟩ => ⟨S16x4096x4096, .f32⟩
  | .hbm, ⟨58, _⟩ => ⟨S16x4096x4096, .f32⟩
  | .hbm, ⟨59, _⟩ => ⟨S16x128x4096, .f32⟩
  | .hbm, ⟨60, _⟩ => ⟨S4096x16x128, .f32⟩
  | .hbm, ⟨61, _⟩ => ⟨S_, .f32⟩
  | .hbm, ⟨62, _⟩ => ⟨S16x4096, .f32⟩
  | .hbm, ⟨63, _⟩ => ⟨S16x4096, .f32⟩
  | .hbm, ⟨64, _⟩ => ⟨S16x4096, .f32⟩
  | .hbm, ⟨65, _⟩ => ⟨S16x4096x4096, .f32⟩
  | .hbm, ⟨66, _⟩ => ⟨S16x128x4096, .f32⟩
  | .hbm, ⟨67, _⟩ => ⟨S16x4096x4096, .f32⟩
  | .hbm, ⟨68, _⟩ => ⟨S16x4096x4096, .f32⟩
  | .hbm, ⟨69, _⟩ => ⟨S16x128x4096, .f32⟩
  | .hbm, ⟨70, _⟩ => ⟨S4096x16x128, .f32⟩
  | .hbm, ⟨71, _⟩ => ⟨S16x4096x4096, .f32⟩
  | .hbm, ⟨72, _⟩ => ⟨S_, .f32⟩
  | .hbm, ⟨73, _⟩ => ⟨S16x4096x4096, .f32⟩
  | .hbm, ⟨74, _⟩ => ⟨S16x4096x4096, .f32⟩
  | .hbm, ⟨75, _⟩ => ⟨S_, .f32⟩
  | .hbm, ⟨76, _⟩ => ⟨S16x4096x4096, .f32⟩
  | .hbm, ⟨77, _⟩ => ⟨S16x4096x4096, .f32⟩
  | .hbm, ⟨78, _⟩ => ⟨S16x4096x128, .f32⟩
  | .hbm, ⟨79, _⟩ => ⟨S4096x16x128, .f32⟩
  | .hbm, ⟨80, _⟩ => ⟨S16x4096x128, .f32⟩
  | .hbm, ⟨81, _⟩ => ⟨S4096x16x128, .f32⟩
  | .hbm, ⟨82, _⟩ => ⟨S4096x2048, .f32⟩
  | .hbm, ⟨83, _⟩ => ⟨S4096x2048, .bf16⟩
  | .hbm, ⟨84, _⟩ => ⟨S4096x2048, .f32⟩
  | .hbm, ⟨85, _⟩ => ⟨S4096x2048, .bf16⟩
  | .hbm, ⟨86, _⟩ => ⟨S4096x2048, .f32⟩
  | .hbm, ⟨87, _⟩ => ⟨S4096x2048, .bf16⟩
  | _, _ => ⟨S4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v8 : Ref sig .tc := ⟨.hbm, 37, rfl⟩
abbrev main_c_2 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_3 : Ref sig .tc := ⟨.hbm, 47, rfl⟩
abbrev main_call1_v0 : Ref sig .tc := ⟨.hbm, 48, rfl⟩
abbrev main_v16_1 : Ref sig .tc := ⟨.hbm, 49, rfl⟩
abbrev main_call1_v2 : Ref sig .tc := ⟨.hbm, 50, rfl⟩
abbrev main_v16_0 : Ref sig .tc := ⟨.hbm, 51, rfl⟩
abbrev main_call1_cst : Ref sig .tc := ⟨.hbm, 52, rfl⟩
abbrev main_v16_2 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_cst_4 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_call2_cst : Ref sig .tc := ⟨.hbm, 72, rfl⟩
abbrev main_call2_v0 : Ref sig .tc := ⟨.hbm, 73, rfl⟩
abbrev main_v34 : Ref sig .tc := ⟨.hbm, 74, rfl⟩
abbrev main_cst_5 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩

abbrev nD : Nat := 1
abbrev τ : Topo := Topo.v7x

variable {F : FTy → Type} [FloatOps F]
-- ==== Kernel2.lean ====
abbrev S4096x14336 : Shape := ⟨2, ![4096, 14336]⟩
abbrev S2048x14336 : Shape := ⟨2, ![2048, 14336]⟩
abbrev S4096x2048 : Shape := ⟨2, ![4096, 2048]⟩
abbrev S2048 : Shape := ⟨1, ![2048]⟩
abbrev S14336x2048 : Shape := ⟨2, ![14336, 2048]⟩
abbrev S1x2048 : Shape := ⟨2, ![1, 2048]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S4096x14336, .f32⟩
  | .hbm, ⟨1, _⟩ => ⟨S2048x14336, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S4096x14336, .bf16⟩
  | .hbm, ⟨6, _⟩ => ⟨S2048x14336, .bf16⟩
  | .hbm, ⟨7, _⟩ => ⟨S14336x2048, .bf16⟩
  | .hbm, ⟨8, _⟩ => ⟨S1x2048, .f32⟩
  | .hbm, ⟨9, _⟩ => ⟨S4096x2048, .f32⟩
  | .hbm, ⟨10, _⟩ => ⟨S4096x2048, .bf16⟩
  | .hbm, ⟨11, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1x2048, .f32⟩
  | _, _ => ⟨S4096x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 14], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def k0_cond4 (i : grid0.Coords) : BitVec 1 :=
  let arg1 : BitVec 32 := BitVec.ofNat 32 (i 1).val
  let c13_i32 : BitVec 32 := 13#32
  let v16 : BitVec 1 := Scalar.cmpi .eq arg1 c13_i32
  let v17 : BitVec 32 := Scalar.extui v16
  let c0_i32_9 : BitVec 32 := 0#32
  let v18 : BitVec 1 := Scalar.cmpi .ne v17 c0_i32_9
  v18

def k0_cond3 (i : grid0.Coords) : BitVec 1 :=
  let arg1 : BitVec 32 := BitVec.ofNat 32 (i 1).val
  let c0_i32_6 : BitVec 32 := 0#32
  let v11 : BitVec 1 := Scalar.cmpi .eq arg1 c0_i32_6
  let arg0 : BitVec 32 := BitVec.ofNat 32 (i 0).val
  let c0_i32_7 : BitVec 32 := 0#32
  let v12 : BitVec 1 := Scalar.cmpi .eq arg0 c0_i32_7
  let v13 : BitVec 1 := Scalar.andi v11 v12
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference2Ideal.lean ====
abbrev S4096x14336 : Shape := ⟨2, ![4096, 14336]⟩
abbrev S2048x14336 : Shape := ⟨2, ![2048, 14336]⟩
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S4096x14336, .f32⟩
  | .hbm, ⟨1, _⟩ => ⟨S2048x14336, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x14336, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S4096x2048, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .bf16⟩
  | .hbm, ⟨54, _⟩ => ⟨S1x2048, .f32⟩
  | _, _ => ⟨S4096x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel3.lean ====
abbrev S4096x2048 : Shape := ⟨2, ![4096, 2048]⟩
abbrev S2048 : Shape := ⟨1, ![2048]⟩
abbrev S2048x14336 : Shape := ⟨2, ![2048, 14336]⟩
abbrev S1x2048 : Shape := ⟨2, ![1, 2048]⟩
abbrev S14336x2048 : Shape := ⟨2, ![14336, 2048]⟩
abbrev S4096x14336 : Shape := ⟨2, ![4096, 14336]⟩
abbrev S2048x4096 : Shape := ⟨2, ![2048, 4096]⟩
abbrev S512x2048 : Shape := ⟨2, ![512, 2048]⟩
abbrev S1792x2048 : Shape := ⟨2, ![1792, 2048]⟩
abbrev S512x1792 : Shape := ⟨2, ![512, 1792]⟩
abbrev S2048x512 : Shape := ⟨2, ![2048, 512]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048x14336, .f32⟩
  | .hbm, ⟨3, _⟩ => ⟨S1x2048, .f32⟩
  | .hbm, ⟨4, _⟩ => ⟨S2048x14336, .bf16⟩
  | .hbm, ⟨5, _⟩ => ⟨S14336x2048, .bf16⟩
  | .hbm, ⟨6, _⟩ => ⟨S4096x14336, .f32⟩
  | .hbm, ⟨7, _⟩ => ⟨S4096x2048, .bf16⟩
  | .hbm, ⟨8, _⟩ => ⟨S2048x4096, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1792x2048, .bf16⟩
  | .local _ .vmem, ⟨4, _⟩ => ⟨S1792x2048, .bf16⟩
  | .local _ .vmem, ⟨5, _⟩ => ⟨S512x1792, .f32⟩
  | .local _ .vmem, ⟨6, _⟩ => ⟨S512x1792, .f32⟩
  | .local _ .vmem, ⟨7, _⟩ => ⟨S512x2048, .bf16⟩
  | .local _ .vmem, ⟨8, _⟩ => ⟨S512x2048, .bf16⟩
  | .local _ .vmem, ⟨9, _⟩ => ⟨S2048x512, .bf16⟩
  | .local _ .vmem, ⟨10, _⟩ => ⟨S2048x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1792x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S4096x2048 : Shape := ⟨2, ![4096, 2048]⟩
abbrev S2048 : Shape := ⟨1, ![2048]⟩
abbrev S2048x14336 : Shape := ⟨2, ![2048, 14336]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S4096x14336 : Shape := ⟨2, ![4096, 14336]⟩
abbrev S2048x4096 : Shape := ⟨2, ![2048, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048x14336, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x14336, .f32⟩
  | .hbm, ⟨20, _⟩ => ⟨S4096x2048, .bf16⟩
  | .hbm, ⟨21, _⟩ => ⟨S2048x4096, .f32⟩
  | .hbm, ⟨22, _⟩ => ⟨S2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel4.lean ====
abbrev S4096x2048 : Shape := ⟨2, ![4096, 2048]⟩
abbrev S2048 : Shape := ⟨1, ![2048]⟩
abbrev S4096x14336 : Shape := ⟨2, ![4096, 14336]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S2048x4096 : Shape := ⟨2, ![2048, 4096]⟩
abbrev S8x2048x1792 : Shape := ⟨3, ![8, 2048, 1792]⟩
abbrev S1024x4096 : Shape := ⟨2, ![1024, 4096]⟩
abbrev S4096x896 : Shape := ⟨2, ![4096, 896]⟩
abbrev S1x1024x896 : Shape := ⟨3, ![1, 1024, 896]⟩
abbrev S1024x896 : Shape := ⟨2, ![1024, 896]⟩

abbrev nBuf : Space → Nat
  | .hbm => 23
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x14336, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S2048x4096, .f32⟩
  | .hbm, ⟨20, _⟩ => ⟨S2048x4096, .bf16⟩
  | .hbm, ⟨21, _⟩ => ⟨S4096x14336, .bf16⟩
  | .hbm, ⟨22, _⟩ => ⟨S8x2048x1792, .bf16⟩
  | .local _ .vmem, ⟨0, _⟩ => ⟨S1024x4096, .bf16⟩
  | .local _ .vmem, ⟨1, _⟩ => ⟨S1024x4096, .bf16⟩
  | .local _ .vmem, ⟨2, _⟩ => ⟨S4096x896, .bf16⟩
  | .local _ .vmem, ⟨3, _⟩ => ⟨S4096x896, .bf16⟩
  | .local _ .vmem, ⟨4, _⟩ => ⟨S1x1024x896, .bf16⟩
  | .local _ .vmem, ⟨5, _⟩ => ⟨S1x1024x896, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x2048 : Shape := ⟨2, ![4096, 2048]⟩
abbrev S2048 : Shape := ⟨1, ![2048]⟩
abbrev S4096x14336 : Shape := ⟨2, ![4096, 14336]⟩
abbrev S_ : Shape := ⟨0, ![]⟩
abbrev S2048x14336 : Shape := ⟨2, ![2048, 14336]⟩
abbrev S4096 : Shape := ⟨1, ![4096]⟩
abbrev S4096x1 : Shape := ⟨2, ![4096, 1]⟩
abbrev S1x2048 : Shape := ⟨2, ![1, 2048]⟩
abbrev S14336x2048 : Shape := ⟨2, ![14336, 2048]⟩
abbrev S2048x8x1792 : Shape := ⟨3, ![2048, 8, 1792]⟩
abbrev S8x2048x1792 : Shape := ⟨3, ![8, 2048, 1792]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x14336, .f32⟩
  | .hbm, ⟨3, _⟩ => ⟨S_, .f32⟩
  | .hbm, ⟨4, _⟩ => ⟨S2048x14336, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S4096x14336, .f32⟩
  | .hbm, ⟨22, _⟩ => ⟨S14336x2048, .f32⟩
  | .hbm, ⟨23, _⟩ => ⟨S2048x14336, .f32⟩
  | .hbm, ⟨24, _⟩ => ⟨S2048x8x1792, .f32⟩
  | .hbm, ⟨25, _⟩ => ⟨S8x2048x1792, .f32⟩
  | .hbm, ⟨26, _⟩ => ⟨S8x2048x1792, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel6.lean ====
abbrev S4096x2048 : Shape := ⟨2, ![4096, 2048]⟩
abbrev S4096x4096 : Shape := ⟨2, ![4096, 4096]⟩
abbrev S512x2048 : Shape := ⟨2, ![512, 2048]⟩
abbrev S2048x2048 : Shape := ⟨2, ![2048, 2048]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S4096x4096, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x2048 : Shape := ⟨2, ![4096, 2048]⟩
abbrev S_ : Shape := ⟨0, ![]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S4096x4096, .f32⟩
  | .hbm, ⟨4, _⟩ => ⟨S4096x2048, .f32⟩
  | .hbm, ⟨5, _⟩ => ⟨S4096x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S4096x4096 : Shape := ⟨2, ![4096, 4096]⟩
abbrev S4096x2048 : Shape := ⟨2, ![4096, 2048]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x4096, .bf16⟩
  | .hbm, ⟨3, _⟩ => ⟨S4096x4096, .bf16⟩
  | .hbm, ⟨4, _⟩ => ⟨S4096x2048, .bf16⟩
  | .hbm, ⟨5, _⟩ => ⟨S4096x2048, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x4096 : Shape := ⟨2, ![4096, 4096]⟩
abbrev S4096x2048 : Shape := ⟨2, ![4096, 2048]⟩
abbrev S_ : Shape := ⟨0, ![]⟩
abbrev S2048x4096 : Shape := ⟨2, ![2048, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S2048x4096, .f32⟩
  | .hbm, ⟨6, _⟩ => ⟨S4096x2048, .f32⟩
  | .hbm, ⟨7, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x4096 : Shape := ⟨2, ![4096, 4096]⟩
abbrev S4096x2048 : Shape := ⟨2, ![4096, 2048]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x4096, .bf16⟩
  | .hbm, ⟨4, _⟩ => ⟨S4096x2048, .bf16⟩
  | .hbm, ⟨5, _⟩ => ⟨S4096x2048, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S4096x4096 : Shape := ⟨2, ![4096, 4096]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel9.lean ====
abbrev S4096x2048 : Shape := ⟨2, ![4096, 2048]⟩
abbrev S2048x4096 : Shape := ⟨2, ![2048, 4096]⟩
abbrev S2048x2048 : Shape := ⟨2, ![2048, 2048]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S2048x4096, .bf16⟩
  | .hbm, ⟨4, _⟩ => ⟨S4096x2048, .bf16⟩
  | .hbm, ⟨5, _⟩ => ⟨S2048x2048, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S1x16x2048 : Shape := ⟨3, ![1, 16, 2048]⟩
abbrev S8x16x2048 : Shape := ⟨3, ![8, 16, 2048]⟩
abbrev S16x2048 : Shape := ⟨2, ![16, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x16x2048, .f32⟩
  | .hbm, ⟨1, _⟩ => ⟨S1x16x2048, .f32⟩
  | .hbm, ⟨2, _⟩ => ⟨S1x16x2048, .f32⟩
  | .hbm, ⟨3, _⟩ => ⟨S8x16x2048, .f32⟩
  | .hbm, ⟨4, _⟩ => ⟨S1x16x2048, .f32⟩
  | .hbm, ⟨5, _⟩ => ⟨S1x16x2048, .f32⟩
  | .hbm, ⟨6, _⟩ => ⟨S1x16x2048, .f32⟩
  | .hbm, ⟨7, _⟩ => ⟨S1x16x2048, .f32⟩
  | .local _ .vmem, ⟨0, _⟩ => ⟨S1x16x2048, .f32⟩
  | .local _ .vmem, ⟨1, _⟩ => ⟨S1x16x2048, .f32⟩
  | .local _ .vmem, ⟨2, _⟩ => ⟨S1x16x2048, .f32⟩
  | .local _ .vmem, ⟨3, _⟩ => ⟨S8x16x2048, .f32⟩
  | .local _ .vmem, ⟨4, _⟩ => ⟨S1x16x2048, .f32⟩
  | .local _ .vmem, ⟨5, _⟩ => ⟨S1x16x2048, .f32⟩
  | .local _ .vmem, ⟨6, _⟩ => ⟨S1x16x2048, .f32⟩
  | .local _ .vmem, ⟨7, _⟩ => ⟨S1x16x2048, .f32⟩
  | _, _ => ⟨S1x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x16x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference10Ideal.lean ====
abbrev S1x16x2048 : Shape := ⟨3, ![1, 16, 2048]⟩
abbrev S8x16x2048 : Shape := ⟨3, ![8, 16, 2048]⟩
abbrev S_ : Shape := ⟨0, ![]⟩
abbrev S16x2048 : Shape := ⟨2, ![16, 2048]⟩

abbrev nBuf : Space → Nat
  | .hbm => 40
  | .vmem => 0
  | .smem => 0
  | _ => 0

abbrev bufTy : (tb : Table) → Fin (tcTables nBuf tb) → BufTy
  | .hbm, ⟨0, _⟩ => ⟨S1x16x2048, .f32⟩
  | .hbm, ⟨1, _⟩ => ⟨S1x16x2048, .f32⟩
  | .hbm, ⟨2, _⟩ => ⟨S1x16x2048, .f32⟩
  | .hbm, ⟨3, _⟩ => ⟨S8x16x2048, .f32⟩
  | .hbm, ⟨4, _⟩ => ⟨S_, .f32⟩
  | .hbm, ⟨5, _⟩ => ⟨S16x2048, .f32⟩
  | .hbm, ⟨6, _⟩ => ⟨S1x16x2048, .f32⟩
  | .hbm, ⟨7, _⟩ => ⟨S_, .f32⟩
  | .hbm, ⟨8, _⟩ => ⟨S1x16x2048, .f32⟩
  | .hbm, ⟨9, _⟩ => ⟨S1x16x2048, .f32⟩
  | .hbm, ⟨10, _⟩ => ⟨S_, .f32⟩
  | .hbm, ⟨11, _⟩ => ⟨S1x16x2048, .f32⟩
  | .hbm, ⟨12, _⟩ => ⟨S1x16x2048, .f32⟩
  | .hbm, ⟨13, _⟩ => ⟨S1x16x2048, .f32⟩
  | .hbm, ⟨14, _⟩ => ⟨S_, .f32⟩
  | .hbm, ⟨15, _⟩ => ⟨S1x16x2048, .f32⟩
  | .hbm, ⟨16, _⟩ => ⟨S1x16x2048, .f32⟩
  | .hbm, ⟨17, _⟩ => ⟨S1x16x2048, .f32⟩
  | .hbm, ⟨18, _⟩ => ⟨S_, .f32⟩
  | .hbm, ⟨19, _⟩ => ⟨S1x16x2048, .f32⟩
  | .hbm, ⟨20, _⟩ => ⟨S1x16x2048, .f32⟩
  | .hbm, ⟨21, _⟩ => ⟨S1x16x2048, .f32⟩
  | .hbm, ⟨22, _⟩ => ⟨S_, .f32⟩
  | .hbm, ⟨23, _⟩ => ⟨S1x16x2048, .f32⟩
  | .hbm, ⟨24, _⟩ => ⟨S1x16x2048, .f32⟩
  | .hbm, ⟨25, _⟩ => ⟨S_, .f32⟩
  | .hbm, ⟨26, _⟩ => ⟨S1x16x2048, .f32⟩
  | .hbm, ⟨27, _⟩ => ⟨S1x16x2048, .f32⟩
  | .hbm, ⟨28, _⟩ => ⟨S1x16x2048, .f32⟩
  | .hbm, ⟨29, _⟩ => ⟨S_, .f32⟩
  | .hbm, ⟨30, _⟩ => ⟨S1x16x2048, .f32⟩
  | .hbm, ⟨31, _⟩ => ⟨S1x16x2048, .f32⟩
  | .hbm, ⟨32, _⟩ => ⟨S1x16x2048, .f32⟩
  | .hbm, ⟨33, _⟩ => ⟨S_, .f32⟩
  | .hbm, ⟨34, _⟩ => ⟨S1x16x2048, .f32⟩
  | .hbm, ⟨35, _⟩ => ⟨S1x16x2048, .f32⟩
  | .hbm, ⟨36, _⟩ => ⟨S1x16x2048, .f32⟩
  | .hbm, ⟨37, _⟩ => ⟨S_, .f32⟩
  | .hbm, ⟨38, _⟩ => ⟨S1x16x2048, .f32⟩
  | .hbm, ⟨39, _⟩ => ⟨S1x16x2048, .f32⟩
  | _, _ => ⟨S1x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel11.lean ====
abbrev S2x256x2048 : Shape := ⟨3, ![2, 256, 2048]⟩
abbrev S8x256x2048 : Shape := ⟨3, ![8, 256, 2048]⟩
abbrev S1x128x2048 : Shape := ⟨3, ![1, 128, 2048]⟩
abbrev S8x128x2048 : Shape := ⟨3, ![8, 128, 2048]⟩
abbrev S128x2048 : Shape := ⟨2, ![128, 2048]⟩

abbrev nBuf : Space → Nat
  | .hbm => 15
  | .vmem => 32
  | .smem => 0
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S8x256x2048, .f32⟩
  | .hbm, ⟨4, _⟩ => ⟨S8x256x2048, .f32⟩
  | .hbm, ⟨5, _⟩ => ⟨S8x256x2048, .bf16⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S2x256x2048, .f32⟩
  | .hbm, ⟨10, _⟩ => ⟨S8x256x2048, .bf16⟩
  | .hbm, ⟨11, _⟩ => ⟨S2x256x2048, .f32⟩
  | .hbm, ⟨12, _⟩ => ⟨S2x256x2048, .f32⟩
  | .hbm, ⟨13, _⟩ => ⟨S2x256x2048, .f32⟩
  | .hbm, ⟨14, _⟩ => ⟨S2x256x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S8x128x2048, .bf16⟩
  | .local _ .vmem, ⟨7, _⟩ => ⟨S8x128x2048, .bf16⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | .local _ .vmem, ⟨22, _⟩ => ⟨S8x128x2048, .bf16⟩
  | .local _ .vmem, ⟨23, _⟩ => ⟨S8x128x2048, .bf16⟩
  | .local _ .vmem, ⟨24, _⟩ => ⟨S1x128x2048, .f32⟩
  | .local _ .vmem, ⟨25, _⟩ => ⟨S1x128x2048, .f32⟩
  | .local _ .vmem, ⟨26, _⟩ => ⟨S1x128x2048, .f32⟩
  | .local _ .vmem, ⟨27, _⟩ => ⟨S1x128x2048, .f32⟩
  | .local _ .vmem, ⟨28, _⟩ => ⟨S1x128x2048, .f32⟩
  | .local _ .vmem, ⟨29, _⟩ => ⟨S1x128x2048, .f32⟩
  | .local _ .vmem, ⟨30, _⟩ => ⟨S1x128x2048, .f32⟩
  | .local _ .vmem, ⟨31, _⟩ => ⟨S1x128x2048, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x128x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference11Ideal.lean ====
abbrev S2x256x2048 : Shape := ⟨3, ![2, 256, 2048]⟩
abbrev S8x256x2048 : Shape := ⟨3, ![8, 256, 2048]⟩
abbrev S_ : Shape := ⟨0, ![]⟩
abbrev S256x2048 : Shape := ⟨2, ![256, 2048]⟩
abbrev S1x256x2048 : Shape := ⟨3, ![1, 256, 2048]⟩

abbrev nBuf : Space → Nat
  | .hbm => 45
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S8x256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S1x256x2048, .f32⟩
  | .hbm, ⟨10, _⟩ => ⟨S1x256x2048, .f32⟩
  | .hbm, ⟨11, _⟩ => ⟨S2x256x2048, .f32⟩
  | .hbm, ⟨12, _⟩ => ⟨S_, .f32⟩
  | .hbm, ⟨13, _⟩ => ⟨S2x256x2048, .f32⟩
  | .hbm, ⟨14, _⟩ => ⟨S2x256x2048, .f32⟩
  | .hbm, ⟨15, _⟩ => ⟨S_, .f32⟩
  | .hbm, ⟨16, _⟩ => ⟨S2x256x2048, .f32⟩
  | .hbm, ⟨17, _⟩ => ⟨S2x256x2048, .f32⟩
  | .hbm, ⟨18, _⟩ => ⟨S2x256x2048, .f32⟩
  | .hbm, ⟨19, _⟩ => ⟨S_, .f32⟩
  | .hbm, ⟨20, _⟩ => ⟨S2x256x2048, .f32⟩
  | .hbm, ⟨21, _⟩ => ⟨S2x256x2048, .f32⟩
  | .hbm, ⟨22, _⟩ => ⟨S2x256x2048, .f32⟩
  | .hbm, ⟨23, _⟩ => ⟨S_, .f32⟩
  | .hbm, ⟨24, _⟩ => ⟨S2x256x2048, .f32⟩
  | .hbm, ⟨25, _⟩ => ⟨S2x256x2048, .f32⟩
  | .hbm, ⟨26, _⟩ => ⟨S2x256x2048, .f32⟩
  | .hbm, ⟨27, _⟩ => ⟨S_, .f32⟩
  | .hbm, ⟨28, _⟩ => ⟨S2x256x2048, .f32⟩
  | .hbm, ⟨29, _⟩ => ⟨S2x256x2048, .f32⟩
  | .hbm, ⟨30, _⟩ => ⟨S_, .f32⟩
  | .hbm, ⟨31, _⟩ => ⟨S2x256x2048, .f32⟩
  | .hbm, ⟨32, _⟩ => ⟨S2x256x2048, .f32⟩
  | .hbm, ⟨33, _⟩ => ⟨S2x256x2048, .f32⟩
  | .hbm, ⟨34, _⟩ => ⟨S_, .f32⟩
  | .hbm, ⟨35, _⟩ => ⟨S2x256x2048, .f32⟩
  | .hbm, ⟨36, _⟩ => ⟨S2x256x2048, .f32⟩
  | .hbm, ⟨37, _⟩ => ⟨S2x256x2048, .f32⟩
  | .hbm, ⟨38, _⟩ => ⟨S_, .f32⟩
  | .hbm, ⟨39, _⟩ => ⟨S2x256x2048, .f32⟩
  | .hbm, ⟨40, _⟩ => ⟨S2x256x2048, .f32⟩
  | .hbm, ⟨41, _⟩ => ⟨S2x256x2048, .f32⟩
  | .hbm, ⟨42, _⟩ => ⟨S_, .f32⟩
  | .hbm, ⟨43, _⟩ => ⟨S2x256x2048, .f32⟩
  | .hbm, ⟨44, _⟩ => ⟨S2x256x2048, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel12.lean ====
abbrev S2x512x2048 : Shape := ⟨3, ![2, 512, 2048]⟩
abbrev S8x512x2048 : Shape := ⟨3, ![8, 512, 2048]⟩
abbrev S1x128x2048 : Shape := ⟨3, ![1, 128, 2048]⟩
abbrev S8x128x2048 : Shape := ⟨3, ![8, 128, 2048]⟩
abbrev S128x2048 : Shape := ⟨2, ![128, 2048]⟩

abbrev nBuf : Space → Nat
  | .hbm => 15
  | .vmem => 32
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S8x512x2048, .f32⟩
  | .hbm, ⟨4, _⟩ => ⟨S8x512x2048, .f32⟩
  | .hbm, ⟨5, _⟩ => ⟨S8x512x2048, .bf16⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S2x512x2048, .f32⟩
  | .hbm, ⟨10, _⟩ => ⟨S8x512x2048, .bf16⟩
  | .hbm, ⟨11, _⟩ => ⟨S2x512x2048, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S8x128x2048, .bf16⟩
  | .local _ .vmem, ⟨7, _⟩ => ⟨S8x128x2048, .bf16⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | .local _ .vmem, ⟨22, _⟩ => ⟨S8x128x2048, .bf16⟩
  | .local _ .vmem, ⟨23, _⟩ => ⟨S8x128x2048, .bf16⟩
  | .local _ .vmem, ⟨24, _⟩ => ⟨S1x128x2048, .f32⟩
  | .local _ .vmem, ⟨25, _⟩ => ⟨S1x128x2048, .f32⟩
  | .local _ .vmem, ⟨26, _⟩ => ⟨S1x128x2048, .f32⟩
  | .local _ .vmem, ⟨27, _⟩ => ⟨S1x128x2048, .f32⟩
  | .local _ .vmem, ⟨28, _⟩ => ⟨S1x128x2048, .f32⟩
  | .local _ .vmem, ⟨29, _⟩ => ⟨S1x128x2048, .f32⟩
  | .local _ .vmem, ⟨30, _⟩ => ⟨S1x128x2048, .f32⟩
  | .local _ .vmem, ⟨31, _⟩ => ⟨S1x128x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x128x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference12Ideal.lean ====
abbrev S2x512x2048 : Shape := ⟨3, ![2, 512, 2048]⟩
abbrev S8x512x2048 : Shape := ⟨3, ![8, 512, 2048]⟩
abbrev S_ : Shape := ⟨0, ![]⟩
abbrev S512x2048 : Shape := ⟨2, ![512, 2048]⟩
abbrev S1x512x2048 : Shape := ⟨3, ![1, 512, 2048]⟩

abbrev nBuf : Space → Nat
  | .hbm => 45
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S8x512x2048, .f32⟩
  | .hbm, ⟨4, _⟩ => ⟨S8x512x2048, .f32⟩
  | .hbm, ⟨5, _⟩ => ⟨S_, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S1x512x2048, .f32⟩
  | .hbm, ⟨10, _⟩ => ⟨S1x512x2048, .f32⟩
  | .hbm, ⟨11, _⟩ => ⟨S2x512x2048, .f32⟩
  | .hbm, ⟨12, _⟩ => ⟨S_, .f32⟩
  | .hbm, ⟨13, _⟩ => ⟨S2x512x2048, .f32⟩
  | .hbm, ⟨14, _⟩ => ⟨S2x512x2048, .f32⟩
  | .hbm, ⟨15, _⟩ => ⟨S_, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S2x512x2048, .f32⟩
  | .hbm, ⟨23, _⟩ => ⟨S_, .f32⟩
  | .hbm, ⟨24, _⟩ => ⟨S2x512x2048, .f32⟩
  | .hbm, ⟨25, _⟩ => ⟨S2x512x2048, .f32⟩
  | .hbm, ⟨26, _⟩ => ⟨S2x512x2048, .f32⟩
  | .hbm, ⟨27, _⟩ => ⟨S_, .f32⟩
  | .hbm, ⟨28, _⟩ => ⟨S2x512x2048, .f32⟩
  | .hbm, ⟨29, _⟩ => ⟨S2x512x2048, .f32⟩
  | .hbm, ⟨30, _⟩ => ⟨S_, .f32⟩
  | .hbm, ⟨31, _⟩ => ⟨S2x512x2048, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | .hbm, ⟨37, _⟩ => ⟨S2x512x2048, .f32⟩
  | .hbm, ⟨38, _⟩ => ⟨S_, .f32⟩
  | .hbm, ⟨39, _⟩ => ⟨S2x512x2048, .f32⟩
  | .hbm, ⟨40, _⟩ => ⟨S2x512x2048, .f32⟩
  | .hbm, ⟨41, _⟩ => ⟨S2x512x2048, .f32⟩
  | .hbm, ⟨42, _⟩ => ⟨S_, .f32⟩
  | .hbm, ⟨43, _⟩ => ⟨S2x512x2048, .f32⟩
  | .hbm, ⟨44, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel13.lean ====
abbrev S2x31x256 : Shape := ⟨3, ![2, 31, 256]⟩
abbrev S8x31x256 : Shape := ⟨3, ![8, 31, 256]⟩
abbrev S1x31x256 : Shape := ⟨3, ![1, 31, 256]⟩
abbrev S31x256 : Shape := ⟨2, ![31, 256]⟩

abbrev nBuf : Space → Nat
  | .hbm => 13
  | .vmem => 16
  | .smem => 0
  | _ => 0

abbrev bufTy : (tb : Table) → Fin (tcTables nBuf tb) → BufTy
  | .hbm, ⟨0, _⟩ => ⟨S2x31x256, .f32⟩
  | .hbm, ⟨1, _⟩ => ⟨S2x31x256, .f32⟩
  | .hbm, ⟨2, _⟩ => ⟨S2x31x256, .f32⟩
  | .hbm, ⟨3, _⟩ => ⟨S8x31x256, .f32⟩
  | .hbm, ⟨4, _⟩ => ⟨S8x31x256, .f32⟩
  | .hbm, ⟨5, _⟩ => ⟨S2x31x256, .f32⟩
  | .hbm, ⟨6, _⟩ => ⟨S2x31x256, .f32⟩
  | .hbm, ⟨7, _⟩ => ⟨S2x31x256, .f32⟩
  | .hbm, ⟨8, _⟩ => ⟨S2x31x256, .f32⟩
  | .hbm, ⟨9, _⟩ => ⟨S2x31x256, .f32⟩
  | .hbm, ⟨10, _⟩ => ⟨S2x31x256, .f32⟩
  | .hbm, ⟨11, _⟩ => ⟨S2x31x256, .f32⟩
  | .hbm, ⟨12, _⟩ => ⟨S2x31x256, .f32⟩
  | .local _ .vmem, ⟨0, _⟩ => ⟨S1x31x256, .f32⟩
  | .local _ .vmem, ⟨1, _⟩ => ⟨S1x31x256, .f32⟩
  | .local _ .vmem, ⟨2, _⟩ => ⟨S1x31x256, .f32⟩
  | .local _ .vmem, ⟨3, _⟩ => ⟨S8x31x256, .f32⟩
  | .local _ .vmem, ⟨4, _⟩ => ⟨S1x31x256, .f32⟩
  | .local _ .vmem, ⟨5, _⟩ => ⟨S1x31x256, .f32⟩
  | .local _ .vmem, ⟨6, _⟩ => ⟨S1x31x256, .f32⟩
  | .local _ .vmem, ⟨7, _⟩ => ⟨S1x31x256, .f32⟩
  | .local _ .vmem, ⟨8, _⟩ => ⟨S1x31x256, .f32⟩
  | .local _ .vmem, ⟨9, _⟩ => ⟨S1x31x256, .f32⟩
  | .local _ .vmem, ⟨10, _⟩ => ⟨S1x31x256, .f32⟩
  | .local _ .vmem, ⟨11, _⟩ => ⟨S8x31x256, .f32⟩
  | .local _ .vmem, ⟨12, _⟩ => ⟨S1x31x256, .f32⟩
  | .local _ .vmem, ⟨13, _⟩ => ⟨S1x31x256, .f32⟩
  | .local _ .vmem, ⟨14, _⟩ => ⟨S1x31x256, .f32⟩
  | .local _ .vmem, ⟨15, _⟩ => ⟨S1x31x256, .f32⟩
  | _, _ => ⟨S2x31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x31x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x31x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x31x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x31x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x31x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S1x31x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x31x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x31x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S8x31x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x31x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x31x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x31x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x31x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== Reference13Ideal.lean ====
abbrev S2x31x256 : Shape := ⟨3, ![2, 31, 256]⟩
abbrev S8x31x256 : Shape := ⟨3, ![8, 31, 256]⟩
abbrev S_ : Shape := ⟨0, ![]⟩
abbrev S31x256 : Shape := ⟨2, ![31, 256]⟩
abbrev S1x31x256 : Shape := ⟨3, ![1, 31, 256]⟩

abbrev nBuf : Space → Nat
  | .hbm => 45
  | .vmem => 0
  | .smem => 0
  | _ => 0

abbrev bufTy : (tb : Table) → Fin (tcTables nBuf tb) → BufTy
  | .hbm, ⟨0, _⟩ => ⟨S2x31x256, .f32⟩
  | .hbm, ⟨1, _⟩ => ⟨S2x31x256, .f32⟩
  | .hbm, ⟨2, _⟩ => ⟨S2x31x256, .f32⟩
  | .hbm, ⟨3, _⟩ => ⟨S8x31x256, .f32⟩
  | .hbm, ⟨4, _⟩ => ⟨S8x31x256, .f32⟩
  | .hbm, ⟨5, _⟩ => ⟨S_, .f32⟩
  | .hbm, ⟨6, _⟩ => ⟨S31x256, .f32⟩
  | .hbm, ⟨7, _⟩ => ⟨S_, .f32⟩
  | .hbm, ⟨8, _⟩ => ⟨S31x256, .f32⟩
  | .hbm, ⟨9, _⟩ => ⟨S1x31x256, .f32⟩
  | .hbm, ⟨10, _⟩ => ⟨S1x31x256, .f32⟩
  | .hbm, ⟨11, _⟩ => ⟨S2x31x256, .f32⟩
  | .hbm, ⟨12, _⟩ => ⟨S_, .f32⟩
  | .hbm, ⟨13, _⟩ => ⟨S2x31x256, .f32⟩
  | .hbm, ⟨14, _⟩ => ⟨S2x31x256, .f32⟩
  | .hbm, ⟨15, _⟩ => ⟨S_, .f32⟩
  | .hbm, ⟨16, _⟩ => ⟨S2x31x256, .f32⟩
  | .hbm, ⟨17, _⟩ => ⟨S2x31x256, .f32⟩
  | .hbm, ⟨18, _⟩ => ⟨S2x31x256, .f32⟩
  | .hbm, ⟨19, _⟩ => ⟨S_, .f32⟩
  | .hbm, ⟨20, _⟩ => ⟨S2x31x256, .f32⟩
  | .hbm, ⟨21, _⟩ => ⟨S2x31x256, .f32⟩
  | .hbm, ⟨22, _⟩ => ⟨S2x31x256, .f32⟩
  | .hbm, ⟨23, _⟩ => ⟨S_, .f32⟩
  | .hbm, ⟨24, _⟩ => ⟨S2x31x256, .f32⟩
  | .hbm, ⟨25, _⟩ => ⟨S2x31x256, .f32⟩
  | .hbm, ⟨26, _⟩ => ⟨S2x31x256, .f32⟩
  | .hbm, ⟨27, _⟩ => ⟨S_, .f32⟩
  | .hbm, ⟨28, _⟩ => ⟨S2x31x256, .f32⟩
  | .hbm, ⟨29, _⟩ => ⟨S2x31x256, .f32⟩
  | .hbm, ⟨30, _⟩ => ⟨S_, .f32⟩
  | .hbm, ⟨31, _⟩ => ⟨S2x31x256, .f32⟩
  | .hbm, ⟨32, _⟩ => ⟨S2x31x256, .f32⟩
  | .hbm, ⟨33, _⟩ => ⟨S2x31x256, .f32⟩
  | .hbm, ⟨34, _⟩ => ⟨S_, .f32⟩
  | .hbm, ⟨35, _⟩ => ⟨S2x31x256, .f32⟩
  | .hbm, ⟨36, _⟩ => ⟨S2x31x256, .f32⟩
  | .hbm, ⟨37, _⟩ => ⟨S2x31x256, .f32⟩
  | .hbm, ⟨38, _⟩ => ⟨S_, .f32⟩
  | .hbm, ⟨39, _⟩ => ⟨S2x31x256, .f32⟩
  | .hbm, ⟨40, _⟩ => ⟨S2x31x256, .f32⟩
  | .hbm, ⟨41, _⟩ => ⟨S2x31x256, .f32⟩
  | .hbm, ⟨42, _⟩ => ⟨S_, .f32⟩
  | .hbm, ⟨43, _⟩ => ⟨S2x31x256, .f32⟩
  | .hbm, ⟨44, _⟩ => ⟨S2x31x256, .f32⟩
  | _, _ => ⟨S2x31x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel14.lean ====
abbrev S2x2048x1792 : Shape := ⟨3, ![2, 2048, 1792]⟩
abbrev S4x2048x1792 : Shape := ⟨3, ![4, 2048, 1792]⟩
abbrev S8x2048x1792 : Shape := ⟨3, ![8, 2048, 1792]⟩
abbrev S1x128x1792 : Shape := ⟨3, ![1, 128, 1792]⟩
abbrev S8x128x1792 : Shape := ⟨3, ![8, 128, 1792]⟩
abbrev S128x1792 : Shape := ⟨2, ![128, 1792]⟩
abbrev S4x128x1792 : Shape := ⟨3, ![4, 128, 1792]⟩

abbrev nBuf : Space → Nat
  | .hbm => 15
  | .vmem => 32
  | .smem => 0
  | _ => 0

abbrev bufTy : (tb : Table) → Fin (tcTables nBuf tb) → BufTy
  | .hbm, ⟨0, _⟩ => ⟨S2x2048x1792, .f32⟩
  | .hbm, ⟨1, _⟩ => ⟨S2x2048x1792, .f32⟩
  | .hbm, ⟨2, _⟩ => ⟨S2x2048x1792, .f32⟩
  | .hbm, ⟨3, _⟩ => ⟨S4x2048x1792, .f32⟩
  | .hbm, ⟨4, _⟩ => ⟨S8x2048x1792, .f32⟩
  | .hbm, ⟨5, _⟩ => ⟨S8x2048x1792, .bf16⟩
  | .hbm, ⟨6, _⟩ => ⟨S2x2048x1792, .f32⟩
  | .hbm, ⟨7, _⟩ => ⟨S2x2048x1792, .f32⟩
  | .hbm, ⟨8, _⟩ => ⟨S2x2048x1792, .f32⟩
  | .hbm, ⟨9, _⟩ => ⟨S2x2048x1792, .f32⟩
  | .hbm, ⟨10, _⟩ => ⟨S4x2048x1792, .bf16⟩
  | .hbm, ⟨11, _⟩ => ⟨S2x2048x1792, .f32⟩
  | .hbm, ⟨12, _⟩ => ⟨S2x2048x1792, .f32⟩
  | .hbm, ⟨13, _⟩ => ⟨S2x2048x1792, .f32⟩
  | .hbm, ⟨14, _⟩ => ⟨S2x2048x1792, .f32⟩
  | .local _ .vmem, ⟨0, _⟩ => ⟨S1x128x1792, .f32⟩
  | .local _ .vmem, ⟨1, _⟩ => ⟨S1x128x1792, .f32⟩
  | .local _ .vmem, ⟨2, _⟩ => ⟨S1x128x1792, .f32⟩
  | .local _ .vmem, ⟨3, _⟩ => ⟨S1x128x1792, .f32⟩
  | .local _ .vmem, ⟨4, _⟩ => ⟨S1x128x1792, .f32⟩
  | .local _ .vmem, ⟨5, _⟩ => ⟨S1x128x1792, .f32⟩
  | .local _ .vmem, ⟨6, _⟩ => ⟨S8x128x1792, .bf16⟩
  | .local _ .vmem, ⟨7, _⟩ => ⟨S8x128x1792, .bf16⟩
  | .local _ .vmem, ⟨8, _⟩ => ⟨S1x128x1792, .f32⟩
  | .local _ .vmem, ⟨9, _⟩ => ⟨S1x128x1792, .f32⟩
  | .local _ .vmem, ⟨10, _⟩ => ⟨S1x128x1792, .f32⟩
  | .local _ .vmem, ⟨11, _⟩ => ⟨S1x128x1792, .f32⟩
  | .local _ .vmem, ⟨12, _⟩ => ⟨S1x128x1792, .f32⟩
  | .local _ .vmem, ⟨13, _⟩ => ⟨S1x128x1792, .f32⟩
  | .local _ .vmem, ⟨14, _⟩ => ⟨S1x128x1792, .f32⟩
  | .local _ .vmem, ⟨15, _⟩ => ⟨S1x128x1792, .f32⟩
  | .local _ .vmem, ⟨16, _⟩ => ⟨S1x128x1792, .f32⟩
  | .local _ .vmem, ⟨17, _⟩ => ⟨S1x128x1792, .f32⟩
  | .local _ .vmem, ⟨18, _⟩ => ⟨S1x128x1792, .f32⟩
  | .local _ .vmem, ⟨19, _⟩ => ⟨S1x128x1792, .f32⟩
  | .local _ .vmem, ⟨20, _⟩ => ⟨S1x128x1792, .f32⟩
  | .local _ .vmem, ⟨21, _⟩ => ⟨S1x128x1792, .f32⟩
  | .local _ .vmem, ⟨22, _⟩ => ⟨S4x128x1792, .bf16⟩
  | .local _ .vmem, ⟨23, _⟩ => ⟨S4x128x1792, .bf16⟩
  | .local _ .vmem, ⟨24, _⟩ => ⟨S1x128x1792, .f32⟩
  | .local _ .vmem, ⟨25, _⟩ => ⟨S1x128x1792, .f32⟩
  | .local _ .vmem, ⟨26, _⟩ => ⟨S1x128x1792, .f32⟩
  | .local _ .vmem, ⟨27, _⟩ => ⟨S1x128x1792, .f32⟩
  | .local _ .vmem, ⟨28, _⟩ => ⟨S1x128x1792, .f32⟩
  | .local _ .vmem, ⟨29, _⟩ => ⟨S1x128x1792, .f32⟩
  | .local _ .vmem, ⟨30, _⟩ => ⟨S1x128x1792, .f32⟩
  | .local _ .vmem, ⟨31, _⟩ => ⟨S1x128x1792, .f32⟩
  | _, _ => ⟨S2x2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x128x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x128x1792 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x1792 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x1792 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x128x1792 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x1792 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x1792 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x1792 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x1792 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference14Ideal.lean ====
abbrev S2x2048x1792 : Shape := ⟨3, ![2, 2048, 1792]⟩
abbrev S4x2048x1792 : Shape := ⟨3, ![4, 2048, 1792]⟩
abbrev S8x2048x1792 : Shape := ⟨3, ![8, 2048, 1792]⟩
abbrev S_ : Shape := ⟨0, ![]⟩
abbrev S2048x1792 : Shape := ⟨2, ![2048, 1792]⟩
abbrev S1x2048x1792 : Shape := ⟨3, ![1, 2048, 1792]⟩

abbrev nBuf : Space → Nat
  | .hbm => 45
  | .vmem => 0
  | .smem => 0
  | _ => 0

abbrev bufTy : (tb : Table) → Fin (tcTables nBuf tb) → BufTy
  | .hbm, ⟨0, _⟩ => ⟨S2x2048x1792, .f32⟩
  | .hbm, ⟨1, _⟩ => ⟨S2x2048x1792, .f32⟩
  | .hbm, ⟨2, _⟩ => ⟨S2x2048x1792, .f32⟩
  | .hbm, ⟨3, _⟩ => ⟨S4x2048x1792, .f32⟩
  | .hbm, ⟨4, _⟩ => ⟨S8x2048x1792, .f32⟩
  | .hbm, ⟨5, _⟩ => ⟨S_, .f32⟩
  | .hbm, ⟨6, _⟩ => ⟨S2048x1792, .f32⟩
  | .hbm, ⟨7, _⟩ => ⟨S_, .f32⟩
  | .hbm, ⟨8, _⟩ => ⟨S2048x1792, .f32⟩
  | .hbm, ⟨9, _⟩ => ⟨S1x2048x1792, .f32⟩
  | .hbm, ⟨10, _⟩ => ⟨S1x2048x1792, .f32⟩
  | .hbm, ⟨11, _⟩ => ⟨S2x2048x1792, .f32⟩
  | .hbm, ⟨12, _⟩ => ⟨S_, .f32⟩
  | .hbm, ⟨13, _⟩ => ⟨S2x2048x1792, .f32⟩
  | .hbm, ⟨14, _⟩ => ⟨S2x2048x1792, .f32⟩
  | .hbm, ⟨15, _⟩ => ⟨S_, .f32⟩
  | .hbm, ⟨16, _⟩ => ⟨S2x2048x1792, .f32⟩
  | .hbm, ⟨17, _⟩ => ⟨S2x2048x1792, .f32⟩
  | .hbm, ⟨18, _⟩ => ⟨S2x2048x1792, .f32⟩
  | .hbm, ⟨19, _⟩ => ⟨S_, .f32⟩
  | .hbm, ⟨20, _⟩ => ⟨S2x2048x1792, .f32⟩
  | .hbm, ⟨21, _⟩ => ⟨S2x2048x1792, .f32⟩
  | .hbm, ⟨22, _⟩ => ⟨S2x2048x1792, .f32⟩
  | .hbm, ⟨23, _⟩ => ⟨S_, .f32⟩
  | .hbm, ⟨24, _⟩ => ⟨S2x2048x1792, .f32⟩
  | .hbm, ⟨25, _⟩ => ⟨S2x2048x1792, .f32⟩
  | .hbm, ⟨26, _⟩ => ⟨S2x2048x1792, .f32⟩
  | .hbm, ⟨27, _⟩ => ⟨S_, .f32⟩
  | .hbm, ⟨28, _⟩ => ⟨S2x2048x1792, .f32⟩
  | .hbm, ⟨29, _⟩ => ⟨S2x2048x1792, .f32⟩
  | .hbm, ⟨30, _⟩ => ⟨S_, .f32⟩
  | .hbm, ⟨31, _⟩ => ⟨S2x2048x1792, .f32⟩
  | .hbm, ⟨32, _⟩ => ⟨S2x2048x1792, .f32⟩
  | .hbm, ⟨33, _⟩ => ⟨S2x2048x1792, .f32⟩
  | .hbm, ⟨34, _⟩ => ⟨S_, .f32⟩
  | .hbm, ⟨35, _⟩ => ⟨S2x2048x1792, .f32⟩
  | .hbm, ⟨36, _⟩ => ⟨S2x2048x1792, .f32⟩
  | .hbm, ⟨37, _⟩ => ⟨S2x2048x1792, .f32⟩
  | .hbm, ⟨38, _⟩ => ⟨S_, .f32⟩
  | .hbm, ⟨39, _⟩ => ⟨S2x2048x1792, .f32⟩
  | .hbm, ⟨40, _⟩ => ⟨S2x2048x1792, .f32⟩
  | .hbm, ⟨41, _⟩ => ⟨S2x2048x1792, .f32⟩
  | .hbm, ⟨42, _⟩ => ⟨S_, .f32⟩
  | .hbm, ⟨43, _⟩ => ⟨S2x2048x1792, .f32⟩
  | .hbm, ⟨44, _⟩ => ⟨S2x2048x1792, .f32⟩
  | _, _ => ⟨S2x2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Proof.Band.Runs.lean ====
module

public import proofs.«01_k».proof.Proof.Gen.KernelIdeal.Frame
public import proofs.«01_k».proof.Proof.Gen.KernelIdeal.Skeleton
public import proofs.«01_k».proof.Proof.Gen.KernelIdeal.Points

@[expose] public section

set_option maxRecDepth 16384

noncomputable section

namespace Cert.KernelIdeal.Band

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 33 % 1 := Pipeline.Grid.coords_val t 0 (by decide) rfl
    have e1 : (grid0.coords t 1).val = t.val / 1 % 33 := Pipeline.Grid.coords_val t 1 (by decide) rfl
    simp only [cond0_0, e0, e1]
    word_cmp
   : ∀ t : Fin grid0.N, cond0_0 (grid0.coords t) ↔ t.val % 33 = 0)

/-- The condition of the body's `scf.if` 1 (`k0_h2`), from the grid coordinates (the skeleton's scalar
    chain substituted). -/
abbrev cond0_1 (i : grid0.Coords) : Prop := k0_cond2 i = 1#1
/-- It holds at the points before point 32 — decided over the grid. -/
theorem hcond0_1 : ∀ t : Fin cfg0.N, cond0_1 (grid0.coords t) ↔ t.val < 32 :=
  (by decide +kernel : ∀ t : Fin grid0.N, cond0_1 (grid0.coords t) ↔ t.val < 32)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 33 = 32 :=
  (fun t => by
    have ht : t.val < 33 := Nat.lt_of_lt_of_eq t.isLt N_0
    have e0 : (grid0.coords t 0).val = t.val / 33 % 1 := Pipeline.Grid.coords_val t 0 (by decide) rfl
    have e1 : (grid0.coords t 1).val = t.val / 1 % 33 := Pipeline.Grid.coords_val t 1 (by decide) rfl
    simp only [cond0_2, k0_cond3, e0, e1]
    word_cmp
   : ∀ t : Fin grid0.N, cond0_2 (grid0.coords t) ↔ t.val % 33 = 32)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- At the points of case A the printed configuration (`Cfg.idle`) calls output 8 live: the case stores into it. -/
theorem liveAt0_8_A : ∀ t : Fin cfg0.N, cond0_0 (grid0.coords t) → cond0_1 (grid0.coords t) → ¬cond0_2 (grid0.coords t) → cfg0.idle 8 (grid0.coords t) = false := by decide +kernel
/-- At the points of case B the printed configuration (`Cfg.idle`) calls output 8 live: the case stores into it. -/
theorem liveAt0_8_B : ∀ t : Fin cfg0.N, ¬cond0_0 (grid0.coords t) → cond0_1 (grid0.coords t) → ¬cond0_2 (grid0.coords t) → cfg0.idle 8 (grid0.coords t) = false := by decide +kernel
/-- At the points of case C output 8 is idle: the case stores nothing into it. -/
theorem idleAt0_8_C : ∀ t : Fin cfg0.N, ¬cond0_0 (grid0.coords t) → ¬cond0_1 (grid0.coords t) → cond0_2 (grid0.coords t) → cfg0.idle 8 (grid0.coords t) = true := by decide +kernel
/-- At the points of case A the printed configuration (`Cfg.idle`) calls output 9 live: the case stores into it. -/
theorem liveAt0_9_A : ∀ t : Fin cfg0.N, cond0_0 (grid0.coords t) → cond0_1 (grid0.coords t) → ¬cond0_2 (grid0.coords t) → cfg0.idle 9 (grid0.coords t) = false := by decide +kernel
/-- At the points of case B the printed configuration (`Cfg.idle`) calls output 9 live: the case stores into it. -/
theorem liveAt0_9_B : ∀ t : Fin cfg0.N, ¬cond0_0 (grid0.coords t) → cond0_1 (grid0.coords t) → ¬cond0_2 (grid0.coords t) → cfg0.idle 9 (grid0.coords t) = false := by decide +kernel
/-- At the points of case C the printed configuration (`Cfg.idle`) calls output 9 live: the case stores into it. -/
theorem liveAt0_9_C : ∀ t : Fin cfg0.N, ¬cond0_0 (grid0.coords t) → ¬cond0_1 (grid0.coords t) → cond0_2 (grid0.coords t) → cfg0.idle 9 (grid0.coords t) = false := by decide +kernel
/-- At the points of case A the printed configuration (`Cfg.idle`) calls output 10 live: the case stores into it. -/
theorem liveAt0_10_A : ∀ t : Fin cfg0.N, cond0_0 (grid0.coords t) → cond0_1 (grid0.coords t) → ¬cond0_2 (grid0.coords t) → cfg0.idle 10 (grid0.coords t) = false := by decide +kernel
/-- At the points of case B the printed configuration (`Cfg.idle`) calls output 10 live: the case stores into it. -/
theorem liveAt0_10_B : ∀ t : Fin cfg0.N, ¬cond0_0 (grid0.coords t) → cond0_1 (grid0.coords t) → ¬cond0_2 (grid0.coords t) → cfg0.idle 10 (grid0.coords t) = false := by decide +kernel
/-- At the points of case C the printed configuration (`Cfg.idle`) calls output 10 live: the case stores into it. -/
theorem liveAt0_10_C : ∀ t : Fin cfg0.N, ¬cond0_0 (grid0.coords t) → ¬cond0_1 (grid0.coords t) → cond0_2 (grid0.coords t) → cfg0.idle 10 (grid0.coords t) = false := by decide +kernel

/-! ## The kernel body on any staging memrefs: a subtype the run finds -/

/-- Each window's current staging memref at point `t`, spelled as the pipeline passes it (`bodyAt0`), and its wholeness. -/
abbrev ms0_0 (t : Fin cfg0.N) : Memref sig .tc .vmem S128x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x16 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x16 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x2048 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x2048 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x2048 .bf16 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S128x2048 .f32 := Memref.whole cc0_scratch0
abbrev scM0_1 : Memref sig .tc .vmem S128x2048 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Band

end
-- ==== Proof.Band.Head.lean ====
module

public import proofs.«01_k».proof.Proof.Band.Runs
public import Idealize.ShloMosaic.Lib.Pipeline.ReadBack

@[expose] public section

set_option maxRecDepth 16384

noncomputable section

namespace Cert.KernelIdeal.Band

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! What the body computes for one head, and for a block of sixteen heads. -/

/-- The columns of head `h`. -/
abbrev cols (h : Fin 16) : Rect S128x2048 :=
  Rect.unit (s := S128x2048) ![0, 128 * h.val] S128x128.size (fun a => by
    have := h.isLt
    match a with
    | 0 => exact (by decide : 0 + 128 ≤ 128)
    | 1 => show 128 * h.val + 128 ≤ 2048; omega)

/-- The column of head `h` among the row statistics. -/
abbrev stat (h : Fin 16) : Rect S1x128x16 :=
  Rect.unit (s := S1x128x16) ![0, 0, h.val] S1x128x1.size (fun a => by
    have := h.isLt
    match a with
    | 0 => exact (by decide : 0 + 1 ≤ 1)
    | 1 => exact (by decide : 0 + 128 ≤ 128)
    | 2 => show h.val + 1 ≤ 16; omega)

/-- A block of heads side by side from each head's block. -/
def heads {α : Type} (f : Fin 16 → S128x128.Idx → α) : S128x2048.Idx → α := fun y =>
  f ⟨(y 1).val / 128, by have h : (y 1).val < 2048 := (y 1).isLt; omega⟩
    (fun a => match a with
      | 0 => ⟨(y 0).val, (y 0).isLt⟩
      | 1 => ⟨(y 1).val % 128, Nat.mod_lt _ (by decide)⟩)

/-- Under head `h`'s columns the block of heads is that head's block. -/
theorem heads_cols {α : Type} (f : Fin 16 → S128x128.Idx → α) (h : Fin 16) (x : S128x128.Idx) :
    heads f ((cols h).emb x) = f h x := by
  have h1 : (((cols h).emb x) 1).val = 128 * h.val + 1 * (x 1).val := rfl
  have h0 : (((cols h).emb x) 0).val = 0 + 1 * (x 0).val := rfl
  have hx : (x 1).val < 128 := (x 1).isLt
  unfold heads
  refine congr (congrArg f ?_) ?_
  · exact (Fin.ext (by show (((cols h).emb x) 1).val / 128 = h.val; rw [h1]; omega))
  · funext a
    match a with
    | 0 => exact Fin.ext (by show (((cols h).emb x) 0).val = (x 0).val; rw [h0]; omega)
    | 1 => exact Fin.ext (by show (((cols h).emb x) 1).val % 128 = (x 1).val; rw [h1]; omega)

/-- A block written under head `h`'s columns is a block of the heads. -/
theorem piece {α : Type} (G : Fin 16 → S128x128.Idx → α) (h : Fin 16) (w : S128x128.Idx → α) (hw : w = G h) (x : S128x128.Idx) :
    w x = heads G ((cols h).emb x) := by rw [heads_cols, hw]

/-- A buffer filled piece by piece, each piece a block of heads', holds the block of heads. -/
theorem read_heads {sp : Space} {e : EltTy} (v : View sig .tc sp S128x2048 e) (f : v.ty.Contents (Elt F)) (L : List (View.Piece (Elt F) S128x2048 e))
    (G : Fin 16 → S128x128.Idx → Elt F e) (hp : View.PiecesOf (heads G) L) (hc : ∀ y, ∃ p ∈ L, y ∈ p.1.set) :
    v.read (Elt F) (v.writes (Elt F) f L) = heads G :=
  funext fun y => View.read_writes_apply_of_pieces v f (heads G) L hp.mem y (hc y)

/-- The same where the last sixteen stores are the heads' and earlier ones are covered by them. -/
theorem read_heads_fill {sp : Space} {e : EltTy} (v : View sig .tc sp S128x2048 e) (f : v.ty.Contents (Elt F)) (L : List (View.Piece (Elt F) S128x2048 e))
    (G : Fin 16 → S128x128.Idx → Elt F e) (hp : View.PiecesOf (heads G) (L.take 16)) (hc : ∀ y, ∃ p ∈ L.take 16, y ∈ p.1.set) :
    v.read (Elt F) (v.writes (Elt F) f L) = heads G := by
  rw [← List.take_append_drop 16 L, View.writes_append]
  exact read_heads v _ _ G hp hc

variable (k : IVec S128x256 1)
variable (x0 x1 x2 x3 x4 x5 : Vec F S128x2048 .bf16) (x6 x7 : Vec F S1x128x16 .f32)

/-- The weights of head `h`. -/
def wH (h : Fin 16) : FVec F S128x256 .f32 :=
  k0_pay11 k (View.ld x0 (cols h)) (View.ld x1 (cols h)) (View.ld x2 (cols h)) (View.ld x6 (stat h))

/-- The gradient of head `h`'s scores. -/
def sH (h : Fin 16) : FVec F S128x256 .bf16 :=
  k0_pay12 k (View.ld x0 (cols h)) (View.ld x5 (cols h)) (View.ld x1 (cols h)) (View.ld x2 (cols h))
    (View.ld x3 (cols h)) (View.ld x4 (cols h)) (View.ld x6 (stat h)) (View.ld x7 (stat h))

/-- Head `h`'s block of the gradient of the queries. -/
def dqH (h : Fin 16) : FVec F S128x128 .bf16 :=
  k0_pay14 (k0_pay13 k (View.ld x0 (cols h)) (View.ld x5 (cols h)) (View.ld x1 (cols h)) (View.ld x2 (cols h))
    (View.ld x3 (cols h)) (View.ld x4 (cols h)) (View.ld x6 (stat h)) (View.ld x7 (stat h)))

/-- Head `h`'s block of the gradient of the keys before this one, over what is carried. -/
def dkH (y : Vec F S128x2048 .f32) (h : Fin 16) : FVec F S128x128 .bf16 :=
  k0_pay17 (k0_pay8 (View.ld x0 (cols h))) (sH k x0 x1 x2 x3 x4 x5 x6 x7 h) (View.ld y (cols h))

/-- Head `h`'s block of the gradient of the values before this one, over what is carried. -/
def dvH (y : Vec F S128x2048 .f32) (h : Fin 16) : FVec F S128x128 .bf16 :=
  k0_pay18 (k0_pay9 (View.ld x5 (cols h))) (wH k x0 x1 x2 x6 h) (View.ld y (cols h))

/-- Head `h`'s block of this point's part of the gradient of the keys. -/
def ckH (h : Fin 16) : FVec F S128x128 .f32 :=
  k0_pay19 (k0_pay8 (View.ld x0 (cols h))) (sH k x0 x1 x2 x3 x4 x5 x6 x7 h)

/-- Head `h`'s block of this point's part of the gradient of the values. -/
def cvH (h : Fin 16) : FVec F S128x128 .f32 :=
  k0_pay20 (k0_pay9 (View.ld x5 (cols h))) (wH k x0 x1 x2 x6 h)

end Cert.KernelIdeal.Band

end
-- ==== Proof.Band.RunA.lean ====
module

public import proofs.«01_k».proof.Proof.Band.Head

@[expose] public section

set_option maxRecDepth 16384

noncomputable section

namespace Cert.KernelIdeal.Band

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 6000000 in
/-- The body at a first point: what it leaves in each output and in what it carries. -/
theorem run_A (c : Dev nD) (i : grid0.Coords) (arg2 : Memref sig .tc .vmem S128x2048 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x2048 .bf16) (harg7 : arg7.IsWhole) (arg8 : Memref sig .tc .vmem S1x128x16 .f32) (harg8 : arg8.IsWhole) (arg9 : Memref sig .tc .vmem S1x128x16 .f32) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S128x2048 .bf16) (harg12 : arg12.IsWhole) (arg13 : Memref sig .tc .vmem S128x2048 .f32) (harg13 : arg13.IsWhole) (arg14 : Memref sig .tc .vmem S128x2048 .f32) (harg14 : arg14.IsWhole) (hc0 : cond0_0 i) (hc1 : cond0_1 i) (hc2 : ¬cond0_2 i)
    (x0 : Vec F S128x2048 .bf16) (x1 : Vec F S128x2048 .bf16) (x2 : Vec F S128x2048 .bf16) (x3 : Vec F S128x2048 .bf16) (x4 : Vec F S128x2048 .bf16) (x5 : Vec F S128x2048 .bf16) (x6 : Vec F S1x128x16 .f32) (x7 : Vec F S1x128x16 .f32) :
    ∃ L9 L10 : List (View.Piece (Elt F) S128x2048 .bf16), (∀ y, ∃ p ∈ L9, y ∈ p.1.set) ∧ (∀ y, ∃ p ∈ L10, y ∈ p.1.set) ∧ ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (heads (dqH (k0_pay1 i) x0 x1 x2 x3 x4 x5 x6 x7)) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ owns (c : Thread nD τ) arg13 fullShare (heads (ckH (k0_pay1 i) x0 x1 x2 x3 x4 x5 x6 x7)) ∗ owns (c : Thread nD τ) arg14 fullShare (heads (cvH (k0_pay1 i) x0 x1 x2 x5 x6))) -∗ K ⟨⟩))
          ⊢ wp frame (wpE (defs₀ (F := F)) Variants.none c none) E (cc0_attn_bwd_d1 i arg2 harg2 arg3 harg3 arg4 harg4 arg5 harg5 arg6 harg6 arg7 harg7 arg8 harg8 arg9 harg9 arg10 harg10 arg11 harg11 arg12 harg12 arg13 harg13 arg14 harg14) K := by
  refine ⟨?_, ?_, ?c9, ?c10, fun E K => ?run⟩
  case run =>
    simp only [cc0_attn_bwd_d1_eq_skeleton]; unfold cc0_attn_bwd_d1_skel
    simp only [k0_part28_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; iexact H8
      ipureintro
      refine (read_heads _ _ _ (dqH (k0_pay1 i) (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7))) ?_ ?_).trans ?_
      · refine ⟨?_, ?_, ?_, ?_, ?_, ?_, ?_, ?_, ?_, ?_, ?_, ?_, ?_, ?_, ?_, ?_, trivial⟩
        · exact piece _ ⟨15, by decide⟩ _ rfl
        · exact piece _ ⟨14, by decide⟩ _ rfl
        · exact piece _ ⟨13, by decide⟩ _ rfl
        · exact piece _ ⟨12, by decide⟩ _ rfl
        · exact piece _ ⟨11, by decide⟩ _ rfl
        · exact piece _ ⟨10, by decide⟩ _ rfl
        · exact piece _ ⟨9, by decide⟩ _ rfl
        · exact piece _ ⟨8, by decide⟩ _ rfl
        · exact piece _ ⟨7, by decide⟩ _ rfl
        · exact piece _ ⟨6, by decide⟩ _ rfl
        · exact piece _ ⟨5, by decide⟩ _ rfl
        · exact piece _ ⟨4, by decide⟩ _ rfl
        · exact piece _ ⟨3, by decide⟩ _ rfl
        · exact piece _ ⟨2, by decide⟩ _ rfl
        · exact piece _ ⟨1, by decide⟩ _ rfl
        · exact piece _ ⟨0, by decide⟩ _ rfl
      · exact View.cover_of_tiledL _ S128x128.size (by sl_kernel_rfl)
      · simp only [harg2.read_unread, harg3.read_unread, harg4.read_unread, harg5.read_unread, harg6.read_unread, harg7.read_unread, harg8.read_unread, harg9.read_unread]
    isplitl [H9]; · iexists _; iexact H9
    isplitl [H10]; · iexists _; iexact H10
    isplitl [HS0]
    · iexists _; isplitr; swap; iexact HS0
      ipureintro
      refine (read_heads_fill _ _ _ (ckH (k0_pay1 i) (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7))) ?_ ?_).trans ?_
      · show View.PiecesOf _ [_, _, _, _, _, _, _, _, _, _, _, _, _, _, _, _]
        refine ⟨?_, ?_, ?_, ?_, ?_, ?_, ?_, ?_, ?_, ?_, ?_, ?_, ?_, ?_, ?_, ?_, trivial⟩
        · exact piece _ ⟨15, by decide⟩ _ rfl
        · exact piece _ ⟨14, by decide⟩ _ rfl
        · exact piece _ ⟨13, by decide⟩ _ rfl
        · exact piece _ ⟨12, by decide⟩ _ rfl
        · exact piece _ ⟨11, by decide⟩ _ rfl
        · exact piece _ ⟨10, by decide⟩ _ rfl
        · exact piece _ ⟨9, by decide⟩ _ rfl
        · exact piece _ ⟨8, by decide⟩ _ rfl
        · exact piece _ ⟨7, by decide⟩ _ rfl
        · exact piece _ ⟨6, by decide⟩ _ rfl
        · exact piece _ ⟨5, by decide⟩ _ rfl
        · exact piece _ ⟨4, by decide⟩ _ rfl
        · exact piece _ ⟨3, by decide⟩ _ rfl
        · exact piece _ ⟨2, by decide⟩ _ rfl
        · exact piece _ ⟨1, by decide⟩ _ rfl
        · exact piece _ ⟨0, by decide⟩ _ rfl
      · exact View.cover_of_tiledL _ S128x128.size (by sl_kernel_rfl)
      · simp only [harg2.read_unread, harg3.read_unread, harg4.read_unread, harg5.read_unread, harg6.read_unread, harg7.read_unread, harg8.read_unread, harg9.read_unread]
    iexists _; isplitr; swap; iexact HS1
    ipureintro
    refine (read_heads_fill _ _ _ (cvH (k0_pay1 i) (arg2.view.read (Elt F) (harg2.unread x0)) (arg3.view.read (Elt F) (harg3.unread x1)) (arg4.view.read (Elt F) (harg4.unread x2)) (arg7.view.read (Elt F) (harg7.unread x5)) (arg8.view.read (Elt F) (harg8.unread x6))) ?_ ?_).trans ?_
    · show View.PiecesOf _ [_, _, _, _, _, _, _, _, _, _, _, _, _, _, _, _]
      refine ⟨?_, ?_, ?_, ?_, ?_, ?_, ?_, ?_, ?_, ?_, ?_, ?_, ?_, ?_, ?_, ?_, trivial⟩
      · exact piece _ ⟨15, by decide⟩ _ rfl
      · exact piece _ ⟨14, by decide⟩ _ rfl
      · exact piece _ ⟨13, by decide⟩ _ rfl
      · exact piece _ ⟨12, by decide⟩ _ rfl
      · exact piece _ ⟨11, by decide⟩ _ rfl
      · exact piece _ ⟨10, by decide⟩ _ rfl
      · exact piece _ ⟨9, by decide⟩ _ rfl
      · exact piece _ ⟨8, by decide⟩ _ rfl
      · exact piece _ ⟨7, by decide⟩ _ rfl
      · exact piece _ ⟨6, by decide⟩ _ rfl
      · exact piece _ ⟨5, by decide⟩ _ rfl
      · exact piece _ ⟨4, by decide⟩ _ rfl
      · exact piece _ ⟨3, by decide⟩ _ rfl
      · exact piece _ ⟨2, by decide⟩ _ rfl
      · exact piece _ ⟨1, by decide⟩ _ rfl
      · exact piece _ ⟨0, by decide⟩ _ rfl
    · exact View.cover_of_tiledL _ S128x128.size (by sl_kernel_rfl)
    · simp only [harg2.read_unread, harg3.read_unread, harg4.read_unread, harg5.read_unread, harg6.read_unread, harg7.read_unread, harg8.read_unread, harg9.read_unread]
  case c9 => exact View.cover_of_tiledL _ S128x128.size (by sl_kernel_rfl)
  case c10 => exact View.cover_of_tiledL _ S128x128.size (by sl_kernel_rfl)

end Cert.KernelIdeal.Band

end
-- ==== Proof.Band.RunB.lean ====
module

public import proofs.«01_k».proof.Proof.Band.Head

@[expose] public section

set_option maxRecDepth 16384

noncomputable section

namespace Cert.KernelIdeal.Band

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 6000000 in
/-- The body at a middle point: what it leaves in each output and in what it carries. -/
theorem run_B (c : Dev nD) (i : grid0.Coords) (arg2 : Memref sig .tc .vmem S128x2048 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x2048 .bf16) (harg7 : arg7.IsWhole) (arg8 : Memref sig .tc .vmem S1x128x16 .f32) (harg8 : arg8.IsWhole) (arg9 : Memref sig .tc .vmem S1x128x16 .f32) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S128x2048 .bf16) (harg12 : arg12.IsWhole) (arg13 : Memref sig .tc .vmem S128x2048 .f32) (harg13 : arg13.IsWhole) (arg14 : Memref sig .tc .vmem S128x2048 .f32) (harg14 : arg14.IsWhole) (hc0 : ¬cond0_0 i) (hc1 : cond0_1 i) (hc2 : ¬cond0_2 i)
    (x0 : Vec F S128x2048 .bf16) (x1 : Vec F S128x2048 .bf16) (x2 : Vec F S128x2048 .bf16) (x3 : Vec F S128x2048 .bf16) (x4 : Vec F S128x2048 .bf16) (x5 : Vec F S128x2048 .bf16) (x6 : Vec F S1x128x16 .f32) (x7 : Vec F S1x128x16 .f32) (xs0 : Vec F S128x2048 .f32) (xs1 : Vec F S128x2048 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (heads (dqH (k0_pay1 i) x0 x1 x2 x3 x4 x5 x6 x7)) ∗ owns (c : Thread nD τ) arg11 fullShare (heads (dkH (k0_pay1 i) x0 x1 x2 x3 x4 x5 x6 x7 xs0)) ∗ owns (c : Thread nD τ) arg12 fullShare (heads (dvH (k0_pay1 i) x0 x1 x2 x5 x6 xs1)) ∗ owns (c : Thread nD τ) arg13 fullShare (heads (ckH (k0_pay1 i) x0 x1 x2 x3 x4 x5 x6 x7)) ∗ owns (c : Thread nD τ) arg14 fullShare (heads (cvH (k0_pay1 i) x0 x1 x2 x5 x6))) -∗ K ⟨⟩))
          ⊢ wp frame (wpE (defs₀ (F := F)) Variants.none c none) E (cc0_attn_bwd_d1 i arg2 harg2 arg3 harg3 arg4 harg4 arg5 harg5 arg6 harg6 arg7 harg7 arg8 harg8 arg9 harg9 arg10 harg10 arg11 harg11 arg12 harg12 arg13 harg13 arg14 harg14) K := by
  simp only [cc0_attn_bwd_d1_eq_skeleton]; unfold cc0_attn_bwd_d1_skel
  simp only [k0_part28_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hfs0; obtain rfl := harg14.eq_unread hfs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; iexact H8
    ipureintro
    refine (read_heads _ _ _ (dqH (k0_pay1 i) (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7))) ?_ ?_).trans ?_
    · refine ⟨?_, ?_, ?_, ?_, ?_, ?_, ?_, ?_, ?_, ?_, ?_, ?_, ?_, ?_, ?_, ?_, trivial⟩
      · exact piece _ ⟨15, by decide⟩ _ rfl
      · exact piece _ ⟨14, by decide⟩ _ rfl
      · exact piece _ ⟨13, by decide⟩ _ rfl
      · exact piece _ ⟨12, by decide⟩ _ rfl
      · exact piece _ ⟨11, by decide⟩ _ rfl
      · exact piece _ ⟨10, by decide⟩ _ rfl
      · exact piece _ ⟨9, by decide⟩ _ rfl
      · exact piece _ ⟨8, by decide⟩ _ rfl
      · exact piece _ ⟨7, by decide⟩ _ rfl
      · exact piece _ ⟨6, by decide⟩ _ rfl
      · exact piece _ ⟨5, by decide⟩ _ rfl
      · exact piece _ ⟨4, by decide⟩ _ rfl
      · exact piece _ ⟨3, by decide⟩ _ rfl
      · exact piece _ ⟨2, by decide⟩ _ rfl
      · exact piece _ ⟨1, by decide⟩ _ rfl
      · exact piece _ ⟨0, by decide⟩ _ rfl
    · exact View.cover_of_tiledL _ S128x128.size (by sl_kernel_rfl)
    · simp only [harg2.read_unread, harg3.read_unread, harg4.read_unread, harg5.read_unread, harg6.read_unread, harg7.read_unread, harg8.read_unread, harg9.read_unread, harg13.read_unread, harg14.read_unread]
  isplitl [H9]
  · iexists _; isplitr; swap; iexact H9
    ipureintro
    refine (read_heads _ _ _ (dkH (k0_pay1 i) (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg13.view.read (Elt F) (harg13.unread xs0))) ?_ ?_).trans ?_
    · refine ⟨?_, ?_, ?_, ?_, ?_, ?_, ?_, ?_, ?_, ?_, ?_, ?_, ?_, ?_, ?_, ?_, trivial⟩
      · exact piece _ ⟨15, by decide⟩ _ rfl
      · exact piece _ ⟨14, by decide⟩ _ rfl
      · exact piece _ ⟨13, by decide⟩ _ rfl
      · exact piece _ ⟨12, by decide⟩ _ rfl
      · exact piece _ ⟨11, by decide⟩ _ rfl
      · exact piece _ ⟨10, by decide⟩ _ rfl
      · exact piece _ ⟨9, by decide⟩ _ rfl
      · exact piece _ ⟨8, by decide⟩ _ rfl
      · exact piece _ ⟨7, by decide⟩ _ rfl
      · exact piece _ ⟨6, by decide⟩ _ rfl
      · exact piece _ ⟨5, by decide⟩ _ rfl
      · exact piece _ ⟨4, by decide⟩ _ rfl
      · exact piece _ ⟨3, by decide⟩ _ rfl
      · exact piece _ ⟨2, by decide⟩ _ rfl
      · exact piece _ ⟨1, by decide⟩ _ rfl
      · exact piece _ ⟨0, by decide⟩ _ rfl
    · exact View.cover_of_tiledL _ S128x128.size (by sl_kernel_rfl)
    · simp only [harg2.read_unread, harg3.read_unread, harg4.read_unread, harg5.read_unread, harg6.read_unread, harg7.read_unread, harg8.read_unread, harg9.read_unread, harg13.read_unread, harg14.read_unread]
  isplitl [H10]
  · iexists _; isplitr; swap; iexact H10
    ipureintro
    refine (read_heads _ _ _ (dvH (k0_pay1 i) (arg2.view.read (Elt F) (harg2.unread x0)) (arg3.view.read (Elt F) (harg3.unread x1)) (arg4.view.read (Elt F) (harg4.unread x2)) (arg7.view.read (Elt F) (harg7.unread x5)) (arg8.view.read (Elt F) (harg8.unread x6)) (arg14.view.read (Elt F) (harg14.unread xs1))) ?_ ?_).trans ?_
    · refine ⟨?_, ?_, ?_, ?_, ?_, ?_, ?_, ?_, ?_, ?_, ?_, ?_, ?_, ?_, ?_, ?_, trivial⟩
      · exact piece _ ⟨15, by decide⟩ _ rfl
      · exact piece _ ⟨14, by decide⟩ _ rfl
      · exact piece _ ⟨13, by decide⟩ _ rfl
      · exact piece _ ⟨12, by decide⟩ _ rfl
      · exact piece _ ⟨11, by decide⟩ _ rfl
      · exact piece _ ⟨10, by decide⟩ _ rfl
      · exact piece _ ⟨9, by decide⟩ _ rfl
      · exact piece _ ⟨8, by decide⟩ _ rfl
      · exact piece _ ⟨7, by decide⟩ _ rfl
      · exact piece _ ⟨6, by decide⟩ _ rfl
      · exact piece _ ⟨5, by decide⟩ _ rfl
      · exact piece _ ⟨4, by decide⟩ _ rfl
      · exact piece _ ⟨3, by decide⟩ _ rfl
      · exact piece _ ⟨2, by decide⟩ _ rfl
      · exact piece _ ⟨1, by decide⟩ _ rfl
      · exact piece _ ⟨0, by decide⟩ _ rfl
    · exact View.cover_of_tiledL _ S128x128.size (by sl_kernel_rfl)
    · simp only [harg2.read_unread, harg3.read_unread, harg4.read_unread, harg5.read_unread, harg6.read_unread, harg7.read_unread, harg8.read_unread, harg9.read_unread, harg13.read_unread, harg14.read_unread]
  isplitl [HS0]
  · iexists _; isplitr; swap; iexact HS0
    ipureintro
    refine (read_heads _ _ _ (ckH (k0_pay1 i) (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7))) ?_ ?_).trans ?_
    · refine ⟨?_, ?_, ?_, ?_, ?_, ?_, ?_, ?_, ?_, ?_, ?_, ?_, ?_, ?_, ?_, ?_, trivial⟩
      · exact piece _ ⟨15, by decide⟩ _ rfl
      · exact piece _ ⟨14, by decide⟩ _ rfl
      · exact piece _ ⟨13, by decide⟩ _ rfl
      · exact piece _ ⟨12, by decide⟩ _ rfl
      · exact piece _ ⟨11, by decide⟩ _ rfl
      · exact piece _ ⟨10, by decide⟩ _ rfl
      · exact piece _ ⟨9, by decide⟩ _ rfl
      · exact piece _ ⟨8, by decide⟩ _ rfl
      · exact piece _ ⟨7, by decide⟩ _ rfl
      · exact piece _ ⟨6, by decide⟩ _ rfl
      · exact piece _ ⟨5, by decide⟩ _ rfl
      · exact piece _ ⟨4, by decide⟩ _ rfl
      · exact piece _ ⟨3, by decide⟩ _ rfl
      · exact piece _ ⟨2, by decide⟩ _ rfl
      · exact piece _ ⟨1, by decide⟩ _ rfl
      · exact piece _ ⟨0, by decide⟩ _ rfl
    · exact View.cover_of_tiledL _ S128x128.size (by sl_kernel_rfl)
    · simp only [harg2.read_unread, harg3.read_unread, harg4.read_unread, harg5.read_unread, harg6.read_unread, harg7.read_unread, harg8.read_unread, harg9.read_unread, harg13.read_unread, harg14.read_unread]
  iexists _; isplitr; swap; iexact HS1
  ipureintro
  refine (read_heads _ _ _ (cvH (k0_pay1 i) (arg2.view.read (Elt F) (harg2.unread x0)) (arg3.view.read (Elt F) (harg3.unread x1)) (arg4.view.read (Elt F) (harg4.unread x2)) (arg7.view.read (Elt F) (harg7.unread x5)) (arg8.view.read (Elt F) (harg8.unread x6))) ?_ ?_).trans ?_
  · refine ⟨?_, ?_, ?_, ?_, ?_, ?_, ?_, ?_, ?_, ?_, ?_, ?_, ?_, ?_, ?_, ?_, trivial⟩
    · exact piece _ ⟨15, by decide⟩ _ rfl
    · exact piece _ ⟨14, by decide⟩ _ rfl
    · exact piece _ ⟨13, by decide⟩ _ rfl
    · exact piece _ ⟨12, by decide⟩ _ rfl
    · exact piece _ ⟨11, by decide⟩ _ rfl
    · exact piece _ ⟨10, by decide⟩ _ rfl
    · exact piece _ ⟨9, by decide⟩ _ rfl
    · exact piece _ ⟨8, by decide⟩ _ rfl
    · exact piece _ ⟨7, by decide⟩ _ rfl
    · exact piece _ ⟨6, by decide⟩ _ rfl
    · exact piece _ ⟨5, by decide⟩ _ rfl
    · exact piece _ ⟨4, by decide⟩ _ rfl
    · exact piece _ ⟨3, by decide⟩ _ rfl
    · exact piece _ ⟨2, by decide⟩ _ rfl
    · exact piece _ ⟨1, by decide⟩ _ rfl
    · exact piece _ ⟨0, by decide⟩ _ rfl
  · exact View.cover_of_tiledL _ S128x128.size (by sl_kernel_rfl)
  · simp only [harg2.read_unread, harg3.read_unread, harg4.read_unread, harg5.read_unread, harg6.read_unread, harg7.read_unread, harg8.read_unread, harg9.read_unread, harg13.read_unread, harg14.read_unread]

end Cert.KernelIdeal.Band

end
-- ==== Proof.Band.RunC.lean ====
module

public import proofs.«01_k».proof.Proof.Band.Head
public import Idealize.ShloMosaic.Lib.VecWindow

@[expose] public section

set_option maxRecDepth 16384

noncomputable section

namespace Cert.KernelIdeal.Band

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body at the last point: what is carried goes to the outputs, and the gradient of the queries stays as it was. -/
theorem run_C (c : Dev nD) (i : grid0.Coords) (arg2 : Memref sig .tc .vmem S128x2048 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x2048 .bf16) (harg7 : arg7.IsWhole) (arg8 : Memref sig .tc .vmem S1x128x16 .f32) (harg8 : arg8.IsWhole) (arg9 : Memref sig .tc .vmem S1x128x16 .f32) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S128x2048 .bf16) (harg12 : arg12.IsWhole) (arg13 : Memref sig .tc .vmem S128x2048 .f32) (harg13 : arg13.IsWhole) (arg14 : Memref sig .tc .vmem S128x2048 .f32) (harg14 : arg14.IsWhole) (hc0 : ¬cond0_0 i) (hc1 : ¬cond0_1 i) (hc2 : cond0_2 i)
    (x0 : Vec F S128x2048 .bf16) (x1 : Vec F S128x2048 .bf16) (x2 : Vec F S128x2048 .bf16) (x3 : Vec F S128x2048 .bf16) (x4 : Vec F S128x2048 .bf16) (x5 : Vec F S128x2048 .bf16) (x6 : Vec F S1x128x16 .f32) (x7 : Vec F S1x128x16 .f32) (xs0 : Vec F S128x2048 .f32) (xs1 : Vec F S128x2048 .f32) (x8 : Vec F S128x2048 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay6 xs0) ∗ owns (c : Thread nD τ) arg12 fullShare (k0_pay7 xs1) ∗ owns (c : Thread nD τ) arg13 fullShare xs0 ∗ owns (c : Thread nD τ) arg14 fullShare xs1) -∗ K ⟨⟩))
          ⊢ wp frame (wpE (defs₀ (F := F)) Variants.none c none) E (cc0_attn_bwd_d1 i arg2 harg2 arg3 harg3 arg4 harg4 arg5 harg5 arg6 harg6 arg7 harg7 arg8 harg8 arg9 harg9 arg10 harg10 arg11 harg11 arg12 harg12 arg13 harg13 arg14 harg14) K := by
  simp only [cc0_attn_bwd_d1_eq_skeleton]; unfold cc0_attn_bwd_d1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hfs0; obtain rfl := harg14.eq_unread hfs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact hf8
    iexact H8
  isplitl [H9]
  · iexists _; isplitr; swap; iexact H9
    ipureintro
    refine (View.read_writes_full _ _ _ _ _).trans ?_
    rw [View.readAt_eq_ld, harg13.read_unread, View.ld_unit_lit _ _ (by decide)]
  isplitl [H10]
  · iexists _; isplitr; swap; iexact H10
    ipureintro
    refine (View.read_writes_full _ _ _ _ _).trans ?_
    rw [View.readAt_eq_ld, harg14.read_unread, View.ld_unit_lit _ _ (by decide)]
  isplitl [HS0]
  · iexists _; isplitr; · ipureintro; exact harg13.read_unread _
    iexact HS0
  iexists _; isplitr; · ipureintro; exact harg14.read_unread _
  iexact HS1

end Cert.KernelIdeal.Band

end
-- ==== Proof.Band.Frame.lean ====
module

public import proofs.«01_k».proof.Proof.Band.RunA
public import proofs.«01_k».proof.Proof.Band.RunB
public import proofs.«01_k».proof.Proof.Band.RunC
public import Idealize.ShloMosaic.Lib.Claim

@[expose] public section

set_option maxRecDepth 16384

noncomputable section

namespace Cert.KernelIdeal.Band

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the scratch and the results hold after each point -/

/-- The last point up to `t` that computes: `t` itself but for the closing point, which follows point 31. -/
def busy (t : Fin cfg0.N) : Fin cfg0.N := ⟨min t.val 31, Nat.lt_of_le_of_lt (Nat.min_le_left _ _) t.isLt⟩

/-- A point before the closing one is its own last computing point. -/
theorem busy_of_lt (t : Fin cfg0.N) (h : t.val < 32) : busy t = t := Fin.ext (by simp only [busy]; omega)

/-- The point before. -/
def prev (t : Fin cfg0.N) : Fin cfg0.N := ⟨t.val - 1, Nat.lt_of_le_of_lt (Nat.sub_le _ _) t.isLt⟩

/-- The point before the closing one and the closing one end with the same computing point. -/
theorem busy_prev_last (t : Fin cfg0.N) (h : t.val = 32) : busy (prev t) = busy t := Fin.ext (by simp only [busy, prev]; omega)

/-- What a computing point leaves of the gradient of the queries: its block, head by head. -/
def dqAt (c : Dev nD) (t : Fin cfg0.N) : Vec F S128x2048 .bf16 :=
  heads (dqH (k0_pay1 (grid0.coords t)) (iblk m c 0 t) (iblk m c 1 t) (iblk m c 2 t) (iblk m c 3 t) (iblk m c 4 t) (iblk m c 5 t) (iblk m c 6 t) (iblk m c 7 t))

/-- What a computing point carries to the next one of the gradient of the keys. -/
def ckAt (c : Dev nD) (t : Fin cfg0.N) : Vec F S128x2048 .f32 :=
  heads (ckH (k0_pay1 (grid0.coords t)) (iblk m c 0 t) (iblk m c 1 t) (iblk m c 2 t) (iblk m c 3 t) (iblk m c 4 t) (iblk m c 5 t) (iblk m c 6 t) (iblk m c 7 t))

/-- What a computing point carries to the next one of the gradient of the values. -/
def cvAt (c : Dev nD) (t : Fin cfg0.N) : Vec F S128x2048 .f32 :=
  heads (cvH (k0_pay1 (grid0.coords t)) (iblk m c 0 t) (iblk m c 1 t) (iblk m c 2 t) (iblk m c 5 t) (iblk m c 6 t))

/-- What a computing point stores of the gradient of the keys of the block before, over what it was carried. -/
def dkAt (c : Dev nD) (t : Fin cfg0.N) : Vec F S128x2048 .bf16 :=
  heads (dkH (k0_pay1 (grid0.coords t)) (iblk m c 0 t) (iblk m c 1 t) (iblk m c 2 t) (iblk m c 3 t) (iblk m c 4 t) (iblk m c 5 t) (iblk m c 6 t) (iblk m c 7 t) (ckAt m c (prev t)))

/-- What a computing point stores of the gradient of the values of the block before, over what it was carried. -/
def dvAt (c : Dev nD) (t : Fin cfg0.N) : Vec F S128x2048 .bf16 :=
  heads (dvH (k0_pay1 (grid0.coords t)) (iblk m c 0 t) (iblk m c 1 t) (iblk m c 2 t) (iblk m c 5 t) (iblk m c 6 t) (cvAt m c (prev t)))

/-- The first point's run, at its own buffers. -/
def run_first (c : Dev nD) (t : Fin cfg0.N) (hz : t.val = 0) :=
  run_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
    ((hcond0_0 t).mpr (by rw [hz])) ((hcond0_1 t).mpr (by rw [hz]; decide)) (fun h => absurd ((hcond0_2 t).mp h) (by rw [hz]; decide)) (iblk m c 0 t) (iblk m c 1 t) (iblk m c 2 t) (iblk m c 3 t) (iblk m c 4 t) (iblk m c 5 t) (iblk m c 6 t) (iblk m c 7 t)

/-- What the first point leaves in the buffer of the keys' gradient (the next point writes over it). -/
def first9 (c : Dev nD) (t : Fin cfg0.N) (hz : t.val = 0) : Vec F S128x2048 .bf16 :=
  (ms0_9 t).view.read (Elt F) ((ms0_9 t).view.writes (Elt F) (ms0_9 t).view.junk (run_first m c t hz).choose)

/-- What the first point leaves in the buffer of the values' gradient (the next point writes over it). -/
def first10 (c : Dev nD) (t : Fin cfg0.N) (hz : t.val = 0) : Vec F S128x2048 .bf16 :=
  (ms0_10 t).view.read (Elt F) ((ms0_10 t).view.writes (Elt F) (ms0_10 t).view.junk (run_first m c t hz).choose_spec.choose)

/-- The keys' gradient buffer after point `t`. -/
def out9 (c : Dev nD) (t : Fin cfg0.N) : Vec F S128x2048 .bf16 :=
  if hz : t.val = 0 then first9 m c t hz else if t.val < 32 then dkAt m c t else k0_pay6 (ckAt m c (busy t))

/-- The values' gradient buffer after point `t`. -/
def out10 (c : Dev nD) (t : Fin cfg0.N) : Vec F S128x2048 .bf16 :=
  if hz : t.val = 0 then first10 m c t hz else if t.val < 32 then dvAt m c t else k0_pay7 (cvAt m c (busy t))

/-- The keys' gradient buffer after the first point, -/
theorem out9_first (c : Dev nD) (t : Fin cfg0.N) (hz : t.val = 0) : out9 m c t = first9 m c t hz := dif_pos hz
/-- after a later computing point, -/
theorem out9_mid (c : Dev nD) (t : Fin cfg0.N) (hz : t.val ≠ 0) (h : t.val < 32) : out9 m c t = dkAt m c t := (dif_neg hz).trans (if_pos h)
/-- and after the closing one. -/
theorem out9_last (c : Dev nD) (t : Fin cfg0.N) (h : ¬t.val < 32) : out9 m c t = k0_pay6 (ckAt m c (busy t)) := (dif_neg (by omega)).trans (if_neg h)
/-- The values' gradient buffer after the first point, -/
theorem out10_first (c : Dev nD) (t : Fin cfg0.N) (hz : t.val = 0) : out10 m c t = first10 m c t hz := dif_pos hz
/-- after a later computing point, -/
theorem out10_mid (c : Dev nD) (t : Fin cfg0.N) (hz : t.val ≠ 0) (h : t.val < 32) : out10 m c t = dvAt m c t := (dif_neg hz).trans (if_pos h)
/-- and after the closing one. -/
theorem out10_last (c : Dev nD) (t : Fin cfg0.N) (h : ¬t.val < 32) : out10 m c t = k0_pay7 (cvAt m c (busy t)) := (dif_neg (by omega)).trans (if_neg h)

/-- Between points: the two scratch buffers at what the last computing point carries. -/
def carried (c : Dev nD) (t : Fin cfg0.N) : sProp 𝕄 :=
  iprop(iprop(owns (c : Thread nD τ) scM0_0 fullShare (ckAt m c (busy t)) ∗ owns (c : Thread nD τ) scM0_1 fullShare (cvAt m c (busy t))) ∗ (∃ r, prngReg c r))

/-- The invariant before position `n`: nothing known of the scratch at the start, then what is carried. -/
def PhiS (c : Dev nD) : (n : ℕ) → n ≤ cfg0.N → sProp 𝕄
  | 0, _ => Pipeline.ΦA spec0 c
  | n + 1, hn => carried m c ⟨n, hn⟩

/-- The invariant at the start. -/
theorem PhiS_zero (c : Dev nD) (n : ℕ) (h : n ≤ cfg0.N) (hz : n = 0) : PhiS m c n h = Pipeline.ΦA spec0 c := by
  subst hz; rfl

/-- The invariant after point `n`. -/
theorem PhiS_succ (c : Dev nD) (n : ℕ) (hn : n < cfg0.N) : PhiS m c (n + 1) hn = carried m c ⟨n, hn⟩ := rfl

/-- The invariant before a point that is not the first. -/
theorem PhiS_pos (c : Dev nD) (t : Fin cfg0.N) (h : t.val ≤ cfg0.N) (hz : t.val ≠ 0) : PhiS m c t.val h = carried m c (prev t) := by
  obtain ⟨n, hn⟩ := t
  cases n with
  | zero => exact absurd rfl hz
  | succ n => rfl

/-- The proof data of the one pipeline on core `c`: the arrays as the region finds them, what each buffer holds after
    each point, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqAt m c (busy t)
    | ⟨9, _⟩ => out9 m c t
    | ⟨10, _⟩ => out10 m c t
  Φ t := PhiS m c t.val (Nat.le_of_lt_succ t.isLt)
  q w := Pipeline.shareOf spec0 w
  owed _ := 0

/-- The arrays are as the region finds them. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- Window 0 keeps its block. -/
theorem after0_0 (c : Dev nD) (t : Fin cfg0.N) : (dats m 0 c).after 0 t = iblk m c 0 t := by dsimp only [dats]
/-- Window 1 keeps its block. -/
theorem after0_1 (c : Dev nD) (t : Fin cfg0.N) : (dats m 0 c).after 1 t = iblk m c 1 t := by dsimp only [dats]
/-- Window 2 keeps its block. -/
theorem after0_2 (c : Dev nD) (t : Fin cfg0.N) : (dats m 0 c).after 2 t = iblk m c 2 t := by dsimp only [dats]
/-- Window 3 keeps its block. -/
theorem after0_3 (c : Dev nD) (t : Fin cfg0.N) : (dats m 0 c).after 3 t = iblk m c 3 t := by dsimp only [dats]
/-- Window 4 keeps its block. -/
theorem after0_4 (c : Dev nD) (t : Fin cfg0.N) : (dats m 0 c).after 4 t = iblk m c 4 t := by dsimp only [dats]
/-- Window 5 keeps its block. -/
theorem after0_5 (c : Dev nD) (t : Fin cfg0.N) : (dats m 0 c).after 5 t = iblk m c 5 t := by dsimp only [dats]
/-- Window 6 keeps its block. -/
theorem after0_6 (c : Dev nD) (t : Fin cfg0.N) : (dats m 0 c).after 6 t = iblk m c 6 t := by dsimp only [dats]
/-- Window 7 keeps its block. -/
theorem after0_7 (c : Dev nD) (t : Fin cfg0.N) : (dats m 0 c).after 7 t = iblk m c 7 t := by dsimp only [dats]
/-- The queries' gradient buffer after point `t`. -/
theorem after0_8 (c : Dev nD) (t : Fin cfg0.N) : (dats m 0 c).after 8 t = dqAt m c (busy t) := by dsimp only [dats]
/-- The keys' gradient buffer after point `t`. -/
theorem after0_9 (c : Dev nD) (t : Fin cfg0.N) : (dats m 0 c).after 9 t = out9 m c t := by dsimp only [dats]
/-- The values' gradient buffer after point `t`. -/
theorem after0_10 (c : Dev nD) (t : Fin cfg0.N) : (dats m 0 c).after 10 t = out10 m c t := by dsimp only [dats]

/-- Input 0 holds its block at every point. -/
theorem before0_0 (c : Dev nD) (t : Fin cfg0.N) (d) : (dats m 0 c).before 0 t d = iblk m c 0 t :=
  before0_0_of m (dats m 0 c) (A_eq m c 0) (after0_0 m c) t d
/-- Input 1 holds its block at every point. -/
theorem before0_1 (c : Dev nD) (t : Fin cfg0.N) (d) : (dats m 0 c).before 1 t d = iblk m c 1 t :=
  before0_1_of m (dats m 0 c) (A_eq m c 1) (after0_1 m c) t d
/-- Input 2 holds its block at every point. -/
theorem before0_2 (c : Dev nD) (t : Fin cfg0.N) (d) : (dats m 0 c).before 2 t d = iblk m c 2 t :=
  before0_2_of m (dats m 0 c) (A_eq m c 2) (after0_2 m c) t d
/-- Input 3 holds its block at every point. -/
theorem before0_3 (c : Dev nD) (t : Fin cfg0.N) (d) : (dats m 0 c).before 3 t d = iblk m c 3 t :=
  before0_3_of m (dats m 0 c) (A_eq m c 3) (after0_3 m c) t d
/-- Input 4 holds its block at every point. -/
theorem before0_4 (c : Dev nD) (t : Fin cfg0.N) (d) : (dats m 0 c).before 4 t d = iblk m c 4 t :=
  before0_4_of m (dats m 0 c) (A_eq m c 4) (after0_4 m c) t d
/-- Input 5 holds its block at every point. -/
theorem before0_5 (c : Dev nD) (t : Fin cfg0.N) (d) : (dats m 0 c).before 5 t d = iblk m c 5 t :=
  before0_5_of m (dats m 0 c) (A_eq m c 5) (after0_5 m c) t d
/-- Input 6 holds its block at every point. -/
theorem before0_6 (c : Dev nD) (t : Fin cfg0.N) (d) : (dats m 0 c).before 6 t d = iblk m c 6 t :=
  before0_6_of m (dats m 0 c) (A_eq m c 6) (after0_6 m c) t d
/-- Input 7 holds its block at every point. -/
theorem before0_7 (c : Dev nD) (t : Fin cfg0.N) (d) : (dats m 0 c).before 7 t d = iblk m c 7 t :=
  before0_7_of m (dats m 0 c) (A_eq m c 7) (after0_7 m c) t d

/-- The queries' gradient is not written back before the closing point's turn. -/
theorem flush8 : ∀ t : Fin cfg0.N, t.val = 31 → (cfg0.win 8).flush t = false :=
  (by decide +kernel : ∀ t : Fin grid0.N, t.val = 31 → (cfg0.win 8).flush t = false)
/-- The queries' gradient is written back after the closing point. -/
theorem flush8_last : ∀ t : Fin cfg0.N, t.val = 32 → (cfg0.win 8).flush t = true :=
  (by decide +kernel : ∀ t : Fin grid0.N, t.val = 32 → (cfg0.win 8).flush t = true)
/-- Point 31 stores into the queries' gradient. -/
theorem live8 : ∀ t : Fin cfg0.N, t.val = 31 → cfg0.idle 8 (grid0.coords t) = false :=
  (by decide +kernel : ∀ t : Fin grid0.N, t.val = 31 → cfg0.idle 8 (grid0.coords t) = false)

/-- The closing point finds in the queries' gradient buffer what point 31 left there. -/
theorem before0_8_last (c : Dev nD) (t : Fin cfg0.N) (ht : t.val = 32) (d) : (dats m 0 c).before 8 t d = dqAt m c (busy t) := by
  have hp : (prev t).val = 31 := by simp only [prev]; omega
  rw [Dat.before_of_pos _ 8 t (by omega) (Window.fetch_out (cfg0.win 8) rfl t) d]
  rw [show (⟨t.val - 1, Nat.lt_of_le_of_lt (Nat.sub_le _ _) t.isLt⟩ : Fin cfg0.N) = prev t from rfl, flush8 _ hp, if_neg Bool.false_ne_true]
  unfold Dat.left
  rw [show cfg0.idle 8 (cfg0.grid.coords (prev t)) = false from live8 _ hp]
  show (dats m 0 c).kept 8 (prev t) d = _
  unfold Dat.kept
  rw [Pipeline.fill_of_clip_none 8 _ (fun _ => rfl) d, Window.fill_cut, after0_8, busy_prev_last t ht]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What the body returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The body at the first point. -/
theorem sound_A (c : Dev nD) (t : Fin cfg0.N) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by unfold Dat.leavesExact; rw [liveAt0_0 t], after0_0]
  rw [show (dats m 0 c).leavesExact 1 t = owns (c : Thread nD τ) (ms0_1 t) fullShare ((dats m 0 c).after 1 t) from by unfold Dat.leavesExact; rw [liveAt0_1 t], after0_1]
  rw [show (dats m 0 c).leavesExact 2 t = owns (c : Thread nD τ) (ms0_2 t) fullShare ((dats m 0 c).after 2 t) from by unfold Dat.leavesExact; rw [liveAt0_2 t], after0_2]
  rw [show (dats m 0 c).leavesExact 3 t = owns (c : Thread nD τ) (ms0_3 t) fullShare ((dats m 0 c).after 3 t) from by unfold Dat.leavesExact; rw [liveAt0_3 t], after0_3]
  rw [show (dats m 0 c).leavesExact 4 t = owns (c : Thread nD τ) (ms0_4 t) fullShare ((dats m 0 c).after 4 t) from by unfold Dat.leavesExact; rw [liveAt0_4 t], after0_4]
  rw [show (dats m 0 c).leavesExact 5 t = owns (c : Thread nD τ) (ms0_5 t) fullShare ((dats m 0 c).after 5 t) from by unfold Dat.leavesExact; rw [liveAt0_5 t], after0_5]
  rw [show (dats m 0 c).leavesExact 6 t = owns (c : Thread nD τ) (ms0_6 t) fullShare ((dats m 0 c).after 6 t) from by unfold Dat.leavesExact; rw [liveAt0_6 t], after0_6]
  rw [show (dats m 0 c).leavesExact 7 t = owns (c : Thread nD τ) (ms0_7 t) fullShare ((dats m 0 c).after 7 t) from by unfold Dat.leavesExact; rw [liveAt0_7 t], after0_7]
  rw [show (dats m 0 c).leavesExact 8 t = owns (c : Thread nD τ) (ms0_8 t) fullShare ((dats m 0 c).after 8 t) from by unfold Dat.leavesExact; rw [liveAt0_8_A t ((hcond0_0 t).mpr (by rw [hz])) ((hcond0_1 t).mpr (by rw [hz]; decide)) (fun h => absurd ((hcond0_2 t).mp h) (by rw [hz]; decide))], after0_8]
  rw [show (dats m 0 c).leavesExact 9 t = owns (c : Thread nD τ) (ms0_9 t) fullShare ((dats m 0 c).after 9 t) from by unfold Dat.leavesExact; rw [liveAt0_9_A t ((hcond0_0 t).mpr (by rw [hz])) ((hcond0_1 t).mpr (by rw [hz]; decide)) (fun h => absurd ((hcond0_2 t).mp h) (by rw [hz]; decide))], after0_9]
  rw [show (dats m 0 c).leavesExact 10 t = owns (c : Thread nD τ) (ms0_10 t) fullShare ((dats m 0 c).after 10 t) from by unfold Dat.leavesExact; rw [liveAt0_10_A t ((hcond0_0 t).mpr (by rw [hz])) ((hcond0_1 t).mpr (by rw [hz]; decide)) (fun h => absurd ((hcond0_2 t).mp h) (by rw [hz]; decide))], after0_10]
  rw [PhiS_castSucc m c t, PhiS_zero m c _ _ hz, PhiA0_eq]
  unfold carried; rw [busy_of_lt t (by omega), out9_first m c t hz, out10_first m c t hz]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((run_first m c t hz).choose_spec.choose_spec.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  iintro ⟨H0, H1, H2, H3, H4, H5, H6, H7, H8, ⟨%e9, H9⟩, ⟨%e10, H10⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (run_first m c t hz).choose_spec.choose_spec.1
  unfold owns; iexists _; isplitr
  swap; · iexact H10
  ipureintro; exact View.read_writes_of_cover _ _ _ _ _ (run_first m c t hz).choose_spec.choose_spec.2.1

set_option maxHeartbeats 4000000 in
/-- The body at a later computing point. -/
theorem sound_B (c : Dev nD) (t : Fin cfg0.N) (hz : t.val ≠ 0) (h1 : t.val < 32) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by unfold Dat.leavesExact; rw [liveAt0_0 t], after0_0]
  rw [show (dats m 0 c).leavesExact 1 t = owns (c : Thread nD τ) (ms0_1 t) fullShare ((dats m 0 c).after 1 t) from by unfold Dat.leavesExact; rw [liveAt0_1 t], after0_1]
  rw [show (dats m 0 c).leavesExact 2 t = owns (c : Thread nD τ) (ms0_2 t) fullShare ((dats m 0 c).after 2 t) from by unfold Dat.leavesExact; rw [liveAt0_2 t], after0_2]
  rw [show (dats m 0 c).leavesExact 3 t = owns (c : Thread nD τ) (ms0_3 t) fullShare ((dats m 0 c).after 3 t) from by unfold Dat.leavesExact; rw [liveAt0_3 t], after0_3]
  rw [show (dats m 0 c).leavesExact 4 t = owns (c : Thread nD τ) (ms0_4 t) fullShare ((dats m 0 c).after 4 t) from by unfold Dat.leavesExact; rw [liveAt0_4 t], after0_4]
  rw [show (dats m 0 c).leavesExact 5 t = owns (c : Thread nD τ) (ms0_5 t) fullShare ((dats m 0 c).after 5 t) from by unfold Dat.leavesExact; rw [liveAt0_5 t], after0_5]
  rw [show (dats m 0 c).leavesExact 6 t = owns (c : Thread nD τ) (ms0_6 t) fullShare ((dats m 0 c).after 6 t) from by unfold Dat.leavesExact; rw [liveAt0_6 t], after0_6]
  rw [show (dats m 0 c).leavesExact 7 t = owns (c : Thread nD τ) (ms0_7 t) fullShare ((dats m 0 c).after 7 t) from by unfold Dat.leavesExact; rw [liveAt0_7 t], after0_7]
  rw [show (dats m 0 c).leavesExact 8 t = owns (c : Thread nD τ) (ms0_8 t) fullShare ((dats m 0 c).after 8 t) from by unfold Dat.leavesExact; rw [liveAt0_8_B t (fun h => absurd ((hcond0_0 t).mp h) (by omega)) ((hcond0_1 t).mpr h1) (fun h => absurd ((hcond0_2 t).mp h) (by omega))], after0_8]
  rw [show (dats m 0 c).leavesExact 9 t = owns (c : Thread nD τ) (ms0_9 t) fullShare ((dats m 0 c).after 9 t) from by unfold Dat.leavesExact; rw [liveAt0_9_B t (fun h => absurd ((hcond0_0 t).mp h) (by omega)) ((hcond0_1 t).mpr h1) (fun h => absurd ((hcond0_2 t).mp h) (by omega))], after0_9]
  rw [show (dats m 0 c).leavesExact 10 t = owns (c : Thread nD τ) (ms0_10 t) fullShare ((dats m 0 c).after 10 t) from by unfold Dat.leavesExact; rw [liveAt0_10_B t (fun h => absurd ((hcond0_0 t).mp h) (by omega)) ((hcond0_1 t).mpr h1) (fun h => absurd ((hcond0_2 t).mp h) (by omega))], after0_10]
  rw [PhiS_castSucc m c t, PhiS_pos m c t _ hz]
  unfold carried; rw [busy_of_lt t h1, busy_of_lt (prev t) (by simp only [prev]; omega), out9_mid m c t hz h1, out10_mid m c t hz h1]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => absurd ((hcond0_0 t).mp h) (by omega)) ((hcond0_1 t).mpr h1) (fun h => absurd ((hcond0_2 t).mp h) (by omega)) (iblk m c 0 t) (iblk m c 1 t) (iblk m c 2 t) (iblk m c 3 t) (iblk m c 4 t) (iblk m c 5 t) (iblk m c 6 t) (iblk m c 7 t) (ckAt m c (prev t)) (cvAt m c (prev t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  iintro ⟨H0, H1, H2, H3, H4, H5, H6, H7, H8, H9, H10, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 4000000 in
/-- The body at the closing point. -/
theorem sound_C (c : Dev nD) (t : Fin cfg0.N) (h2 : t.val = 32) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8_last m c t h2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by unfold Dat.leavesExact; rw [liveAt0_0 t], after0_0]
  rw [show (dats m 0 c).leavesExact 1 t = owns (c : Thread nD τ) (ms0_1 t) fullShare ((dats m 0 c).after 1 t) from by unfold Dat.leavesExact; rw [liveAt0_1 t], after0_1]
  rw [show (dats m 0 c).leavesExact 2 t = owns (c : Thread nD τ) (ms0_2 t) fullShare ((dats m 0 c).after 2 t) from by unfold Dat.leavesExact; rw [liveAt0_2 t], after0_2]
  rw [show (dats m 0 c).leavesExact 3 t = owns (c : Thread nD τ) (ms0_3 t) fullShare ((dats m 0 c).after 3 t) from by unfold Dat.leavesExact; rw [liveAt0_3 t], after0_3]
  rw [show (dats m 0 c).leavesExact 4 t = owns (c : Thread nD τ) (ms0_4 t) fullShare ((dats m 0 c).after 4 t) from by unfold Dat.leavesExact; rw [liveAt0_4 t], after0_4]
  rw [show (dats m 0 c).leavesExact 5 t = owns (c : Thread nD τ) (ms0_5 t) fullShare ((dats m 0 c).after 5 t) from by unfold Dat.leavesExact; rw [liveAt0_5 t], after0_5]
  rw [show (dats m 0 c).leavesExact 6 t = owns (c : Thread nD τ) (ms0_6 t) fullShare ((dats m 0 c).after 6 t) from by unfold Dat.leavesExact; rw [liveAt0_6 t], after0_6]
  rw [show (dats m 0 c).leavesExact 7 t = owns (c : Thread nD τ) (ms0_7 t) fullShare ((dats m 0 c).after 7 t) from by unfold Dat.leavesExact; rw [liveAt0_7 t], after0_7]
  rw [show (dats m 0 c).leavesExact 8 t = owns (c : Thread nD τ) (ms0_8 t) fullShare ((dats m 0 c).after 8 t) from by unfold Dat.leavesExact; rw [show cfg0.idle 8 (cfg0.grid.coords t) = true from idleAt0_8_C t (fun h => absurd ((hcond0_0 t).mp h) (by omega)) (fun h => absurd ((hcond0_1 t).mp h) (by omega)) ((hcond0_2 t).mpr (by rw [h2])), flush8_last t h2], after0_8]
  rw [show (dats m 0 c).leavesExact 9 t = owns (c : Thread nD τ) (ms0_9 t) fullShare ((dats m 0 c).after 9 t) from by unfold Dat.leavesExact; rw [liveAt0_9_C t (fun h => absurd ((hcond0_0 t).mp h) (by omega)) (fun h => absurd ((hcond0_1 t).mp h) (by omega)) ((hcond0_2 t).mpr (by rw [h2]))], after0_9]
  rw [show (dats m 0 c).leavesExact 10 t = owns (c : Thread nD τ) (ms0_10 t) fullShare ((dats m 0 c).after 10 t) from by unfold Dat.leavesExact; rw [liveAt0_10_C t (fun h => absurd ((hcond0_0 t).mp h) (by omega)) (fun h => absurd ((hcond0_1 t).mp h) (by omega)) ((hcond0_2 t).mpr (by rw [h2]))], after0_10]
  rw [PhiS_castSucc m c t, PhiS_pos m c t _ (by omega)]
  unfold carried; rw [busy_prev_last t h2, out9_last m c t (by omega), out10_last m c t (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => absurd ((hcond0_0 t).mp h) (by omega)) (fun h => absurd ((hcond0_1 t).mp h) (by omega)) ((hcond0_2 t).mpr (by rw [h2])) (iblk m c 0 t) (iblk m c 1 t) (iblk m c 2 t) (iblk m c 3 t) (iblk m c 4 t) (iblk m c 5 t) (iblk m c 6 t) (iblk m c 7 t) (ckAt m c (busy t)) (cvAt m c (busy t)) (dqAt m c (busy t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [HS0]; · iexact HS0
  isplitl [HS1]; · iexact HS1
  iintro ⟨H0, H1, H2, H3, H4, H5, H6, H7, H8, H9, H10, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 33 := lt_of_lt_of_eq t.isLt (show cfg0.N = 33 from N_0)
  by_cases hz : t.val = 0
  · exact sound_A m c t hz
  by_cases h1 : t.val < 32
  · exact sound_B m c t hz h1
  exact sound_C m c t (by omega)

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the scratch back. -/
theorem hout (c : Dev nD) : (dats m 0 c).Φ (Fin.last cfg0.N) ⊢ Pipeline.ΦA spec0 c := by
  rw [show (dats m 0 c).Φ (Fin.last cfg0.N) = carried m c ⟨32, by rw [show cfg0.N = 33 from N_0]; decide⟩ from rfl, PhiA0_eq]
  unfold carried
  iintro ⟨⟨HS0, HS1⟩, Hg⟩
  isplitl [HS0 HS1]
  · isplitl [HS0]
    · iexists _; iexact HS0
    iexists _; iexact HS1
  iexact Hg

-- the launch theorem's implicit arguments are found by unifying its conclusion with this one
set_option backward.isDefEq.respectTransparency.types false in
/-- Every run of the program ends with every array at what the proof data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every run of the program ends with every array at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Band

end
-- ==== Proof.Band.Dense.lean ====
module

public import Idealize.ShloMosaic.Lib.Pointwise
public import Idealize.ShloMosaic.Lib.Pipeline.ValueKit
public import Idealize.ShloMosaic.Lib.WordArith
public import Idealize.ShloMosaic.Lib.Tactic.WordOmega

@[expose] public section

set_option maxRecDepth 16384

noncomputable section

namespace Cert.Dense

open Idealize.ShloMosaic

/-! The gradient of the attention's sums over the whole sequence, entry by entry, and the mask's words. -/

/-- Position `t` looks at position `u`: no later than itself and at most 128 back. -/
def near (t u : Fin 4096) : Prop := u.val ≤ t.val ∧ t.val ≤ u.val + 128

instance (t u : Fin 4096) : Decidable (near t u) := by unfold near; infer_instance

/-- One over the square root of the head's width, as it is written. -/
def sc : EReal := Ideal.ofBits FTy.f32 1035273459#32

/-- Row `i` of block `b`. -/
def row (b : Fin 32) (i : Fin 128) : Fin 4096 := ⟨128 * b.val + i.val, by omega⟩

section
variable (q k v o : Fin 4096 → Fin 16 → Fin 128 → EReal) (l d : Fin 4096 → Fin 16 → EReal)

/-- The weight of position `u` for position `t`, head `h`. -/
def P (t u : Fin 4096) (h : Fin 16) : EReal :=
  if near t u then Ideal.exp ((∑ x, q t h x * k u h x) * sc - l t h) else 0

/-- The gradient of the score of position `u` for position `t`, head `h`. -/
def D (t u : Fin 4096) (h : Fin 16) : EReal :=
  P q k l t u h * ((∑ x, o t h x * v u h x) - d t h) * sc

/-- The gradient of the queries. -/
def dq (t : Fin 4096) (h : Fin 16) (x : Fin 128) : EReal := ∑ u, D q k v o l d t u h * k u h x
/-- The gradient of the keys. -/
def dk (u : Fin 4096) (h : Fin 16) (x : Fin 128) : EReal := ∑ t, D q k v o l d t u h * q t h x
/-- The gradient of the values. -/
def dv (u : Fin 4096) (h : Fin 16) (x : Fin 128) : EReal := ∑ t, P q k l t u h * o t h x

end

/-! ## The words -/

/-- The dense mask's word at distance `z`. -/
def refWord (z : BitVec 32) : BitVec 1 :=
  IntOp.andi (IntOp.andi (IntOp.cmpi .sge z 0#32) (IntOp.cmpi .sle z 128#32))
    (IntOp.cmpi .eq
      (Scalar.select
        (IntOp.andi
          (IntOp.cmpi .ne (IntOp.cmpi .slt (IntOp.remsi .host z (Scalar.select (IntOp.cmpi .eq 1#32 0#32) 1#32 1#32)) 0#32)
            (IntOp.cmpi .slt (Scalar.select (IntOp.cmpi .eq 1#32 0#32) 1#32 1#32) 0#32))
          (IntOp.cmpi .ne (IntOp.remsi .host z (Scalar.select (IntOp.cmpi .eq 1#32 0#32) 1#32 1#32)) 0#32))
        (IntOp.addi (IntOp.remsi .host z (Scalar.select (IntOp.cmpi .eq 1#32 0#32) 1#32 1#32))
          (Scalar.select (IntOp.cmpi .eq 1#32 0#32) 1#32 1#32))
        (IntOp.remsi .host z (Scalar.select (IntOp.cmpi .eq 1#32 0#32) 1#32 1#32)))
      0#32)

theorem bit_eq {w : BitVec 1} {p : Prop} [Decidable p] (h : w = 1#1 ↔ p) : w = if p then 1#1 else 0#1 := by
  by_cases hp : p
  · rw [if_pos hp]; exact h.mpr hp
  · rw [if_neg hp]
    have : w ≠ 1#1 := fun e => hp (h.mp e)
    clear h
    revert w; decide

/-- The difference of two small words. -/
theorem subi_small {a b : Nat} (ha : a < 2 ^ 31) (hb : b < 2 ^ 31) :
    (IntOp.subi (BitVec.ofNat 32 a) (BitVec.ofNat 32 b)).toNat = if b ≤ a then a - b else 2 ^ 32 + a - b := by
  show (BitVec.ofNat 32 a - BitVec.ofNat 32 b).toNat = _
  rw [BitVec.toNat_sub, BitVec.toNat_ofNat, BitVec.toNat_ofNat]
  split <;> omega

theorem and_one : ∀ w : BitVec 1, IntOp.andi w 1#1 = w := by decide

/-- The dense mask's word says whether the two positions are near. -/
theorem refWord_eq (t u : Fin 4096) :
    refWord (IntOp.subi (BitVec.ofNat 32 t.val) (BitVec.ofNat 32 u.val)) = if near t u then 1#1 else 0#1 := by
  have hone : Scalar.select (IntOp.cmpi .eq 1#32 0#32) 1#32 1#32 = 1#32 := by decide
  unfold refWord
  rw [hone, WordArith.remsi_one]
  have h0 : (IntOp.cmpi .eq
      (Scalar.select
        (IntOp.andi
          (IntOp.cmpi .ne (IntOp.cmpi .slt 0#32 0#32)
            (IntOp.cmpi .slt 1#32 0#32))
          (IntOp.cmpi .ne 0#32 0#32))
        (IntOp.addi 0#32 1#32) 0#32)
      0#32) = 1#1 := by decide
  rw [h0, and_one]
  clear h0 hone
  refine bit_eq ?_
  have ht := t.isLt
  have hu := u.isLt
  unfold near
  generalize t.val = a at *
  generalize u.val = b at *
  have hs := subi_small (a := a) (b := b) (by omega) (by omega)
  generalize IntOp.subi (BitVec.ofNat 32 a) (BitVec.ofNat 32 b) = z at *
  word_omega

/-- The banded mask's word at point `n`, row `i`, column `j`. -/
def bandWord (n i j : Nat) : BitVec 1 :=
  IntOp.ori (IntOp.cmpi .sle (BitVec.ofNat 32 j) (BitVec.ofNat 32 i))
    (IntOp.cmpi .sge (IntOp.subi (BitVec.ofNat 32 j) (BitVec.ofNat 32 i))
      (Scalar.select (Scalar.cmpi .sgt (BitVec.ofNat 32 n) 0#32) 128#32 257#32))

/-- Over the block's own columns the banded mask is the dense one. -/
theorem bandWord_own (n : Fin 32) (i j : Fin 128) : bandWord n.val i.val j.val = if near (row n i) (row n j) then 1#1 else 0#1 := by
  refine bit_eq ?_
  have hn := n.isLt
  have hi := i.isLt
  have hj := j.isLt
  unfold near row bandWord
  simp only
  generalize n.val = n at *
  generalize i.val = i at *
  generalize j.val = j at *
  have hs := subi_small (a := j) (b := i) (by omega) (by omega)
  generalize IntOp.subi (BitVec.ofNat 32 (j)) (BitVec.ofNat 32 i) = z at *
  word_omega

/-- Over the columns of the block before, the banded mask is the dense one. -/
theorem bandWord_before (n b : Fin 32) (hb : n.val = b.val + 1) (i j : Fin 128) :
    bandWord n.val i.val (128 + j.val) = if near (row n i) (row b j) then 1#1 else 0#1 := by
  refine bit_eq ?_
  have hn := n.isLt
  have hi := i.isLt
  have hj := j.isLt
  unfold near row bandWord
  simp only
  generalize n.val = n at *
  generalize b.val = b at *
  generalize i.val = i at *
  generalize j.val = j at *
  have hs := subi_small (a := 128 + j) (b := i) (by omega) (by omega)
  generalize IntOp.subi (BitVec.ofNat 32 (128 + j)) (BitVec.ofNat 32 i) = z at *
  word_omega

/-- At the first point nothing lies before. -/
theorem bandWord_first (i j : Fin 128) : bandWord 0 i.val (128 + j.val) = 0#1 := by
  refine (bit_eq (p := 128 ≤ i.val) ?_).trans (if_neg (by omega))
  have hi := i.isLt
  have hj := j.isLt
  have h0 : Scalar.select (Scalar.cmpi .sgt (BitVec.ofNat 32 0) 0#32) 128#32 257#32 = 257#32 := by decide
  unfold bandWord
  rw [h0]
  clear h0
  generalize i.val = i at *
  generalize j.val = j at *
  have hs := subi_small (a := 128 + j) (b := i) (by omega) (by omega)
  generalize IntOp.subi (BitVec.ofNat 32 (128 + j)) (BitVec.ofNat 32 i) = z at *
  word_omega

/-! ## The entries -/

theorem neg_inf : Ideal.ofBits FTy.f32 4286578688#32 = (⊥ : EReal) := by
  show Ideal.ieee 8 23 4286578688#32 = _
  unfold Ideal.ieee
  simp only
  rw [if_pos (by decide), if_pos (by decide), if_pos (by decide)]

theorem exp_bot (x : EReal) : Ideal.exp (⊥ - x) = 0 := by
  rw [EReal.bot_sub]; rfl

/-- A masked weight. -/
theorem exp_select {w : BitVec 1} {p : Prop} [Decidable p] (hw : w = if p then 1#1 else 0#1) (s l : EReal) :
    Ideal.exp (Scalar.select w s (⊥ : EReal) - l) = if p then Ideal.exp (s - l) else 0 := by
  by_cases hp : p
  · rw [hw, if_pos hp, if_pos hp]; rfl
  · rw [hw, if_neg hp, if_neg hp]; exact exp_bot l

/-- The gradient of a masked score times two factors, the mask over the product. -/
theorem select_grad {w : BitVec 1} {p : Prop} [Decidable p] (hw : w = if p then 1#1 else 0#1) (e d g a b : EReal) :
    Scalar.select w ((-d + g) * (if p then e else 0) * a * b) (0 : EReal) = (if p then e else 0) * (g - d) * a * b := by
  by_cases hp : p
  · rw [hw, if_pos hp, if_pos hp, mul_comm (-d + g), add_comm (-d), ← sub_eq_add_neg]; rfl
  · rw [hw, if_neg hp, if_neg hp, zero_mul, zero_mul, zero_mul]; rfl

/-! ## The sums -/

/-- A sum over the sequence is one over its blocks. -/
theorem sum_rows (f : Fin 4096 → EReal) : ∑ t, f t = ∑ b : Fin 32, ∑ i : Fin 128, f (row b i) := by
  rw [← Fintype.sum_prod_type']
  refine (Fintype.sum_equiv (finProdFinEquiv (m := 32) (n := 128)) _ _ fun x => ?_).symm
  refine congrArg f (Fin.ext ?_)
  show 128 * x.1.val + x.2.val = x.2.val + 128 * x.1.val
  omega

/-- A sum over a block's columns and the columns of the block before. -/
theorem sum_halves (f : Fin 256 → EReal) :
    ∑ j, f j = ∑ j : Fin 128, f ⟨j.val, by omega⟩ + ∑ j : Fin 128, f ⟨128 + j.val, by omega⟩ := by
  exact Fin.sum_univ_two_halves 128 128 rfl f

/-- A sum of two blocks. -/
theorem sum_two (g : Fin 32 → EReal) (a b : Fin 32) (hab : a ≠ b) (h : ∀ c, c ≠ a → c ≠ b → g c = 0) : ∑ c, g c = g a + g b := by
  rw [← Finset.add_sum_erase _ g (Finset.mem_univ a), ← Finset.add_sum_erase _ g (Finset.mem_erase.2 ⟨hab.symm, Finset.mem_univ b⟩)]
  rw [Finset.sum_eq_zero fun c hc => ?_, add_zero]
  have hb := (Finset.mem_erase.1 hc).1
  have ha := (Finset.mem_erase.1 (Finset.mem_erase.1 hc).2).1
  exact h c ha hb

/-- A sum of one block. -/
theorem sum_one (g : Fin 32 → EReal) (a : Fin 32) (h : ∀ c, c ≠ a → g c = 0) : ∑ c, g c = g a :=
  Fintype.sum_eq_single a h

theorem not_near {b c : Fin 32} (i j : Fin 128) (h : b.val ≠ c.val ∧ b.val ≠ c.val + 1) : ¬ near (row b i) (row c j) := by
  unfold near row
  simp only
  omega

/-- What position `row n i` sees: its block and the block before. -/
theorem sum_seen (f : Fin 4096 → EReal) (n b : Fin 32) (hb : n.val = b.val + 1) (i : Fin 128) (hf : ∀ u, ¬ near (row n i) u → f u = 0) :
    ∑ u, f u = ∑ j, f (row n j) + ∑ j, f (row b j) := by
  rw [sum_rows]
  refine sum_two _ n b (fun h => by rw [h] at hb; omega) fun c h1 h2 => Finset.sum_eq_zero fun j _ => hf _ (not_near i j ⟨fun h => h1 (Fin.ext h.symm), fun h => h2 (Fin.ext (by omega))⟩)

/-- What a position of the first block sees. -/
theorem sum_seen_first (f : Fin 4096 → EReal) (i : Fin 128) (hf : ∀ u, ¬ near (row 0 i) u → f u = 0) :
    ∑ u, f u = ∑ j, f (row 0 j) := by
  rw [sum_rows]
  refine sum_one _ 0 fun c h1 => Finset.sum_eq_zero fun j _ => hf _ (not_near i j ⟨fun h => h1 (Fin.ext h.symm), fun h => by have h0 : ((0 : Fin 32)).val = 0 := rfl; omega⟩)

/-- What sees position `row b i`: its block and the block after. -/
theorem sum_seeing (f : Fin 4096 → EReal) (n b : Fin 32) (hb : n.val = b.val + 1) (i : Fin 128) (hf : ∀ t, ¬ near t (row b i) → f t = 0) :
    ∑ t, f t = ∑ j, f (row b j) + ∑ j, f (row n j) := by
  rw [sum_rows]
  refine sum_two _ b n (fun h => by rw [h] at hb; omega) fun c h1 h2 => Finset.sum_eq_zero fun j _ => hf _ (not_near j i ⟨fun h => h1 (Fin.ext h), fun h => h2 (Fin.ext (by omega))⟩)

/-- What sees a position of the last block. -/
theorem sum_seeing_last (f : Fin 4096 → EReal) (i : Fin 128) (hf : ∀ t, ¬ near t (row 31 i) → f t = 0) :
    ∑ t, f t = ∑ j, f (row 31 j) := by
  rw [sum_rows]
  refine sum_one _ 31 fun c h1 => Finset.sum_eq_zero fun j _ => hf _ (not_near j i ⟨fun h => h1 (Fin.ext h), fun h => by have h0 : ((31 : Fin 32)).val = 31 := rfl; omega⟩)

end Cert.Dense
end
-- ==== Proof.Band.Blocks.lean ====
module

public import proofs.«01_k».proof.Proof.Gen.KernelIdeal.Frame
public import Idealize.ShloMosaic.Lib.Pointwise
public import Idealize.ShloMosaic.Lib.Pipeline.ValueKit
public import proofs.«01_k».proof.Proof.Band.Dense

@[expose] public section

set_option maxRecDepth 16384

noncomputable section

namespace Cert.KernelIdeal.Band

open Cert.KernelIdeal Cert.KernelIdeal.Gen
open Idealize.ShloMosaic Idealize.ShloMosaic.TcCoe
open Cert.Dense (row)

variable (m : (ℓ : Loc nD τ sig) → Buf (Elt Ideal) ℓ) (c : Dev nD)

/-! ## Where the windows' blocks lie -/

/-- The current block's row offset at point `t`. -/
def cur (t : Fin cfg0.N) : Fin 32 := ⟨min t.val 31, by omega⟩
/-- The previous block's row offset at point `t`. -/
def pre (t : Fin cfg0.N) : Fin 32 := ⟨t.val - 1, by have h : t.val < 33 := Nat.lt_of_lt_of_eq t.isLt N_0; omega⟩

/-- Every window's block index at every point. -/
theorem idx : ∀ t : Fin cfg0.N, win0_0.index t = ![min t.val 31, 0] ∧ win0_1.index t = ![min t.val 31, 0] ∧ win0_2.index t = ![t.val - 1, 0]
    ∧ win0_3.index t = ![min t.val 31, 0] ∧ win0_4.index t = ![t.val - 1, 0] ∧ win0_5.index t = ![min t.val 31, 0]
    ∧ win0_6.index t = ![0, min t.val 31, 0] ∧ win0_7.index t = ![0, min t.val 31, 0]
    ∧ win0_8.index t = ![min t.val 31, 0] ∧ win0_9.index t = ![t.val - 1, 0] ∧ win0_10.index t = ![t.val - 1, 0] :=
  (by decide +kernel : ∀ t : Fin grid0.N, _)

/-- The arguments, by position, head and lane. -/
def aq (t : Fin 4096) (h : Fin 16) (x : Fin 128) : EReal := m ((c.tc : Thread nD τ).loc main_arg0) (ix3 t h x)
def ak (t : Fin 4096) (h : Fin 16) (x : Fin 128) : EReal := m ((c.tc : Thread nD τ).loc main_arg1) (ix3 t h x)
def av (t : Fin 4096) (h : Fin 16) (x : Fin 128) : EReal := m ((c.tc : Thread nD τ).loc main_arg2) (ix3 t h x)
def ao (t : Fin 4096) (h : Fin 16) (x : Fin 128) : EReal := m ((c.tc : Thread nD τ).loc main_arg3) (ix3 t h x)
def al (t : Fin 4096) (h : Fin 16) : EReal := m ((c.tc : Thread nD τ).loc main_arg4) (ix2 t h)
def ad (t : Fin 4096) (h : Fin 16) : EReal := m ((c.tc : Thread nD τ).loc main_arg5) (ix2 t h)

/-! ## The arrays the region finds -/

theorem V1 (y : S4096x2048.Idx) : V m c main_v1 y = m ((c.tc : Thread nD τ).loc main_arg0) (ix3 (y 0) ⟨(y 1).val / 128, by have : (y 1).val < 2048 := (y 1).isLt; omega⟩ ⟨(y 1).val % 128, Nat.mod_lt _ (by decide)⟩) := by
  entry_read
  pointwise

theorem V3 (y : S4096x2048.Idx) : V m c main_v3 y = m ((c.tc : Thread nD τ).loc main_arg1) (ix3 (y 0) ⟨(y 1).val / 128, by have : (y 1).val < 2048 := (y 1).isLt; omega⟩ ⟨(y 1).val % 128, Nat.mod_lt _ (by decide)⟩) := by
  entry_read
  pointwise

theorem V5 (y : S4096x2048.Idx) : V m c main_v5 y = m ((c.tc : Thread nD τ).loc main_arg2) (ix3 (y 0) ⟨(y 1).val / 128, by have : (y 1).val < 2048 := (y 1).isLt; omega⟩ ⟨(y 1).val % 128, Nat.mod_lt _ (by decide)⟩) := by
  entry_read
  pointwise

theorem V7 (y : S4096x2048.Idx) : V m c main_v7 y = m ((c.tc : Thread nD τ).loc main_arg3) (ix3 (y 0) ⟨(y 1).val / 128, by have : (y 1).val < 2048 := (y 1).isLt; omega⟩ ⟨(y 1).val % 128, Nat.mod_lt _ (by decide)⟩) := by
  entry_read
  pointwise

theorem V9 (y : S1x4096x16.Idx) : V m c main_v9 y = m ((c.tc : Thread nD τ).loc main_arg4) (ix2 (y 1) (y 2)) := by
  entry_read
  pointwise

theorem V11 (y : S1x4096x16.Idx) : V m c main_v11 y = m ((c.tc : Thread nD τ).loc main_arg5) (ix2 (y 1) (y 2)) := by
  entry_read
  pointwise

/-! ## The blocks the windows hold -/

theorem iblk0 (t : Fin cfg0.N) (i : Fin 128) (h : Fin 16) (x : Fin 128) (hl : 128 * h.val + x.val < 2048) :
    iblk m c 0 t (ix2 i ⟨128 * h.val + x.val, hl⟩) = aq m c (row (cur t) i) h x := by
  refine (V1 m c _).trans ?_
  unfold aq
  blk_ext [row, cur, idx t]

theorem iblk1 (t : Fin cfg0.N) (i : Fin 128) (h : Fin 16) (x : Fin 128) (hl : 128 * h.val + x.val < 2048) :
    iblk m c 1 t (ix2 i ⟨128 * h.val + x.val, hl⟩) = ak m c (row (cur t) i) h x := by
  refine (V3 m c _).trans ?_
  unfold ak
  blk_ext [row, cur, idx t]

theorem iblk2 (t : Fin cfg0.N) (i : Fin 128) (h : Fin 16) (x : Fin 128) (hl : 128 * h.val + x.val < 2048) :
    iblk m c 2 t (ix2 i ⟨128 * h.val + x.val, hl⟩) = ak m c (row (pre t) i) h x := by
  refine (V3 m c _).trans ?_
  unfold ak
  blk_ext [row, pre, idx t]

theorem iblk3 (t : Fin cfg0.N) (i : Fin 128) (h : Fin 16) (x : Fin 128) (hl : 128 * h.val + x.val < 2048) :
    iblk m c 3 t (ix2 i ⟨128 * h.val + x.val, hl⟩) = av m c (row (cur t) i) h x := by
  refine (V5 m c _).trans ?_
  unfold av
  blk_ext [row, cur, idx t]

theorem iblk4 (t : Fin cfg0.N) (i : Fin 128) (h : Fin 16) (x : Fin 128) (hl : 128 * h.val + x.val < 2048) :
    iblk m c 4 t (ix2 i ⟨128 * h.val + x.val, hl⟩) = av m c (row (pre t) i) h x := by
  refine (V5 m c _).trans ?_
  unfold av
  blk_ext [row, pre, idx t]

theorem iblk5 (t : Fin cfg0.N) (i : Fin 128) (h : Fin 16) (x : Fin 128) (hl : 128 * h.val + x.val < 2048) :
    iblk m c 5 t (ix2 i ⟨128 * h.val + x.val, hl⟩) = ao m c (row (cur t) i) h x := by
  refine (V7 m c _).trans ?_
  unfold ao
  blk_ext [row, cur, idx t]

theorem iblk6 (t : Fin cfg0.N) (i : Fin 128) (h : Fin 16) :
    iblk m c 6 t (ix3 0 i h) = al m c (row (cur t) i) h := by
  refine (V9 m c _).trans ?_
  unfold al
  blk_ext [row, cur, idx t]

theorem iblk7 (t : Fin cfg0.N) (i : Fin 128) (h : Fin 16) :
    iblk m c 7 t (ix3 0 i h) = ad m c (row (cur t) i) h := by
  refine (V11 m c _).trans ?_
  unfold ad
  blk_ext [row, cur, idx t]

end Cert.KernelIdeal.Band
end
-- ==== Proof.Band.Payload.lean ====
module

public import proofs.«01_k».proof.Proof.Band.Frame
public import proofs.«01_k».proof.Proof.Band.Blocks

@[expose] public section

set_option maxRecDepth 16384

noncomputable section

namespace Cert.KernelIdeal.Band

open Cert.KernelIdeal Cert.KernelIdeal.Gen
open Idealize.ShloMosaic Idealize.ShloMosaic.TcCoe
open Cert.Dense (row)

/-! ## The body's values at an index -/

section
variable (k : IVec S128x256 1)
variable (x0 x1 x2 x3 x4 x5 : Vec Ideal S128x2048 .bf16) (x6 x7 : Vec Ideal S1x128x16 .f32)

/-- The named mask value is minus infinity. -/
theorem named_bot : (Named.named (F := Ideal) (φ := .f32) κ "mask" 4048155338#32 : EReal) = ⊥ := rfl

/-- A weight over the block's own keys. -/
theorem wH_own (h : Fin 16) (i j : Fin 128) : wH k x0 x1 x2 x6 h (ix2 i ⟨j.val, by omega⟩)
    = Ideal.exp (Scalar.select (k (ix2 i ⟨j.val, by omega⟩))
        ((∑ x : Fin 128, x0 (ix2 i ⟨128 * h.val + x.val, by omega⟩) * x1 (ix2 j ⟨128 * h.val + x.val, by omega⟩)) * Dense.sc) (⊥ : EReal) - x6 (ix3 0 i h)) := by
  unfold wH
  pointwise [k0_pay11, k0_pay8, k0_pay10, cols, stat]
  rw [named_bot]
  rfl

/-- A weight over the keys of the block before. -/
theorem wH_before (h : Fin 16) (i j : Fin 128) : wH k x0 x1 x2 x6 h (ix2 i ⟨128 + j.val, by omega⟩)
    = Ideal.exp (Scalar.select (k (ix2 i ⟨128 + j.val, by omega⟩))
        ((∑ x : Fin 128, x0 (ix2 i ⟨128 * h.val + x.val, by omega⟩) * x2 (ix2 j ⟨128 * h.val + x.val, by omega⟩)) * Dense.sc) (⊥ : EReal) - x6 (ix3 0 i h)) := by
  unfold wH
  pointwise [k0_pay11, k0_pay8, k0_pay10, cols, stat]
  rw [named_bot]
  rfl

/-- A score's gradient over the block's own keys. -/
theorem sH_own (h : Fin 16) (i j : Fin 128) : sH k x0 x1 x2 x3 x4 x5 x6 x7 h (ix2 i ⟨j.val, by omega⟩)
    = wH k x0 x1 x2 x6 h (ix2 i ⟨j.val, by omega⟩) * ((∑ x : Fin 128, x5 (ix2 i ⟨128 * h.val + x.val, by omega⟩) * x3 (ix2 j ⟨128 * h.val + x.val, by omega⟩)) - x7 (ix3 0 i h)) * Dense.sc := by
  unfold sH
  pointwise [k0_pay12, k0_pay10, k0_pay9, cols, stat]
  rfl

/-- A score's gradient over the keys of the block before. -/
theorem sH_before (h : Fin 16) (i j : Fin 128) : sH k x0 x1 x2 x3 x4 x5 x6 x7 h (ix2 i ⟨128 + j.val, by omega⟩)
    = wH k x0 x1 x2 x6 h (ix2 i ⟨128 + j.val, by omega⟩) * ((∑ x : Fin 128, x5 (ix2 i ⟨128 * h.val + x.val, by omega⟩) * x4 (ix2 j ⟨128 * h.val + x.val, by omega⟩)) - x7 (ix3 0 i h)) * Dense.sc := by
  unfold sH
  pointwise [k0_pay12, k0_pay10, k0_pay9, cols, stat]
  rfl

/-- An entry of the gradient of the queries. -/
theorem dqH_at (h : Fin 16) (i l : Fin 128) : dqH k x0 x1 x2 x3 x4 x5 x6 x7 h (ix2 i l)
    = (∑ j : Fin 128, sH k x0 x1 x2 x3 x4 x5 x6 x7 h (ix2 i ⟨j.val, by omega⟩) * x1 (ix2 j ⟨128 * h.val + l.val, by omega⟩) : EReal)
      + ∑ j : Fin 128, sH k x0 x1 x2 x3 x4 x5 x6 x7 h (ix2 i ⟨128 + j.val, by omega⟩) * x2 (ix2 j ⟨128 * h.val + l.val, by omega⟩) := by
  unfold dqH
  pointwise [k0_pay14, k0_pay13, k0_pay10, cols]
  show (_ : EReal) = _
  rfl

/-- An entry of what is carried of the gradient of the keys. -/
theorem ckH_at (h : Fin 16) (i l : Fin 128) : ckH k x0 x1 x2 x3 x4 x5 x6 x7 h (ix2 i l)
    = (∑ j : Fin 128, sH k x0 x1 x2 x3 x4 x5 x6 x7 h (ix2 j ⟨i.val, by omega⟩) * x0 (ix2 j ⟨128 * h.val + l.val, by omega⟩) : EReal) := by
  unfold ckH
  pointwise [k0_pay19, k0_pay15, k0_pay8, cols]

/-- An entry of what is carried of the gradient of the values. -/
theorem cvH_at (h : Fin 16) (i l : Fin 128) : cvH k x0 x1 x2 x5 x6 h (ix2 i l)
    = (∑ j : Fin 128, wH k x0 x1 x2 x6 h (ix2 j ⟨i.val, by omega⟩) * x5 (ix2 j ⟨128 * h.val + l.val, by omega⟩) : EReal) := by
  unfold cvH
  pointwise [k0_pay20, k0_pay16, k0_pay9, cols]

/-- An entry of the gradient of the keys before. -/
theorem dkH_at (y : Vec Ideal S128x2048 .f32) (h : Fin 16) (i l : Fin 128) : dkH k x0 x1 x2 x3 x4 x5 x6 x7 y h (ix2 i l)
    = (y (ix2 i ⟨128 * h.val + l.val, by omega⟩) + ∑ j : Fin 128, sH k x0 x1 x2 x3 x4 x5 x6 x7 h (ix2 j ⟨128 + i.val, by omega⟩) * x0 (ix2 j ⟨128 * h.val + l.val, by omega⟩) : EReal) := by
  unfold dkH
  pointwise [k0_pay17, k0_pay15, k0_pay8, cols]

/-- An entry of the gradient of the values before. -/
theorem dvH_at (y : Vec Ideal S128x2048 .f32) (h : Fin 16) (i l : Fin 128) : dvH k x0 x1 x2 x5 x6 y h (ix2 i l)
    = (y (ix2 i ⟨128 * h.val + l.val, by omega⟩) + ∑ j : Fin 128, wH k x0 x1 x2 x6 h (ix2 j ⟨128 + i.val, by omega⟩) * x5 (ix2 j ⟨128 * h.val + l.val, by omega⟩) : EReal) := by
  unfold dvH
  pointwise [k0_pay18, k0_pay16, k0_pay9, cols]

end

end Cert.KernelIdeal.Band
end
-- ==== Proof.Band.Value.lean ====
module

public import proofs.«01_k».proof.Proof.Band.Payload

@[expose] public section

set_option maxRecDepth 16384

noncomputable section

namespace Cert.KernelIdeal.Band

open Cert.KernelIdeal Cert.KernelIdeal.Gen
open Idealize.ShloMosaic Idealize.ShloMosaic.TcCoe Idealize.SL.Sem
open Cert.Dense (row near)

variable (m : (ℓ : Loc nD τ sig) → Buf (Elt Ideal) ℓ) (c : Dev nD)

/-! ## A computing point's values are the dense ones -/

/-- The grid's second coordinate is the point's number. -/
theorem coord : ∀ t : Fin cfg0.N, ((grid0.coords t) 1).val = t.val := (by decide +kernel : ∀ t : Fin grid0.N, ((grid0.coords t) 1).val = t.val)

/-- The mask's word at an index. -/
theorem mask_at (t : Fin cfg0.N) (i : Fin 128) (j : Fin 256) : k0_pay1 (grid0.coords t) (ix2 i j) = Dense.bandWord t.val i.val j.val := by
  pointwise [k0_pay1]
  rw [coord t]
  rfl

/-- A point's weights. -/
def wAt (t : Fin cfg0.N) (h : Fin 16) : FVec Ideal S128x256 .f32 :=
  wH (k0_pay1 (grid0.coords t)) (iblk m c 0 t) (iblk m c 1 t) (iblk m c 2 t) (iblk m c 6 t) h
/-- A point's gradients of the scores. -/
def sAt (t : Fin cfg0.N) (h : Fin 16) : FVec Ideal S128x256 .bf16 :=
  sH (k0_pay1 (grid0.coords t)) (iblk m c 0 t) (iblk m c 1 t) (iblk m c 2 t) (iblk m c 3 t) (iblk m c 4 t) (iblk m c 5 t) (iblk m c 6 t) (iblk m c 7 t) h

/-- The dense weight and the dense gradient of a score over the arguments. -/
abbrev dP (t u : Fin 4096) (h : Fin 16) : EReal := Dense.P (aq m c) (ak m c) (al m c) t u h
abbrev dD (t u : Fin 4096) (h : Fin 16) : EReal := Dense.D (aq m c) (ak m c) (av m c) (ao m c) (al m c) (ad m c) t u h

theorem cur_val (t : Fin cfg0.N) (ht : t.val < 32) : (cur t).val = t.val := by unfold cur; simp only; omega
theorem cur_pre (t : Fin cfg0.N) (ht : t.val < 32) (h0 : t.val ≠ 0) : (cur t).val = (pre t).val + 1 := by unfold cur pre; simp only; omega
theorem cur_first (t : Fin cfg0.N) (h0 : t.val = 0) : cur t = 0 := Fin.ext (by unfold cur; simp only; rw [h0]; rfl)

theorem wAt_own (t : Fin cfg0.N) (ht : t.val < 32) (h : Fin 16) (i j : Fin 128) :
    wAt m c t h (ix2 i ⟨j.val, by omega⟩) = dP m c (row (cur t) i) (row (cur t) j) h := by
  refine (wH_own _ _ _ _ _ h i j).trans ?_
  simp only [iblk0, iblk1, iblk6]
  refine Dense.exp_select (p := near (row (cur t) i) (row (cur t) j)) ?_ _ _
  refine (mask_at t i ⟨j.val, by omega⟩).trans ?_
  rw [← cur_val t ht]
  exact Dense.bandWord_own (cur t) i j

theorem wAt_before (t : Fin cfg0.N) (ht : t.val < 32) (h0 : t.val ≠ 0) (h : Fin 16) (i j : Fin 128) :
    wAt m c t h (ix2 i ⟨128 + j.val, by omega⟩) = dP m c (row (cur t) i) (row (pre t) j) h := by
  refine (wH_before _ _ _ _ _ h i j).trans ?_
  simp only [iblk0, iblk2, iblk6]
  refine Dense.exp_select (p := near (row (cur t) i) (row (pre t) j)) ?_ _ _
  refine (mask_at t i ⟨128 + j.val, by omega⟩).trans ?_
  rw [← cur_val t ht]
  exact Dense.bandWord_before (cur t) (pre t) (cur_pre t ht h0) i j

theorem wAt_first (t : Fin cfg0.N) (h0 : t.val = 0) (h : Fin 16) (i j : Fin 128) :
    wAt m c t h (ix2 i ⟨128 + j.val, by omega⟩) = (0 : EReal) := by
  refine (wH_before _ _ _ _ _ h i j).trans ?_
  refine (Dense.exp_select (p := False) ?_ _ _).trans (if_neg id)
  refine (mask_at t i ⟨128 + j.val, by omega⟩).trans ?_
  rw [h0, if_neg id]
  exact Dense.bandWord_first i j

theorem sAt_own (t : Fin cfg0.N) (ht : t.val < 32) (h : Fin 16) (i j : Fin 128) :
    sAt m c t h (ix2 i ⟨j.val, by omega⟩) = dD m c (row (cur t) i) (row (cur t) j) h := by
  refine (sH_own _ _ _ _ _ _ _ _ _ h i j).trans ?_
  simp only [iblk5, iblk3, iblk7]
  exact congrArg (fun w : EReal => w * _ * Dense.sc) (wAt_own m c t ht h i j)

theorem sAt_before (t : Fin cfg0.N) (ht : t.val < 32) (h0 : t.val ≠ 0) (h : Fin 16) (i j : Fin 128) :
    sAt m c t h (ix2 i ⟨128 + j.val, by omega⟩) = dD m c (row (cur t) i) (row (pre t) j) h := by
  refine (sH_before _ _ _ _ _ _ _ _ _ h i j).trans ?_
  simp only [iblk5, iblk4, iblk7]
  exact congrArg (fun w : EReal => w * _ * Dense.sc) (wAt_before m c t ht h0 h i j)

theorem sAt_first (t : Fin cfg0.N) (h0 : t.val = 0) (h : Fin 16) (i j : Fin 128) :
    sAt m c t h (ix2 i ⟨128 + j.val, by omega⟩) = (0 : EReal) := by
  refine (sH_before _ _ _ _ _ _ _ _ _ h i j).trans ?_
  refine (congrArg (fun w : EReal => w * _ * Dense.sc) (wAt_first m c t h0 h i j)).trans ?_
  simp only [zero_mul]

/-- Away from the band the dense values are zero. -/
theorem dP_far {t u : Fin 4096} (hn : ¬ near t u) (h : Fin 16) : dP m c t u h = 0 := if_neg hn
theorem dD_far {t u : Fin 4096} (hn : ¬ near t u) (h : Fin 16) : dD m c t u h = 0 := by
  show dP m c t u h * _ * _ = 0
  rw [dP_far m c hn, zero_mul, zero_mul]

abbrev gQ : Fin 4096 → Fin 16 → Fin 128 → EReal := Dense.dq (aq m c) (ak m c) (av m c) (ao m c) (al m c) (ad m c)
abbrev gK : Fin 4096 → Fin 16 → Fin 128 → EReal := Dense.dk (aq m c) (ak m c) (av m c) (ao m c) (al m c) (ad m c)
abbrev gV : Fin 4096 → Fin 16 → Fin 128 → EReal := Dense.dv (aq m c) (ak m c) (ao m c) (al m c)

/-- The head of a column. -/
abbrev hd (l : Fin 2048) : Fin 16 := ⟨l.val / 128, by omega⟩
/-- The lane of a column. -/
abbrev ln (l : Fin 2048) : Fin 128 := ⟨l.val % 128, Nat.mod_lt _ (by decide)⟩

theorem heads_at {α : Type} (f : Fin 16 → S128x128.Idx → α) (i : Fin 128) (l : Fin 2048) : heads f (ix2 i l) = f (hd l) (ix2 i (ln l)) := by
  unfold heads
  refine congrArg (f (hd l)) ?_
  funext a
  match a with
  | 0 => rfl
  | 1 => rfl

/-- A computing point's block, head by head, of the gradient of the queries. -/
theorem dqH_eq (t : Fin cfg0.N) (ht : t.val < 32) (i : Fin 128) (h : Fin 16) (x : Fin 128) :
    dqH (k0_pay1 (grid0.coords t)) (iblk m c 0 t) (iblk m c 1 t) (iblk m c 2 t) (iblk m c 3 t) (iblk m c 4 t) (iblk m c 5 t) (iblk m c 6 t) (iblk m c 7 t) h (ix2 i x) = gQ m c (row (cur t) i) h x := by
  refine (dqH_at _ _ _ _ _ _ _ _ _ h i x).trans ?_
  simp only [iblk1, iblk2]
  have ho : ∀ j : Fin 128, sAt m c t h (ix2 i ⟨j.val, by omega⟩) = dD m c (row (cur t) i) (row (cur t) j) h := sAt_own m c t ht h i
  by_cases h0 : t.val = 0
  · have hb := sAt_first m c t h0 h i
    unfold sAt at ho hb
    simp only [ho, hb, zero_mul, Finset.sum_const_zero, add_zero]
    rw [cur_first t h0]
    exact (Dense.sum_seen_first (fun u => dD m c (row 0 i) u h * ak m c u h x) i fun u hu => by
      rw [dD_far m c hu, zero_mul]).symm
  · have hb := sAt_before m c t ht h0 h i
    unfold sAt at ho hb
    simp only [ho, hb]
    exact (Dense.sum_seen (fun u => dD m c (row (cur t) i) u h * ak m c u h x) (cur t) (pre t) (cur_pre t ht h0) i fun u hu => by
      rw [dD_far m c hu, zero_mul]).symm

/-- A computing point's block of the gradient of the queries. -/
theorem dqAt_eq (t : Fin cfg0.N) (ht : t.val < 32) (i : Fin 128) (l : Fin 2048) :
    dqAt m c t (ix2 i l) = gQ m c (row (cur t) i) (hd l) (ln l) :=
  (heads_at _ i l).trans (dqH_eq m c t ht i (hd l) (ln l))

/-- What a computing point carries of the gradient of the keys: its own part. -/
theorem ckAt_eq (t : Fin cfg0.N) (ht : t.val < 32) (i : Fin 128) (h : Fin 16) (x : Fin 128) (hl : 128 * h.val + x.val < 2048) :
    ckAt m c t (ix2 i ⟨128 * h.val + x.val, hl⟩) = ∑ j : Fin 128, dD m c (row (cur t) j) (row (cur t) i) h * aq m c (row (cur t) j) h x := by
  have hh : hd ⟨128 * h.val + x.val, hl⟩ = h := Fin.ext (by simp only; omega)
  have hx : ln ⟨128 * h.val + x.val, hl⟩ = x := Fin.ext (by simp only; omega)
  refine (heads_at _ i _).trans ?_
  rw [hh, hx]
  refine (ckH_at _ _ _ _ _ _ _ _ _ h i x).trans ?_
  have ho := fun j => sAt_own m c t ht h j i
  unfold sAt at ho
  simp only [iblk0, ho]

/-- What a computing point carries of the gradient of the values: its own part. -/
theorem cvAt_eq (t : Fin cfg0.N) (ht : t.val < 32) (i : Fin 128) (h : Fin 16) (x : Fin 128) (hl : 128 * h.val + x.val < 2048) :
    cvAt m c t (ix2 i ⟨128 * h.val + x.val, hl⟩) = ∑ j : Fin 128, dP m c (row (cur t) j) (row (cur t) i) h * ao m c (row (cur t) j) h x := by
  have hh : hd ⟨128 * h.val + x.val, hl⟩ = h := Fin.ext (by simp only; omega)
  have hx : ln ⟨128 * h.val + x.val, hl⟩ = x := Fin.ext (by simp only; omega)
  refine (heads_at _ i _).trans ?_
  rw [hh, hx]
  refine (cvH_at _ _ _ _ _ _ h i x).trans ?_
  have ho := fun j => wAt_own m c t ht h j i
  unfold wAt at ho
  simp only [iblk5, ho]

theorem cur_prev (t : Fin cfg0.N) (ht : t.val < 32) (h0 : t.val ≠ 0) : cur (prev t) = pre t := Fin.ext (by unfold cur prev pre; simp only; omega)

/-- A computing point's block, head by head, of the gradient of the keys of the block before. -/
theorem dkH_eq (t : Fin cfg0.N) (ht : t.val < 32) (h0 : t.val ≠ 0) (i : Fin 128) (h : Fin 16) (x : Fin 128) :
    dkH (k0_pay1 (grid0.coords t)) (iblk m c 0 t) (iblk m c 1 t) (iblk m c 2 t) (iblk m c 3 t) (iblk m c 4 t) (iblk m c 5 t) (iblk m c 6 t) (iblk m c 7 t) (ckAt m c (prev t)) h (ix2 i x) = gK m c (row (pre t) i) h x := by
  refine (dkH_at _ _ _ _ _ _ _ _ _ _ h i x).trans ?_
  have hb := fun j => sAt_before m c t ht h0 h j i
  unfold sAt at hb
  rw [ckAt_eq m c (prev t) (by unfold prev; simp only; omega), cur_prev t ht h0]
  simp only [iblk0, hb]
  exact (Dense.sum_seeing (fun u => dD m c u (row (pre t) i) h * aq m c u h x) (cur t) (pre t) (cur_pre t ht h0) i fun u hu => by
      rw [dD_far m c hu, zero_mul]).symm

/-- A computing point's block of the gradient of the keys of the block before. -/
theorem dkAt_eq (t : Fin cfg0.N) (ht : t.val < 32) (h0 : t.val ≠ 0) (i : Fin 128) (l : Fin 2048) :
    dkAt m c t (ix2 i l) = gK m c (row (pre t) i) (hd l) (ln l) :=
  (heads_at _ i l).trans (dkH_eq m c t ht h0 i (hd l) (ln l))

/-- A computing point's block, head by head, of the gradient of the values of the block before. -/
theorem dvH_eq (t : Fin cfg0.N) (ht : t.val < 32) (h0 : t.val ≠ 0) (i : Fin 128) (h : Fin 16) (x : Fin 128) :
    dvH (k0_pay1 (grid0.coords t)) (iblk m c 0 t) (iblk m c 1 t) (iblk m c 2 t) (iblk m c 5 t) (iblk m c 6 t) (cvAt m c (prev t)) h (ix2 i x) = gV m c (row (pre t) i) h x := by
  refine (dvH_at _ _ _ _ _ _ _ h i x).trans ?_
  have hb := fun j => wAt_before m c t ht h0 h j i
  unfold wAt at hb
  rw [cvAt_eq m c (prev t) (by unfold prev; simp only; omega), cur_prev t ht h0]
  simp only [iblk5, hb]
  exact (Dense.sum_seeing (fun u => dP m c u (row (pre t) i) h * ao m c u h x) (cur t) (pre t) (cur_pre t ht h0) i fun u hu => by
      rw [dP_far m c hu, zero_mul]).symm

/-- A computing point's block of the gradient of the values of the block before. -/
theorem dvAt_eq (t : Fin cfg0.N) (ht : t.val < 32) (h0 : t.val ≠ 0) (i : Fin 128) (l : Fin 2048) :
    dvAt m c t (ix2 i l) = gV m c (row (pre t) i) (hd l) (ln l) :=
  (heads_at _ i l).trans (dvH_eq m c t ht h0 i (hd l) (ln l))

theorem pre_last (t : Fin cfg0.N) (ht : ¬ t.val < 32) : pre t = 31 := Fin.ext (by
  have h : t.val < 33 := Nat.lt_of_lt_of_eq t.isLt N_0
  unfold pre; simp only
  show t.val - 1 = 31
  omega)
theorem cur_last (t : Fin cfg0.N) (ht : ¬ t.val < 32) : cur (busy t) = 31 := Fin.ext (by
  unfold cur busy; simp only
  show min (min t.val 31) 31 = 31
  omega)
theorem busy_lt (t : Fin cfg0.N) : (busy t).val < 32 := by unfold busy; simp only; omega
theorem cur_busy (t : Fin cfg0.N) : cur (busy t) = cur t := Fin.ext (by unfold cur busy; simp only; omega)

/-- The closing point's block of the gradient of the keys: the last block's. -/
theorem ckAt_last (t : Fin cfg0.N) (ht : ¬ t.val < 32) (i : Fin 128) (l : Fin 2048) :
    k0_pay6 (ckAt m c (busy t)) (ix2 i l) = gK m c (row (pre t) i) (hd l) (ln l) := by
  have e : l = ⟨128 * (hd l).val + (ln l).val, by have := l.isLt; simp only; omega⟩ := Fin.ext (by simp only; omega)
  have h := ckAt_eq m c (busy t) (busy_lt t) i (hd l) (ln l) (by have := l.isLt; simp only; omega)
  rw [← e, cur_last t ht] at h
  pointwise [k0_pay6]
  rw [h, pre_last t ht]
  exact (Dense.sum_seeing_last (fun u => dD m c u (row 31 i) (hd l) * aq m c u (hd l) (ln l)) i fun u hu => by
      rw [dD_far m c hu, zero_mul]).symm

/-- The closing point's block of the gradient of the values: the last block's. -/
theorem cvAt_last (t : Fin cfg0.N) (ht : ¬ t.val < 32) (i : Fin 128) (l : Fin 2048) :
    k0_pay7 (cvAt m c (busy t)) (ix2 i l) = gV m c (row (pre t) i) (hd l) (ln l) := by
  have e : l = ⟨128 * (hd l).val + (ln l).val, by have := l.isLt; simp only; omega⟩ := Fin.ext (by simp only; omega)
  have h := cvAt_eq m c (busy t) (busy_lt t) i (hd l) (ln l) (by have := l.isLt; simp only; omega)
  rw [← e, cur_last t ht] at h
  pointwise [k0_pay7]
  rw [h, pre_last t ht]
  exact (Dense.sum_seeing_last (fun u => dP m c u (row 31 i) (hd l) * ao m c u (hd l) (ln l)) i fun u hu => by
      rw [dP_far m c hu, zero_mul]).symm

/-! ## The arrays after the run -/

/-- Where the results' blocks lie. -/
theorem emb8 (t : Fin cfg0.N) (i : Fin 128) (l : Fin 2048) : (win0_8.blk t).view.emb (ix2 i l) = ix2 (row (cur t) i) l := by
  blk_ext [row, cur, idx t]
theorem emb9 (t : Fin cfg0.N) (i : Fin 128) (l : Fin 2048) : (win0_9.blk t).view.emb (ix2 i l) = ix2 (row (pre t) i) l := by
  blk_ext [row, pre, idx t]
theorem emb10 (t : Fin cfg0.N) (i : Fin 128) (l : Fin 2048) : (win0_10.blk t).view.emb (ix2 i l) = ix2 (row (pre t) i) l := by
  blk_ext [row, pre, idx t]

/-- The first point writes no block of the keys' and the values' gradients back. -/
theorem flush9 : ∀ t : Fin cfg0.N, (cfg0.win 9).flush t = true → t.val ≠ 0 :=
  (by decide +kernel : ∀ t : Fin grid0.N, _)
theorem flush10 : ∀ t : Fin cfg0.N, (cfg0.win 10).flush t = true → t.val ≠ 0 :=
  (by decide +kernel : ∀ t : Fin grid0.N, _)

/-- The gradient of the queries after the run. -/
theorem arr8 : (dats m 0 c).arrAt 8 cfg0.N = fun y : S4096x2048.Idx => (gQ m c (y 0) (hd (y 1)) (ln (y 1)) : EReal) := by
  refine (dats m 0 c).arrAt_eq_of_covers 8 _ (by decide +kernel) fun t hf y => ?_
  blk_simp
  rw [after0_8]
  obtain ⟨i, l, rfl⟩ : ∃ (i : Fin 128) (l : Fin 2048), y = ix2 i l := ⟨y 0, y 1, eq_ix2 y⟩
  have e := emb8 t i l
  refine (dqAt_eq m c (busy t) (busy_lt t) i l).trans ?_
  rw [cur_busy t]
  exact (congrArg (fun z : S4096x2048.Idx => (gQ m c (z 0) (hd (z 1)) (ln (z 1)) : EReal)) e).symm

/-- The gradient of the keys after the run. -/
theorem arr9 : (dats m 0 c).arrAt 9 cfg0.N = fun y : S4096x2048.Idx => (gK m c (y 0) (hd (y 1)) (ln (y 1)) : EReal) := by
  refine (dats m 0 c).arrAt_eq_of_covers 9 _ (by decide +kernel) fun t hf y => ?_
  blk_simp
  rw [after0_9]
  obtain ⟨i, l, rfl⟩ : ∃ (i : Fin 128) (l : Fin 2048), y = ix2 i l := ⟨y 0, y 1, eq_ix2 y⟩
  have e := emb9 t i l
  refine Eq.trans ?_ (congrArg (fun z : S4096x2048.Idx => (gK m c (z 0) (hd (z 1)) (ln (z 1)) : EReal)) e).symm
  by_cases ht : t.val < 32
  · rw [out9_mid m c t (flush9 t hf) ht]
    exact dkAt_eq m c t ht (flush9 t hf) i l
  · rw [out9_last m c t ht]
    exact ckAt_last m c t ht i l

/-- The gradient of the values after the run. -/
theorem arr10 : (dats m 0 c).arrAt 10 cfg0.N = fun y : S4096x2048.Idx => (gV m c (y 0) (hd (y 1)) (ln (y 1)) : EReal) := by
  refine (dats m 0 c).arrAt_eq_of_covers 10 _ (by decide +kernel) fun t hf y => ?_
  blk_simp
  rw [after0_10]
  obtain ⟨i, l, rfl⟩ : ∃ (i : Fin 128) (l : Fin 2048), y = ix2 i l := ⟨y 0, y 1, eq_ix2 y⟩
  have e := emb10 t i l
  refine Eq.trans ?_ (congrArg (fun z : S4096x2048.Idx => (gV m c (z 0) (hd (z 1)) (ln (z 1)) : EReal)) e).symm
  by_cases ht : t.val < 32
  · rw [out10_mid m c t (flush10 t hf) ht]
    exact dvAt_eq m c t ht (flush10 t hf) i l
  · rw [out10_last m c t ht]
    exact cvAt_last m c t ht i l

end Cert.KernelIdeal.Band
end
-- ==== Proof.Band.Reference.lean ====
module

public import proofs.«01_k».proof.Proof.Gen.ReferenceIdeal.Run
public import proofs.«01_k».proof.Proof.Band.Dense

@[expose] public section

set_option maxRecDepth 16384

noncomputable section

namespace Cert.ReferenceIdeal.Band

open Cert.ReferenceIdeal Cert.ReferenceIdeal.Gen Cert.ReferenceIdeal.Value
open Idealize.ShloMosaic Idealize.ShloMosaic.TcCoe

variable (m : (ℓ : Loc nD τ sig) → Buf (Elt Ideal) ℓ) (c : Dev nD)

/-- The arguments, by position, head and lane. -/
def aq (t : Fin 4096) (h : Fin 16) (x : Fin 128) : EReal := m ((c.tc : Thread nD τ).loc main_arg0) (ix3 t h x)
def ak (t : Fin 4096) (h : Fin 16) (x : Fin 128) : EReal := m ((c.tc : Thread nD τ).loc main_arg1) (ix3 t h x)
def av (t : Fin 4096) (h : Fin 16) (x : Fin 128) : EReal := m ((c.tc : Thread nD τ).loc main_arg2) (ix3 t h x)
def ao (t : Fin 4096) (h : Fin 16) (x : Fin 128) : EReal := m ((c.tc : Thread nD τ).loc main_arg3) (ix3 t h x)
def al (t : Fin 4096) (h : Fin 16) : EReal := m ((c.tc : Thread nD τ).loc main_arg4) (ix2 t h)
def ad (t : Fin 4096) (h : Fin 16) : EReal := m ((c.tc : Thread nD τ).loc main_arg5) (ix2 t h)

/-- One weight as the reference writes it. -/
theorem weight (t u : Fin 4096) (h : Fin 16) :
    Ideal.exp (Scalar.select (Dense.refWord (IntOp.subi (BitVec.ofNat 32 t.val) (BitVec.ofNat 32 u.val)))
      ((∑ x, aq m c t h x * ak m c u h x) * Ideal.ofBits FTy.f32 1035273459#32) (Ideal.ofBits FTy.f32 4286578688#32) - al m c t h)
    = Dense.P (aq m c) (ak m c) (al m c) t u h := by
  rw [Dense.neg_inf]
  exact Dense.exp_select (Dense.refWord_eq t u) _ _

/-- One score's gradient as the reference writes it, times a factor. -/
theorem grad (t u : Fin 4096) (h : Fin 16) (b : EReal) :
    Scalar.select (Dense.refWord (IntOp.subi (BitVec.ofNat 32 t.val) (BitVec.ofNat 32 u.val)))
      ((-ad m c t h + ∑ x, ao m c t h x * av m c u h x) *
        Ideal.exp (Scalar.select (Dense.refWord (IntOp.subi (BitVec.ofNat 32 t.val) (BitVec.ofNat 32 u.val)))
      ((∑ x, aq m c t h x * ak m c u h x) * Ideal.ofBits FTy.f32 1035273459#32) (Ideal.ofBits FTy.f32 4286578688#32) - al m c t h)
      * Ideal.ofBits FTy.f32 1035273459#32 * b) (0 : EReal)
    = Dense.D (aq m c) (ak m c) (av m c) (ao m c) (al m c) (ad m c) t u h * b := by
  rw [weight]
  exact Dense.select_grad (Dense.refWord_eq t u) _ _ _ _ _

/-- The head of a column. -/
abbrev hd (l : Fin 2048) : Fin 16 := ⟨l.val / 128, by omega⟩
/-- The lane of a column. -/
abbrev ln (l : Fin 2048) : Fin 128 := ⟨l.val % 128, Nat.mod_lt _ (by decide)⟩

/-- The gradient of the keys, entry by entry. -/
theorem out1 (u : Fin 4096) (l : Fin 2048) :
    res_out1 m c (ix2 u l) = Dense.dk (aq m c) (ak m c) (av m c) (ao m c) (al m c) (ad m c) u (hd l) (ln l) := by
  unfold res_out1 res_main_v44
  pointwise
  show (_ : EReal) = _
  refine Finset.sum_congr rfl fun t _ => ?_
  exact grad m c t u (hd l) (aq m c t (hd l) (ln l))

/-- The gradient of the queries, entry by entry. -/
theorem out0 (t : Fin 4096) (l : Fin 2048) :
    res_out0 m c (ix2 t l) = Dense.dq (aq m c) (ak m c) (av m c) (ao m c) (al m c) (ad m c) t (hd l) (ln l) := by
  unfold res_out0 res_main_v42
  pointwise
  show (_ : EReal) = _
  refine Finset.sum_congr rfl fun u _ => ?_
  exact grad m c t u (hd l) (ak m c u (hd l) (ln l))

/-- The gradient of the values as the reference's run states it. -/
def resV {F : FTy → Type} [FloatOps F] (m : (ℓ : Loc nD τ sig) → Buf (Elt F) ℓ) (c : Dev nD) : Buf (Elt F) ((c.tc : Thread nD τ).loc main_v46) :=
  truncf .bf16 (shapeCast _ (transpose S4096x16x128 [2, 0, 1] (Host.dotGeneral dot_S16x128x4096_S16x4096x4096_S16x128x4096_2_1_1_2_0_0 none (transpose S16x128x4096 [1, 2, 0] (m ((c.tc : Thread nD τ).loc main_arg3)) transposes_S4096x16x128_S16x128x4096_1_2_0) (Host.exp (subf (select (broadcastInDim S16x4096x4096 ![0, 1, 2] bcast_S1x4096x4096_S16x4096x4096_0_1_2 (broadcastInDim S1x4096x4096 ![1, 2] bcast_S4096x4096_S1x4096x4096_1_2 (andi (andi (cmpi .sge (subi (iotaInDim S4096x4096 32 0) (iotaInDim S4096x4096 32 1)) (broadcastInDim S4096x4096 ![] bcast_S_S4096x4096 (constantI S_ 32 0#32))) (cmpi .sle (subi (iotaInDim S4096x4096 32 0) (iotaInDim S4096x4096 32 1)) (broadcastInDim S4096x4096 ![] bcast_S_S4096x4096 (constantI S_ 32 128#32)))) (cmpi .eq (select (andi (cmpi .ne (cmpi .slt (Host.remsi (subi (iotaInDim S4096x4096 32 0) (iotaInDim S4096x4096 32 1)) (broadcastInDim S4096x4096 ![] bcast_S_S4096x4096 (select (cmpi .eq (id (constantI S_ 32 1#32)) (constantI S_ 32 0#32)) (constantI S_ 32 1#32) (id (constantI S_ 32 1#32))))) (broadcastInDim S4096x4096 ![] bcast_S_S4096x4096 (constantI S_ 32 0#32))) (broadcastInDim S4096x4096 ![] bcast_S_S4096x4096 (cmpi .slt (select (cmpi .eq (id (constantI S_ 32 1#32)) (constantI S_ 32 0#32)) (constantI S_ 32 1#32) (id (constantI S_ 32 1#32))) (constantI S_ 32 0#32)))) (cmpi .ne (Host.remsi (subi (iotaInDim S4096x4096 32 0) (iotaInDim S4096x4096 32 1)) (broadcastInDim S4096x4096 ![] bcast_S_S4096x4096 (select (cmpi .eq (id (constantI S_ 32 1#32)) (constantI S_ 32 0#32)) (constantI S_ 32 1#32) (id (constantI S_ 32 1#32))))) (broadcastInDim S4096x4096 ![] bcast_S_S4096x4096 (constantI S_ 32 0#32)))) (addi (Host.remsi (subi (iotaInDim S4096x4096 32 0) (iotaInDim S4096x4096 32 1)) (broadcastInDim S4096x4096 ![] bcast_S_S4096x4096 (select (cmpi .eq (id (constantI S_ 32 1#32)) (constantI S_ 32 0#32)) (constantI S_ 32 1#32) (id (constantI S_ 32 1#32))))) (broadcastInDim S4096x4096 ![] bcast_S_S4096x4096 (select (cmpi .eq (id (constantI S_ 32 1#32)) (constantI S_ 32 0#32)) (constantI S_ 32 1#32) (id (constantI S_ 32 1#32))))) (Host.remsi (subi (iotaInDim S4096x4096 32 0) (iotaInDim S4096x4096 32 1)) (broadcastInDim S4096x4096 ![] bcast_S_S4096x4096 (select (cmpi .eq (id (constantI S_ 32 1#32)) (constantI S_ 32 0#32)) (constantI S_ 32 1#32) (id (constantI S_ 32 1#32)))))) (broadcastInDim S4096x4096 ![] bcast_S_S4096x4096 (constantI S_ 32 0#32)))))) (mulf (Host.dotGeneral dot_S4096x16x128_S4096x16x128_S16x4096x4096_2_2_0_0_1_1 none (m ((c.tc : Thread nD τ).loc main_arg0)) (m ((c.tc : Thread nD τ).loc main_arg1))) (broadcastInDim S16x4096x4096 ![] bcast_S_S16x4096x4096 (constant S_ .f32 0x3DB504F3#32))) (broadcastInDim S16x4096x4096 ![] bcast_S_S16x4096x4096 (id (constant S_ .f32 0xFF800000#32)))) (broadcastInDim S16x4096x4096 ![0, 1, 2] bcast_S16x4096x1_S16x4096x4096_0_1_2 (broadcastInDim S16x4096x1 ![0, 1] bcast_S16x4096_S16x4096x1_0_1 (transpose S16x4096 [1, 0] (m ((c.tc : Thread nD τ).loc main_arg4)) transposes_S4096x16_S16x4096_1_0)))))) transposes_S16x128x4096_S4096x16x128_2_0_1) shapeCasts_S4096x16x128_S4096x2048) bitsLt_bf16_f32

/-- The gradient of the values, entry by entry. -/
theorem out2 (u : Fin 4096) (l : Fin 2048) :
    resV m c (ix2 u l) = Dense.dv (aq m c) (ak m c) (ao m c) (al m c) u (hd l) (ln l) := by
  unfold resV
  pointwise
  show (_ : EReal) = _
  refine Finset.sum_congr rfl fun t _ => ?_
  refine (mul_comm _ _).trans ?_
  exact congrArg (· * ao m c t (hd l) (ln l)) (weight m c t u (hd l))

end Cert.ReferenceIdeal.Band
end
-- ==== Proof.Band.Claims.lean ====
module

public import proofs.«01_k».proof.Defs
public import proofs.«01_k».proof.Proof.Band.Value
public import proofs.«01_k».proof.Proof.Band.Reference
public import proofs.«01_k».proof.Proof.BandBits.Frame
public import Idealize.ShloMosaic.Adequacy
public import Idealize.ShloMosaic.Init

@[expose] public section

set_option maxRecDepth 16384

noncomputable section

namespace Cert.Proof.BandClaims

open Idealize.ShloMosaic Idealize.ShloMosaic.TcCoe Idealize.SL.Sem

/-! The band kernel's claims. -/

theorem frame_p : Cert.quiescent_Kernel := fun m ρ _ => Cert.Kernel.Band.frame m ρ
theorem frame_pi : Cert.quiescent_KernelIdeal := fun m ρ _ => Cert.KernelIdeal.Band.frame m ρ
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The one named value: the mask's number stands for minus infinity. -/
theorem preserves : Cert.preserves_Kernel_KernelIdeal :=
  IdealRules.named_const.statement Cert.KernelIdeal.κ "mask" .f32 0xF149F2CA#32 ⊥ rfl

section
variable (m : (ℓ : Loc Cert.KernelIdeal.nD Cert.KernelIdeal.τ Cert.KernelIdeal.sig) → Buf (Elt Ideal) ℓ)
open Cert.KernelIdeal Cert.KernelIdeal.Band

/-- The kernel's run: its three results are the dense gradients, the arguments unchanged. -/
theorem run_kernel (ρ : Dev nD → PrngReg) : θ_run (defs (F := Ideal)) (onTc (τ := τ) (main (F := Ideal))) ⟨m, fun _ => 0, ρ⟩ (fun r => ∀ c : Dev nD,
      r.2.mem ((c.tc : Thread nD τ).loc main_v12_0) = (fun y : S4096x2048.Idx => (gQ m c (y 0) (hd (y 1)) (ln (y 1)) : EReal))
      ∧ r.2.mem ((c.tc : Thread nD τ).loc main_v12_1) = (fun y : S4096x2048.Idx => (gK m c (y 0) (hd (y 1)) (ln (y 1)) : EReal))
      ∧ r.2.mem ((c.tc : Thread nD τ).loc main_v12_2) = (fun y : S4096x2048.Idx => (gV m c (y 0) (hd (y 1)) (ln (y 1)) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  run_from (run_main m ρ)
  · exact arr8 m _
  · exact arr9 m _
  · exact arr10 m _

end

theorem algebraic : Cert.algebraic_KernelIdeal_ReferenceIdeal := by
  intro m ρ m' ρ' _ hagree
  refine ⟨_, _, _, run_kernel m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  all_goals
    have hq : Cert.ReferenceIdeal.Band.aq m' c = Cert.KernelIdeal.Band.aq m c := by
      funext t h x; exact congrFun (hagree c).1 _
    have hk : Cert.ReferenceIdeal.Band.ak m' c = Cert.KernelIdeal.Band.ak m c := by
      funext t h x; exact congrFun (hagree c).2.1 _
    have hv : Cert.ReferenceIdeal.Band.av m' c = Cert.KernelIdeal.Band.av m c := by
      funext t h x; exact congrFun (hagree c).2.2.1 _
    have ho : Cert.ReferenceIdeal.Band.ao m' c = Cert.KernelIdeal.Band.ao m c := by
      funext t h x; exact congrFun (hagree c).2.2.2.1 _
    have hl : Cert.ReferenceIdeal.Band.al m' c = Cert.KernelIdeal.Band.al m c := by
      funext t h; exact congrFun (hagree c).2.2.2.2.1 _
    have hd : Cert.ReferenceIdeal.Band.ad m' c = Cert.KernelIdeal.Band.ad m c := by
      funext t h; exact congrFun (hagree c).2.2.2.2.2 _
    funext y
    obtain ⟨t, l, rfl⟩ : ∃ (t : Fin 4096) (l : Fin 2048), y = ix2 t l := ⟨y 0, y 1, eq_ix2 y⟩
  · refine (Cert.ReferenceIdeal.Band.out0 m' c t l).trans ?_
    rw [hq, hk, hv, ho, hl, hd]; rfl
  · refine (Cert.ReferenceIdeal.Band.out1 m' c t l).trans ?_
    rw [hq, hk, hv, ho, hl, hd]; rfl
  · refine (Cert.ReferenceIdeal.Band.out2 m' c t l).trans ?_
    rw [hq, hk, ho, hl]; rfl

end Cert.Proof.BandClaims
end
-- ==== Proof.Proj.BwdSteps.lean ====
module

public import proofs.«01_k».proof.Defs
public import proofs.«01_k».proof.Proof.Gen.Kernel2Ideal.Frame
public import Idealize.ShloMosaic.Lib.Pointwise
public import Idealize.ShloMosaic.Lib.Pipeline.ValueKit

@[expose] public section

set_option maxRecDepth 16384

noncomputable section

namespace Cert.Kernel2Ideal.Proj

open Cert.Kernel2Ideal Cert.Kernel2Ideal.Gen
open Idealize.ShloMosaic Idealize.ShloMosaic.TcCoe Idealize.SL.Sem

variable (m : (ℓ : Loc nD τ sig) → Buf (Elt Ideal) ℓ) (c : Dev nD)

/-- The gradient of the projected columns, the input weights, the residual stream, the norm's gain and the residual stream's own gradient. -/
def a0 (i : Fin 4096) (k : Fin 14336) : EReal := m ((c.tc : Thread nD τ).loc main_arg0) (ix2 i k)
def a1 (d : Fin 2048) (k : Fin 14336) : EReal := m ((c.tc : Thread nD τ).loc main_arg1) (ix2 d k)
def a2 (i : Fin 4096) (d : Fin 2048) : EReal := m ((c.tc : Thread nD τ).loc main_arg2) (ix2 i d)
def a3 (d : Fin 2048) : EReal := m ((c.tc : Thread nD τ).loc main_arg3) (ix1 d)
def a4 (i : Fin 4096) (d : Fin 2048) : EReal := m ((c.tc : Thread nD τ).loc main_arg4) (ix2 i d)

/-- Every window's block index at every point. -/
theorem idx : ∀ t : Fin cfg0.N, win0_0.index t = ![t.val / 14, t.val % 14] ∧ win0_1.index t = ![t.val % 14, 0] ∧ win0_2.index t = ![t.val / 14, 0]
    ∧ win0_3.index t = ![0, 0] ∧ win0_4.index t = ![t.val / 14, 0] ∧ win0_5.index t = ![t.val / 14, 0] ∧ win0_6.index t = ![t.val / 14, 0] ∧ win0_7.index t = ![0, 0] :=
  (by decide +kernel : ∀ t : Fin grid0.N, _)

/-- The operands, as the call finds them. -/
theorem V0 (y : S4096x14336.Idx) : V m c main_v0 y = a0 m c (y 0) (y 1) := by
  unfold a0
  entry_read
  pointwise
theorem V2 (y : S14336x2048.Idx) : V m c main_v2 y = a1 m c (y 1) (y 0) := by
  unfold a1
  entry_read
  pointwise
theorem V3 (y : S1x2048.Idx) : V m c main_v3 y = a3 m c (y 1) := by
  unfold a3
  entry_read
  pointwise
theorem Vx (y : S4096x2048.Idx) : V m c main_arg2 y = a2 m c (y 0) (y 1) := by
  unfold a2
  rw [V_main_arg2 m c]
  exact congrArg _ (eq_ix2 y)
theorem Vo (y : S4096x2048.Idx) : V m c main_arg4 y = a4 m c (y 0) (y 1) := by
  unfold a4
  rw [V_main_arg4 m c]
  exact congrArg _ (eq_ix2 y)

/-- The row that a block's row is, at a point. -/
abbrev row (t : Fin cfg0.N) (r : Fin 512) : Fin 4096 := ⟨t.val / 14 * 512 + r.val, by have := lt_of_lt_of_eq t.isLt N_0; omega⟩

/-- One product of the contraction, and the sum of the first `n` of them. -/
def term (i : Fin 4096) (d : Fin 2048) (k : ℕ) : EReal := if h : k < 14336 then a0 m c i ⟨k, h⟩ * a1 m c d ⟨k, h⟩ else 0
def psum (i : Fin 4096) (d : Fin 2048) (n : ℕ) : EReal := ∑ k ∈ Finset.range n, term m c i d k

/-- What one point adds. -/
def part (t : Fin cfg0.N) (r : Fin 512) (d : Fin 2048) : EReal := ∑ k ∈ Finset.range 1024, term m c (row t r) d (t.val % 14 * 1024 + k)

theorem part_eq (t : Fin cfg0.N) (y : S512x2048.Idx) : k0_pay1 (iblk m c 0 t) (iblk m c 1 t) y = part m c t (y 0) (y 1) := by
  pointwise [k0_pay1]
  unfold part
  rw [Finset.sum_range]
  show (_ : EReal) = _
  refine Finset.sum_congr rfl fun k _ => ?_
  unfold term
  rw [dif_pos (by have := k.isLt; omega)]
  refine congrArg₂ (· * · : EReal → EReal → EReal) ((V0 m c _).trans ?_) ((V2 m c _).trans ?_)
  · refine congrArg₂ (a0 m c) (Fin.ext ?_) (Fin.ext ?_) <;> (blk_simp [idx t, row]; try omega)
  · refine congrArg₂ (a1 m c) (Fin.ext ?_) (Fin.ext ?_) <;> (blk_simp [idx t]; try omega)

theorem stepA (t : Fin cfg0.N) (h : t.val % 14 = 0) (y : S512x2048.Idx) : (outsAt0 m c t.val t.isLt).1 y = part m c t (y 0) (y 1) := by
  rw [← part_eq]
  by_cases h2 : t.val % 112 = 0
  · rw [outsAt0_A m c t h (by omega) h2 (by omega)]
    frame_out
  · rw [outsAt0_D m c t h (by omega) h2 (by omega)]
    frame_out

theorem stepB (t : Fin cfg0.N) (h : t.val % 14 ≠ 0) (h' : t.val % 14 ≠ 13) (y : S512x2048.Idx) :
    (outsAt0 m c t.val t.isLt).1 y = ((outsAt0 m c (t.val - 1) (Nat.lt_of_le_of_lt (Nat.sub_le _ _) t.isLt)).1 y + part m c t (y 0) (y 1) : EReal) := by
  rw [← part_eq]
  rw [outsAt0_B m c t h (by omega) (by omega) h']
  frame_out
  pointwise [k0_pay2]

theorem keepA (t : Fin cfg0.N) (h2 : t.val % 112 = 0) (y : S1x2048.Idx) : (outsAt0 m c t.val t.isLt).2.2 y = (0 : EReal) := by
  rw [outsAt0_A m c t (by omega) (by omega) h2 (by omega)]
  frame_out
  pointwise [k0_pay3]

theorem keepB (t : Fin cfg0.N) (h2 : t.val % 112 ≠ 0) (h' : t.val % 14 ≠ 13) :
    (outsAt0 m c t.val t.isLt).2.2 = (outsAt0 m c (t.val - 1) (Nat.lt_of_le_of_lt (Nat.sub_le _ _) t.isLt)).2.2 := by
  by_cases h : t.val % 14 = 0
  · rw [outsAt0_D m c t h (by omega) h2 (by omega)]
    rfl
  · rw [outsAt0_B m c t h (by omega) h2 h']
    rfl

/-- The blocks of the residual stream, of its gradient and of the gain. -/
theorem blk2 (t : Fin cfg0.N) (y : S512x2048.Idx) : iblk m c 2 t y = a2 m c (row t (y 0)) (y 1) := by
  refine (Vx m c _).trans ?_
  refine congrArg₂ (a2 m c) (Fin.ext ?_) (Fin.ext ?_) <;> (blk_simp [idx t, row]; try omega)
theorem blk3 (t : Fin cfg0.N) (y : S1x2048.Idx) : iblk m c 3 t y = a3 m c (y 1) := by
  refine (V3 m c _).trans ?_
  refine congrArg (a3 m c) (Fin.ext ?_) <;> (blk_simp [idx t]; try omega)
theorem blk4 (t : Fin cfg0.N) (y : S512x2048.Idx) : iblk m c 4 t y = a4 m c (row t (y 0)) (y 1) := by
  refine (Vo m c _).trans ?_
  refine congrArg₂ (a4 m c) (Fin.ext ?_) (Fin.ext ?_) <;> (blk_simp [idx t, row]; try omega)

/-- The reciprocal root of a row's mean square. -/
def rs (i : Fin 4096) : EReal :=
  Ideal.rsqrt (Ideal.div (∑ x : Fin 2048, a2 m c i x * a2 m c i x) (Ideal.ofBits FTy.f32 1157627904#32) + Ideal.ofBits FTy.f32 897988541#32)

/-- What the call makes of a row of the normed stream's gradient. -/
def back (dh : Fin 2048 → EReal) (i : Fin 4096) (d : Fin 2048) : EReal :=
  rs m c i * (dh d * a3 m c d - a2 m c i d * rs m c i * Ideal.div (∑ x : Fin 2048, dh x * a3 m c x * (a2 m c i x * rs m c i)) (Ideal.ofBits FTy.f32 1157627904#32)) + a4 m c i d

theorem stepC7 (t : Fin cfg0.N) (h' : t.val % 14 = 13) (y : S1x2048.Idx) :
    (outsAt0 m c t.val t.isLt).2.2 y = ((outsAt0 m c (t.val - 1) (Nat.lt_of_le_of_lt (Nat.sub_le _ _) t.isLt)).2.2 y
      + ∑ r : Fin 512, ((outsAt0 m c (t.val - 1) (Nat.lt_of_le_of_lt (Nat.sub_le _ _) t.isLt)).1 (ix2 r (y 1)) + part m c t r (y 1)) * (a2 m c (row t r) (y 1) * rs m c (row t r)) : EReal) := by
  rw [outsAt0_C m c t (by omega) (by omega) (by omega) h']
  frame_out
  pointwise [k0_pay7, k0_pay4, k0_pay6, k0_pay5, k0_pay2]
  simp only [part_eq, blk2]
  rfl

theorem stepC5 (t : Fin cfg0.N) (h' : t.val % 14 = 13) (y : S512x2048.Idx) :
    (outsAt0 m c t.val t.isLt).1 y = back m c (fun x => ((outsAt0 m c (t.val - 1) (Nat.lt_of_le_of_lt (Nat.sub_le _ _) t.isLt)).1 (ix2 (y 0) x) + part m c t (y 0) x : EReal)) (row t (y 0)) (y 1) := by
  rw [outsAt0_C m c t (by omega) (by omega) (by omega) h']
  frame_out
  obtain ⟨a, b, rfl⟩ : ∃ (a : Fin 512) (b : Fin 2048), y = ix2 a b := ⟨y 0, y 1, eq_ix2 y⟩
  pointwise [k0_pay8, k0_pay4, k0_pay6, k0_pay5, k0_pay2]
  simp only [part_eq, blk2, blk3, blk4]
  rfl

theorem stepC6 (t : Fin cfg0.N) (h' : t.val % 14 = 13) (y : S512x2048.Idx) :
    (outsAt0 m c t.val t.isLt).2.1 y = (outsAt0 m c t.val t.isLt).1 y := by
  rw [outsAt0_C m c t (by omega) (by omega) (by omega) h']
  frame_out
  pointwise [k0_pay9]

/-- The gradient of the normed stream. -/
def dh (i : Fin 4096) (d : Fin 2048) : EReal := ∑ k : Fin 14336, a0 m c i k * a1 m c d k

theorem psum_all (i : Fin 4096) (d : Fin 2048) : psum m c i d 14336 = dh m c i d := by
  unfold psum dh
  rw [Finset.sum_range]
  exact Finset.sum_congr rfl fun k _ => dif_pos k.isLt

theorem psum_step (t : Fin cfg0.N) (r : Fin 512) (d : Fin 2048) :
    psum m c (row t r) d (t.val % 14 * 1024) + part m c t r d = psum m c (row t r) d ((t.val % 14 + 1) * 1024) := by
  rw [Nat.succ_mul]
  exact (Finset.sum_range_add _ _ _).symm

/-- What the first result's block holds before a row block's last point. -/
theorem acc : ∀ (n : ℕ) (hn : n < cfg0.N), n % 14 ≠ 13 → ∀ y : S512x2048.Idx,
    (outsAt0 m c n hn).1 y = psum m c (row ⟨n, hn⟩ (y 0)) (y 1) ((n % 14 + 1) * 1024)
  | n, hn, h, y => by
    by_cases h0 : n % 14 = 0
    · refine (stepA m c ⟨n, hn⟩ h0 y).trans ?_
      rw [← psum_step m c ⟨n, hn⟩ (y 0) (y 1)]
      show _ = psum m c _ _ (n % 14 * 1024) + _
      rw [h0]
      unfold psum
      simp
    · refine (stepB m c ⟨n, hn⟩ h0 h y).trans ?_
      rw [← psum_step m c ⟨n, hn⟩ (y 0) (y 1)]
      refine congrArg (· + _ : EReal → EReal) ?_
      refine (acc (n - 1) _ (by omega) y).trans ?_
      have e : row ⟨n - 1, Nat.lt_of_le_of_lt (Nat.sub_le _ _) hn⟩ (y 0) = row ⟨n, hn⟩ (y 0) := Fin.ext (by show (n - 1) / 14 * 512 + _ = n / 14 * 512 + _; omega)
      rw [e]
      show psum m c _ _ _ = psum m c _ _ (n % 14 * 1024)
      congr 1
      omega

/-- The whole contraction, at a row block's last point. -/
theorem acc_last (t : Fin cfg0.N) (h : t.val % 14 = 13) (r : Fin 512) (d : Fin 2048) :
    ((outsAt0 m c (t.val - 1) (Nat.lt_of_le_of_lt (Nat.sub_le _ _) t.isLt)).1 (ix2 r d) + part m c t r d : EReal) = dh m c (row t r) d := by
  rw [acc m c (t.val - 1) _ (by omega), ← psum_all]
  have e : row ⟨t.val - 1, Nat.lt_of_le_of_lt (Nat.sub_le _ _) t.isLt⟩ r = row t r := Fin.ext (by show (t.val - 1) / 14 * 512 + _ = t.val / 14 * 512 + _; omega)
  show psum m c (row ⟨t.val - 1, _⟩ r) d _ + _ = _
  rw [e]
  have := psum_step m c t r d
  rw [h] at this
  rw [show (t.val - 1) % 14 = 12 by omega]
  exact this

/-- One row's part of the gain's gradient, and the sum of the first `n` rows' parts. -/
def gterm (d : Fin 2048) (i : ℕ) : EReal := if h : i < 4096 then dh m c ⟨i, h⟩ d * (a2 m c ⟨i, h⟩ d * rs m c ⟨i, h⟩) else 0
def gsum (d : Fin 2048) (n : ℕ) : EReal := ∑ i ∈ Finset.range n, gterm m c d i

/-- What the third result's block holds after each point. -/
theorem gacc : ∀ (n : ℕ) (hn : n < cfg0.N) (y : S1x2048.Idx), (outsAt0 m c n hn).2.2 y = gsum m c (y 1) ((n + 1) / 14 * 512)
  | n, hn, y => by
    have hN : n < 112 := lt_of_lt_of_eq hn N_0
    by_cases h0 : n % 112 = 0
    · refine (keepA m c ⟨n, hn⟩ h0 y).trans ?_
      rw [show (n + 1) / 14 * 512 = 0 by omega]
      unfold gsum
      simp
    by_cases h : n % 14 = 13
    · refine (stepC7 m c ⟨n, hn⟩ h y).trans ?_
      rw [show (n + 1) / 14 * 512 = (n - 1 + 1) / 14 * 512 + 512 by omega]
      unfold gsum
      rw [Finset.sum_range_add]
      refine congrArg₂ (· + · : EReal → EReal → EReal) (gacc (n - 1) _ y) ?_
      rw [Finset.sum_range]
      refine Finset.sum_congr rfl fun r _ => ?_
      refine (congrArg (· * (a2 m c (row ⟨n, hn⟩ r) (y 1) * rs m c (row ⟨n, hn⟩ r)) : EReal → EReal) (acc_last m c ⟨n, hn⟩ h r (y 1))).trans ?_
      unfold gterm
      rw [dif_pos (by have := r.isLt; omega)]
      have e : row ⟨n, hn⟩ r = ⟨(n - 1 + 1) / 14 * 512 + r.val, by have := r.isLt; omega⟩ := Fin.ext (by show n / 14 * 512 + _ = (n - 1 + 1) / 14 * 512 + _; omega)
      rw [e]
    · rw [keepB m c ⟨n, hn⟩ h0 h]
      refine (gacc (n - 1) _ y).trans ?_
      rw [show (n - 1 + 1) / 14 = (n + 1) / 14 by omega]

/-- The three results after the run. -/
theorem arr5 : (dats m 0 c).arrAt 5 cfg0.N = fun y : S4096x2048.Idx => back m c (dh m c (y 0)) (y 0) (y 1) := by
  refine (dats m 0 c).arrAt_eq_of_covers 5 _ (by decide +kernel) fun t hf y => ?_
  have h : t.val % 14 = 13 := (flush0_5 t).mp hf
  blk_simp
  rw [after0_5, stepC5 m c t h]
  have e : (fun x => ((outsAt0 m c (t.val - 1) (Nat.lt_of_le_of_lt (Nat.sub_le _ _) t.isLt)).1 (ix2 (y 0) x) + part m c t (y 0) x : EReal)) = dh m c (row t (y 0)) := funext fun x => acc_last m c t h _ x
  refine Eq.trans ?_ (congrArg₂ (fun i j => back m c (dh m c i) i j) (Fin.ext ?_ : row t (y 0) = _) (Fin.ext ?_ : y 1 = _))
  · exact congrArg (fun f => back m c f _ _) e
  · blk_simp [idx t, row]
  · blk_simp [idx t]
theorem arr6 : (dats m 0 c).arrAt 6 cfg0.N = fun y : S4096x2048.Idx => back m c (dh m c (y 0)) (y 0) (y 1) := by
  refine (dats m 0 c).arrAt_eq_of_covers 6 _ (by decide +kernel) fun t hf y => ?_
  have h : t.val % 14 = 13 := (flush0_6 t).mp hf
  blk_simp
  rw [after0_6, stepC6 m c t h, stepC5 m c t h]
  have e : (fun x => ((outsAt0 m c (t.val - 1) (Nat.lt_of_le_of_lt (Nat.sub_le _ _) t.isLt)).1 (ix2 (y 0) x) + part m c t (y 0) x : EReal)) = dh m c (row t (y 0)) := funext fun x => acc_last m c t h _ x
  refine Eq.trans ?_ (congrArg₂ (fun i j => back m c (dh m c i) i j) (Fin.ext ?_ : row t (y 0) = _) (Fin.ext ?_ : y 1 = _))
  · exact congrArg (fun f => back m c f _ _) e
  · blk_simp [idx t, row]
  · blk_simp [idx t]
theorem arr7 : (dats m 0 c).arrAt 7 cfg0.N = fun y : S1x2048.Idx => (∑ i : Fin 4096, dh m c i (y 1) * (a2 m c i (y 1) * rs m c i) : EReal) := by
  refine (dats m 0 c).arrAt_eq_of_covers 7 _ (by decide +kernel) fun t hf y => ?_
  have h : t.val = 111 := by
    have h0 := (flush0_7 t).mp hf
    have h1 : t.val < 112 := lt_of_lt_of_eq t.isLt N_0
    omega
  blk_simp
  rw [after0_7, gacc]
  unfold gsum
  rw [h, show (111 + 1) / 14 * 512 = 4096 by norm_num, Finset.sum_range]
  show (_ : EReal) = _
  refine Finset.sum_congr rfl fun i _ => ?_
  have e : y 1 = (((cfg0.win 7).blk t).view.emb y) 1 := Fin.ext (by blk_simp [idx t])
  rw [← e]
  exact dif_pos i.isLt

end Cert.Kernel2Ideal.Proj
end
-- ==== Proof.Proj.InProjBwd.lean ====
module

public import proofs.«01_k».proof.Defs
public import proofs.«01_k».proof.Proof.Proj.BwdSteps
public import proofs.«01_k».proof.Proof.Gen.Kernel2.Frame
public import proofs.«01_k».proof.Proof.Gen.Reference2Ideal.Run
public import Idealize.ShloMosaic.Lib.Pointwise
public import Idealize.ShloMosaic.Lib.Pipeline.ValueKit

@[expose] public section

set_option maxRecDepth 16384

noncomputable section

namespace Cert.Proof.InProjBwd

open Idealize.ShloMosaic Idealize.ShloMosaic.TcCoe Idealize.SL.Sem

/-! The claims of the input projection's gradient. -/

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2.2.2,
      Idealize.ShloMosaic.sem_eq_zero_of_no_sems (by decide) r.2⟩)
    (Cert.Reference2Ideal.Value.run (F := Ideal) m ρ)

theorem preserves : Cert.preserves_Kernel2_Kernel2Ideal := trivial

/-! ## Real numbers -/

/-- The constants' values. -/
theorem c2048 : Ideal.ofBits FTy.f32 1157627904#32 = ((2048 : ℝ) : EReal) := by
  simp [Ideal.ofBits, Ideal.ieee]
  rw [← EReal.coe_mul]
  norm_num
theorem chalf : Ideal.ofBits FTy.f32 3204448256#32 = ((-(1 / 2) : ℝ) : EReal) := by
  simp [Ideal.ofBits, Ideal.ieee]
  rw [← EReal.coe_mul]
  norm_num
theorem ceps : ∃ e : ℝ, 0 < e ∧ Ideal.ofBits FTy.f32 897988541#32 = (e : EReal) := by
  refine ⟨_, ?_, by simp [Ideal.ofBits, Ideal.ieee]; rfl⟩
  norm_num
/-- A nonnegative real factor moves out of a sum. -/
theorem sum_mul_coe {n : ℕ} (f : Fin n → EReal) (r : ℝ) (hr : 0 ≤ r) : ∑ k, f k * (r : EReal) = (∑ k, f k) * (r : EReal) := by
  induction n with
  | zero => simp
  | succ n ih =>
    rw [Fin.sum_univ_castSucc, Fin.sum_univ_castSucc, ih,
      EReal.right_distrib_of_nonneg_of_ne_top (EReal.coe_nonneg.2 hr) (EReal.coe_ne_top r)]

/-- Twice the half of a negative multiple. -/
theorem twice (p : EReal) (k : ℝ) (hk : 0 ≤ k) : p * ((-(k / 2) : ℝ) : EReal) + p * ((-(k / 2) : ℝ) : EReal) = -(p * (k : EReal)) := by
  have h : (0 : EReal) ≤ ((k / 2 : ℝ) : EReal) := EReal.coe_nonneg.2 (by positivity)
  rw [EReal.coe_neg, mul_neg, ← neg_mul, ← EReal.left_distrib_of_nonneg h h, ← EReal.coe_add, add_halves, neg_mul]

theorem sq_nonneg' (x : EReal) : 0 ≤ x * x := by
  induction x with
  | bot => simp
  | coe r => rw [← EReal.coe_mul]; exact EReal.coe_nonneg.2 (mul_self_nonneg r)
  | top => simp

/-- The two forms of a row's gradient. -/
theorem row_eq (X G D : Fin 2048 → EReal) (o : EReal) (b : Fin 2048) (v r t : EReal)
    (hv : v = Ideal.div (∑ x, X x * X x) (Ideal.ofBits FTy.f32 1157627904#32) + Ideal.ofBits FTy.f32 897988541#32)
    (hr : r = Ideal.rsqrt v)
    (ht : t = Ideal.div ((∑ x, X x * (D x * G x)) * (Ideal.ofBits FTy.f32 3204448256#32 * Ideal.div r v)) (Ideal.ofBits FTy.f32 1157627904#32)) :
    o + D b * G b * r + X b * t + t * X b
      = r * (D b * G b - X b * r * Ideal.div (∑ x, D x * G x * (X x * r)) (Ideal.ofBits FTy.f32 1157627904#32)) + o := by
  obtain ⟨e, he, hE⟩ := ceps
  have n0 : (2048 : ℝ) ≠ 0 := by norm_num
  have hs : 0 ≤ ∑ x, X x * X x := Finset.sum_nonneg fun x _ => sq_nonneg' _
  rw [c2048, hE, Ideal.div_coe n0] at hv
  rw [c2048, chalf, Ideal.div_coe n0] at ht
  rw [c2048, Ideal.div_coe n0]
  generalize (∑ x, X x * X x) = s at hs hv
  induction s with
  | bot => simp at hs
  | top =>
    have e1 : v = ⊤ := by
      rw [hv, EReal.top_mul_coe_of_pos (by norm_num), EReal.top_add_coe]
    rw [e1] at hr ht
    rw [Ideal.rsqrt_top] at hr
    rw [hr] at ht ⊢
    have e2 : t = 0 := by
      rw [ht]
      simp [Ideal.div]
    rw [e2]
    simp
  | coe s =>
    have hs := EReal.coe_nonneg.1 hs
    obtain ⟨v', hv0, hv'⟩ : ∃ v' : ℝ, 0 < v' ∧ v = (v' : EReal) :=
      ⟨s * (1 / 2048) + e, by positivity, by rw [hv, ← EReal.coe_mul, ← EReal.coe_add]⟩
    rw [hv', Ideal.rsqrt_coe, if_neg (not_lt.2 hv0.le), if_neg hv0.ne'] at hr
    rw [hv', Ideal.div_coe hv0.ne'] at ht
    have hq0 : 0 < (√v')⁻¹ := by positivity
    have hw : 1 / v' = (√v')⁻¹ * (√v')⁻¹ := by
      rw [← mul_inv, Real.mul_self_sqrt hv0.le, one_div]
    rw [hw] at ht
    generalize (√v')⁻¹ = q at hr ht hq0
    rw [hr] at ht ⊢
    have hsum : ∑ x, D x * G x * (X x * (q : EReal)) = (∑ x, X x * (D x * G x)) * (q : EReal) := by
      rw [← sum_mul_coe _ q hq0.le]
      exact Finset.sum_congr rfl fun x _ => by ac_rfl
    rw [hsum]
    generalize (∑ x, X x * (D x * G x)) = S at ht
    have hx : X b * t = X b * S * ((-((q * q * q * (1 / 2048)) / 2) : ℝ) : EReal) := by
      rw [ht, ← EReal.coe_mul, ← EReal.coe_mul, mul_assoc S, ← EReal.coe_mul, ← mul_assoc]
      refine congrArg (fun z : ℝ => X b * S * (z : EReal)) ?_
      ring
    have hy : (q : EReal) * (X b * (q : EReal) * (S * (q : EReal) * ((1 / 2048 : ℝ) : EReal))) = X b * S * ((q * q * q * (1 / 2048) : ℝ) : EReal) := by
      rw [EReal.coe_mul, EReal.coe_mul, EReal.coe_mul]
      ac_rfl
    rw [mul_comm t, hx, add_assoc, twice _ _ (by positivity), sub_eq_add_neg,
      EReal.left_distrib_of_nonneg_of_ne_top (EReal.coe_nonneg.2 hq0.le) (EReal.coe_ne_top q), mul_neg, hy, mul_comm (q : EReal)]
    ac_rfl

section
variable (m : (ℓ : Loc Cert.Kernel2Ideal.nD Cert.Kernel2Ideal.τ Cert.Kernel2Ideal.sig) → Buf (Elt Ideal) ℓ) (c : Dev Cert.Kernel2Ideal.nD)
open Cert.Kernel2Ideal.Proj

/-- The reference's form of a row's gradient. -/
theorem back_ref (i : Fin 4096) (b : Fin 2048) (t : EReal)
    (ht : t = Ideal.div ((∑ x, a2 m c i x * (dh m c i x * a3 m c x)) * (Ideal.ofBits FTy.f32 3204448256#32 * Ideal.div (rs m c i)
      (Ideal.div (∑ x : Fin 2048, a2 m c i x * a2 m c i x) (Ideal.ofBits FTy.f32 1157627904#32) + Ideal.ofBits FTy.f32 897988541#32))) (Ideal.ofBits FTy.f32 1157627904#32)) :
    a4 m c i b + dh m c i b * a3 m c b * rs m c i + a2 m c i b * t + t * a2 m c i b = back m c (dh m c i) i b :=
  row_eq _ _ _ _ b _ _ t rfl rfl ht

end

/-- The call's results are the reference's. -/
theorem algebraic : Cert.algebraic_Kernel2Ideal_Reference2Ideal := by
  pair_intro
  · run_from (Cert.Kernel2Ideal.Gen.run_main m g)
  · run_from (Cert.Reference2Ideal.Value.run (F := Ideal) m' g')
    · rw [Cert.Kernel2Ideal.Proj.arr5]
      funext y
      obtain ⟨a, b, rfl⟩ : ∃ (a : Fin 4096) (b : Fin 2048), y = ix2 a b := ⟨y 0, y 1, eq_ix2 y⟩
      unfold Cert.Reference2Ideal.Value.res_main_v38
      rw [(hagree c).1, (hagree c).2.1, (hagree c).2.2.1, (hagree c).2.2.2.1, (hagree c).2.2.2.2]
      pointwise
      rw [Fin.sum_univ_one]
      exact back_ref m c a b _ rfl
    · rw [Cert.Kernel2Ideal.Proj.arr6]
      funext y
      obtain ⟨a, b, rfl⟩ : ∃ (a : Fin 4096) (b : Fin 2048), y = ix2 a b := ⟨y 0, y 1, eq_ix2 y⟩
      unfold Cert.Reference2Ideal.Value.res_main_v39
      rw [(hagree c).1, (hagree c).2.1, (hagree c).2.2.1, (hagree c).2.2.2.1, (hagree c).2.2.2.2]
      pointwise
      rw [Fin.sum_univ_one]
      exact back_ref m c a b _ rfl
    · rw [Cert.Kernel2Ideal.Proj.arr7]
      funext y
      obtain ⟨a, b, rfl⟩ : ∃ (a : Fin 1) (b : Fin 2048), y = ix2 a b := ⟨y 0, y 1, eq_ix2 y⟩
      pointwise
      show (_ : EReal) = _
      rw [Fin.sum_univ_one]
      refine Finset.sum_congr rfl fun i _ => ?_
      exact mul_comm (_ : EReal) _

end Cert.Proof.InProjBwd
end
-- ==== Proof.Proj.Frame.lean ====
module

public import proofs.«01_k».proof.Proof.Gen.Kernel3Ideal.Frame
public import proofs.«01_k».proof.Proof.Gen.Kernel3Ideal.Skeleton
public import proofs.«01_k».proof.Proof.Gen.Kernel3Ideal.Points
public import Idealize.ShloMosaic.Lib.Pipeline.TableIdle
public import Idealize.ShloMosaic.Lib.VecWindow
public import Idealize.ShloMosaic.Lib.Claim
public import Idealize.ShloMosaic.Lib.Pipeline.ValueKit

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch, and where the two results it feeds are left alone -/

/-- The body's test: is this the first column block of the row block? -/
abbrev cond0_0 (i : grid0.Coords) : Prop := k0_cond1 i = 1#1

/-- It holds at every eighth point. -/
theorem hcond0_0 : ∀ t : Fin cfg0.N, cond0_0 (grid0.coords t) ↔ t.val % 8 = 0 :=
  (by decide +kernel : ∀ t : Fin grid0.N, cond0_0 (grid0.coords t) ↔ t.val % 8 = 0)

/-- The product's block is stored at every point. -/
theorem live3 : ∀ t : Fin cfg0.N, cfg0.idle 3 (grid0.coords t) = false := by decide +kernel
/-- The normed rows are stored at a row block's first point, -/
theorem live4 : ∀ t : Fin cfg0.N, t.val % 8 = 0 → cfg0.idle 4 (grid0.coords t) = false :=
  (by decide +kernel : ∀ t : Fin grid0.N, t.val % 8 = 0 → cfg0.idle 4 (grid0.coords t) = false)
/-- and left alone at the others. -/
theorem idle4 : ∀ t : Fin cfg0.N, t.val % 8 ≠ 0 → cfg0.idle 4 (grid0.coords t) = true :=
  (by decide +kernel : ∀ t : Fin grid0.N, t.val % 8 ≠ 0 → cfg0.idle 4 (grid0.coords t) = true)
/-- Their transpose is stored at a row block's first point, -/
theorem live5 : ∀ t : Fin cfg0.N, t.val % 8 = 0 → cfg0.idle 5 (grid0.coords t) = false :=
  (by decide +kernel : ∀ t : Fin grid0.N, t.val % 8 = 0 → cfg0.idle 5 (grid0.coords t) = false)
/-- and left alone at the others. -/
theorem idle5 : ∀ t : Fin cfg0.N, t.val % 8 ≠ 0 → cfg0.idle 5 (grid0.coords t) = true :=
  (by decide +kernel : ∀ t : Fin grid0.N, t.val % 8 ≠ 0 → cfg0.idle 5 (grid0.coords t) = true)

/-- The normed rows' buffer holds nothing yet at a row block's first point only. -/
theorem fresh4 : ∀ n, n ≤ cfg0.N → cfg0.fresh 4 n = decide (n % 8 = 0) :=
  cfg0.fresh_tab 4 (fun n => decide (n % 8 = 0)) rfl
    (by decide +kernel : ∀ t : Fin grid0.N, decide ((t.val + 1) % 8 = 0) = ((cfg0.win 4).flush t || (cfg0.idle 4 (cfg0.grid.coords t) && decide (t.val % 8 = 0))))
/-- So for their transpose. -/
theorem fresh5 : ∀ n, n ≤ cfg0.N → cfg0.fresh 5 n = decide (n % 8 = 0) :=
  cfg0.fresh_tab 5 (fun n => decide (n % 8 = 0)) rfl
    (by decide +kernel : ∀ t : Fin grid0.N, decide ((t.val + 1) % 8 = 0) = ((cfg0.win 5).flush t || (cfg0.idle 5 (cfg0.grid.coords t) && decide (t.val % 8 = 0))))

/-! ## The buffers the body runs on -/

/-- The buffer of window 0 at point `t`. -/
abbrev ms0_0 (t : Fin cfg0.N) : Memref sig .tc .vmem S512x2048 .f32 := win0_0.stage (cfg0.slots t 0)
/-- It is a whole buffer. -/
abbrev hs0_0 (t : Fin cfg0.N) : (ms0_0 t).IsWhole := hstage0_0 ((cfg0.slots t 0).cast nbuf0_0)
/-- The buffer of window 1 at point `t`. -/
abbrev ms0_1 (t : Fin cfg0.N) : Memref sig .tc .vmem S1x2048 .f32 := win0_1.stage (cfg0.slots t 1)
/-- It is a whole buffer. -/
abbrev hs0_1 (t : Fin cfg0.N) : (ms0_1 t).IsWhole := hstage0_1 ((cfg0.slots t 1).cast nbuf0_1)
/-- The buffer of window 2 at point `t`. -/
abbrev ms0_2 (t : Fin cfg0.N) : Memref sig .tc .vmem S1792x2048 .bf16 := win0_2.stage (cfg0.slots t 2)
/-- It is a whole buffer. -/
abbrev hs0_2 (t : Fin cfg0.N) : (ms0_2 t).IsWhole := hstage0_2 ((cfg0.slots t 2).cast nbuf0_2)
/-- The buffer of window 3 at point `t`. -/
abbrev ms0_3 (t : Fin cfg0.N) : Memref sig .tc .vmem S512x1792 .f32 := win0_3.stage (cfg0.slots t 3)
/-- It is a whole buffer. -/
abbrev hs0_3 (t : Fin cfg0.N) : (ms0_3 t).IsWhole := hstage0_3 ((cfg0.slots t 3).cast nbuf0_3)
/-- The buffer of window 4 at point `t`. -/
abbrev ms0_4 (t : Fin cfg0.N) : Memref sig .tc .vmem S512x2048 .bf16 := win0_4.stage (cfg0.slots t 4)
/-- It is a whole buffer. -/
abbrev hs0_4 (t : Fin cfg0.N) : (ms0_4 t).IsWhole := hstage0_4 ((cfg0.slots t 4).cast nbuf0_4)
/-- The buffer of window 5 at point `t`. -/
abbrev ms0_5 (t : Fin cfg0.N) : Memref sig .tc .vmem S2048x512 .bf16 := win0_5.stage (cfg0.slots t 5)
/-- It is a whole buffer. -/
abbrev hs0_5 (t : Fin cfg0.N) : (ms0_5 t).IsWhole := hstage0_5 ((cfg0.slots t 5).cast nbuf0_5)

/-! ## Reading a whole buffer -/

/-- A load of all of window 0's buffer reads it. -/
theorem ld0 (x : Vec F S512x2048 .f32) : View.ld x (Rect.unit (s := S512x2048) ![0, 0] S512x2048.size inb_S512x2048_S512x2048_0_0) = x := View.ld_unit_lit _ x (by decide)
/-- A load of all of window 1's buffer reads it. -/
theorem ld1 (x : Vec F S1x2048 .f32) : View.ld x (Rect.unit (s := S1x2048) ![0, 0] S1x2048.size inb_S1x2048_S1x2048_0_0) = x := View.ld_unit_lit _ x (by decide)
/-- A load of all of window 2's buffer reads it. -/
theorem ld2 (x : Vec F S1792x2048 .bf16) : View.ld x (Rect.unit (s := S1792x2048) ![0, 0] S1792x2048.size inb_S1792x2048_S1792x2048_0_0) = x := View.ld_unit_lit _ x (by decide)
/-- A load of all of window 4's buffer reads it. -/
theorem ld4 (x : Vec F S512x2048 .bf16) : View.ld x (Rect.unit (s := S512x2048) ![0, 0] S512x2048.size inb_S512x2048_S512x2048_0_0) = x := View.ld_unit_lit _ x (by decide)

set_option maxHeartbeats 2000000 in
/-- The body at a row block's first point: the rows are normed and stored, then multiplied. -/
theorem run_A (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1792x2048 .bf16) (harg4 : arg4.IsWhole) (arg5 : Memref sig .tc .vmem S512x1792 .f32) (harg5 : arg5.IsWhole) (arg6 : Memref sig .tc .vmem S512x2048 .bf16) (harg6 : arg6.IsWhole) (arg7 : Memref sig .tc .vmem S2048x512 .bf16) (harg7 : arg7.IsWhole) (hc0 : cond0_0 i)
    (x0 : Vec F S512x2048 .f32) (x1 : Vec F S1x2048 .f32) (x2 : Vec F S1792x2048 .bf16) (E : Set ℕ) (K : PUnit → sProp 𝕄) :
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare (k0_pay4 (k0_pay2 x0 x1) x2) ∗ owns (c : Thread nD τ) arg6 fullShare (k0_pay2 x0 x1) ∗ owns (c : Thread nD τ) arg7 fullShare (k0_pay3 x0 x1)) -∗ K ⟨⟩))
          ⊢ wp frame (wpE (defs₀ (F := F)) Variants.none c none) E (cc0_in_proj i arg2 harg2 arg3 harg3 arg4 harg4 arg5 harg5 arg6 harg6 arg7 harg7) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg2.eq_unread hf0; obtain rfl := harg3.eq_unread hf1; obtain rfl := harg4.eq_unread hf2
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; iexact H3
    ipureintro
    refine (View.read_writes_full _ _ _ _ _).trans ?_
    unfold run_A.sl.v3 run_A.sl.H4_1
    rw [View.readCov_full, View.readAt_eq_ld, View.readAt_eq_ld, View.readAt_eq_ld, harg2.read_unread, harg3.read_unread, harg4.read_unread, ld0, ld1, ld2]
  isplitl [H4]
  · iexists _; isplitr; swap; iexact H4
    ipureintro
    refine (View.read_writes_full _ _ _ _ _).trans ?_
    rw [View.readAt_eq_ld, View.readAt_eq_ld, harg2.read_unread, harg3.read_unread, ld0, ld1]
  iexists _; isplitr; swap; iexact H5
  ipureintro
  refine (View.read_writes_full _ _ _ _ _).trans ?_
  rw [View.readAt_eq_ld, View.readAt_eq_ld, harg2.read_unread, harg3.read_unread, ld0, ld1]

set_option maxHeartbeats 2000000 in
/-- The body at a later point: the stored normed rows are multiplied. -/
theorem run_B (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1792x2048 .bf16) (harg4 : arg4.IsWhole) (arg5 : Memref sig .tc .vmem S512x1792 .f32) (harg5 : arg5.IsWhole) (arg6 : Memref sig .tc .vmem S512x2048 .bf16) (harg6 : arg6.IsWhole) (arg7 : Memref sig .tc .vmem S2048x512 .bf16) (harg7 : arg7.IsWhole) (hc0 : ¬cond0_0 i)
    (x0 : Vec F S512x2048 .f32) (x1 : Vec F S1x2048 .f32) (x2 : Vec F S1792x2048 .bf16) (x4 : Vec F S512x2048 .bf16) (x5 : Vec F S2048x512 .bf16) (E : Set ℕ) (K : PUnit → sProp 𝕄) :
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4 ∗ owns (c : Thread nD τ) arg7 fullShare x5
            ∗ (iprop(owns (c : Thread nD τ) arg2 fullShare x0 ∗ owns (c : Thread nD τ) arg3 fullShare x1 ∗ owns (c : Thread nD τ) arg4 fullShare x2 ∗ owns (c : Thread nD τ) arg5 fullShare (k0_pay4 x4 x2) ∗ owns (c : Thread nD τ) arg6 fullShare x4 ∗ owns (c : Thread nD τ) arg7 fullShare x5) -∗ K ⟨⟩))
          ⊢ wp frame (wpE (defs₀ (F := F)) Variants.none c none) E (cc0_in_proj i arg2 harg2 arg3 harg3 arg4 harg4 arg5 harg5 arg6 harg6 arg7 harg7) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  obtain rfl := harg2.eq_unread hf0; obtain rfl := harg3.eq_unread hf1; obtain rfl := harg4.eq_unread hf2; obtain rfl := harg6.eq_unread hf4; obtain rfl := harg7.eq_unread hf5
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; iexact H3
    ipureintro
    refine (View.read_writes_full _ _ _ _ _).trans ?_
    rw [View.readAt_eq_ld, View.readAt_eq_ld, harg4.read_unread, harg6.read_unread, ld2, ld4]
  isplitl [H4]
  · iexists _; isplitr; · ipureintro; exact harg6.read_unread _
    iexact H4
  iexists _; isplitr; · ipureintro; exact harg7.read_unread _
  iexact H5

variable (m : (ℓ : Loc nD τ sig) → Buf (Elt F) ℓ) (ρ : Dev nD → PrngReg)

/-! ## What the buffers hold after each point -/

/-- The first point of `t`'s row block. -/
def head (t : Fin cfg0.N) : Fin cfg0.N := ⟨t.val / 8 * 8, Nat.lt_of_le_of_lt (Nat.div_mul_le_self _ _) t.isLt⟩

/-- A first point is its own. -/
theorem head_of_first (t : Fin cfg0.N) (h : t.val % 8 = 0) : head t = t := Fin.ext (by simp only [head]; omega)

/-- The point before. -/
def prev (t : Fin cfg0.N) : Fin cfg0.N := ⟨t.val - 1, Nat.lt_of_le_of_lt (Nat.sub_le _ _) t.isLt⟩

/-- A later point is in the row block of the one before. -/
theorem head_prev (t : Fin cfg0.N) (h : t.val % 8 ≠ 0) : head (prev t) = head t := Fin.ext (by simp only [head, prev]; omega)

/-- The normed rows of `t`'s row block. -/
def rowsAt (c : Dev nD) (t : Fin cfg0.N) : Vec F S512x2048 .bf16 := k0_pay2 (iblk m c 0 (head t)) (iblk m c 1 (head t))

/-- Their transpose. -/
def colsAt (c : Dev nD) (t : Fin cfg0.N) : Vec F S2048x512 .bf16 := k0_pay3 (iblk m c 0 (head t)) (iblk m c 1 (head t))

/-- The block of the product at `t`. -/
def prodAt (c : Dev nD) (t : Fin cfg0.N) : Vec F S512x1792 .f32 := k0_pay4 (rowsAt m c t) (iblk m c 2 t)

/-- The proof data of the one pipeline on core `c`: the arrays as the region finds them, and what each buffer holds after
    each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prodAt m c t
    | ⟨4, _⟩ => rowsAt m c t
    | ⟨5, _⟩ => colsAt m c t
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- Window 0 keeps its block. -/
theorem after0_0 (c : Dev nD) (t : Fin cfg0.N) : (dats m 0 c).after 0 t = iblk m c 0 t := by dsimp only [dats]
/-- Window 1 keeps its block. -/
theorem after0_1 (c : Dev nD) (t : Fin cfg0.N) : (dats m 0 c).after 1 t = iblk m c 1 t := by dsimp only [dats]
/-- Window 2 keeps its block. -/
theorem after0_2 (c : Dev nD) (t : Fin cfg0.N) : (dats m 0 c).after 2 t = iblk m c 2 t := by dsimp only [dats]
/-- The product's buffer after point `t`. -/
theorem after0_3 (c : Dev nD) (t : Fin cfg0.N) : (dats m 0 c).after 3 t = prodAt m c t := by dsimp only [dats]
/-- The normed rows' buffer after point `t`. -/
theorem after0_4 (c : Dev nD) (t : Fin cfg0.N) : (dats m 0 c).after 4 t = rowsAt m c t := by dsimp only [dats]
/-- The transpose's buffer after point `t`. -/
theorem after0_5 (c : Dev nD) (t : Fin cfg0.N) : (dats m 0 c).after 5 t = colsAt m c t := by dsimp only [dats]

/-- Input 0 holds its block at every point. -/
theorem before0_0 (c : Dev nD) (t : Fin cfg0.N) (d) : (dats m 0 c).before 0 t d = iblk m c 0 t :=
  before0_0_of m (dats m 0 c) (A_eq m c 0) (after0_0 m c) t d
/-- Input 1 holds its block at every point. -/
theorem before0_1 (c : Dev nD) (t : Fin cfg0.N) (d) : (dats m 0 c).before 1 t d = iblk m c 1 t :=
  before0_1_of m (dats m 0 c) (A_eq m c 1) (after0_1 m c) t d
/-- Input 2 holds its block at every point. -/
theorem before0_2 (c : Dev nD) (t : Fin cfg0.N) (d) : (dats m 0 c).before 2 t d = iblk m c 2 t :=
  before0_2_of m (dats m 0 c) (A_eq m c 2) (after0_2 m c) t d
/-- A later point finds the normed rows its row block's first point stored. -/
theorem before0_4 (c : Dev nD) (t : Fin cfg0.N) (ht : t.val % 8 ≠ 0) (d) : (dats m 0 c).before 4 t d = rowsAt m c t := by
  refine ((dats m 0 c).before_out_traj 4 rfl (fun _ _ => rfl) (fun s hs0 _ hs => ?_) t.val t rfl d).trans ?_
  · have h8 : s.val % 8 ≠ 0 := by
      rw [fresh4 s.val (Nat.le_of_lt s.isLt)] at hs; exact of_decide_eq_false hs
    rw [after0_4, after0_4]; unfold rowsAt
    rw [show (⟨s.val - 1, Nat.lt_of_le_of_lt (Nat.sub_le _ _) s.isLt⟩ : Fin cfg0.N) = prev s from rfl, head_prev s h8]
  · rw [fresh4 t.val (Nat.le_of_lt t.isLt), decide_eq_false ht, if_neg Bool.false_ne_true, after0_4]; unfold rowsAt
    rw [show (⟨t.val - 1, Nat.lt_of_le_of_lt (Nat.sub_le _ _) t.isLt⟩ : Fin cfg0.N) = prev t from rfl, head_prev t ht]
/-- A later point finds the transpose its row block's first point stored. -/
theorem before0_5 (c : Dev nD) (t : Fin cfg0.N) (ht : t.val % 8 ≠ 0) (d) : (dats m 0 c).before 5 t d = colsAt m c t := by
  refine ((dats m 0 c).before_out_traj 5 rfl (fun _ _ => rfl) (fun s hs0 _ hs => ?_) t.val t rfl d).trans ?_
  · have h8 : s.val % 8 ≠ 0 := by
      rw [fresh5 s.val (Nat.le_of_lt s.isLt)] at hs; exact of_decide_eq_false hs
    rw [after0_5, after0_5]; unfold colsAt
    rw [show (⟨s.val - 1, Nat.lt_of_le_of_lt (Nat.sub_le _ _) s.isLt⟩ : Fin cfg0.N) = prev s from rfl, head_prev s h8]
  · rw [fresh5 t.val (Nat.le_of_lt t.isLt), decide_eq_false ht, if_neg Bool.false_ne_true, after0_5]; unfold colsAt
    rw [show (⟨t.val - 1, Nat.lt_of_le_of_lt (Nat.sub_le _ _) t.isLt⟩ : Fin cfg0.N) = prev t from rfl, head_prev t ht]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What the body returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- Window 0 is returned at its contents. -/
theorem leaves0_0 (c : Dev nD) (t : Fin cfg0.N) : (dats m 0 c).leavesExact 0 t = owns (c : Thread nD τ) (ms0_0 t) fullShare ((dats m 0 c).after 0 t) := by
  unfold Dat.leavesExact; rw [show cfg0.idle 0 (cfg0.grid.coords t) = false from rfl]

/-- Window 1 is returned at its contents. -/
theorem leaves0_1 (c : Dev nD) (t : Fin cfg0.N) : (dats m 0 c).leavesExact 1 t = owns (c : Thread nD τ) (ms0_1 t) fullShare ((dats m 0 c).after 1 t) := by
  unfold Dat.leavesExact; rw [show cfg0.idle 1 (cfg0.grid.coords t) = false from rfl]

/-- Window 2 is returned at its contents. -/
theorem leaves0_2 (c : Dev nD) (t : Fin cfg0.N) : (dats m 0 c).leavesExact 2 t = owns (c : Thread nD τ) (ms0_2 t) fullShare ((dats m 0 c).after 2 t) := by
  unfold Dat.leavesExact; rw [show cfg0.idle 2 (cfg0.grid.coords t) = false from rfl]

/-- Window 3 is returned at its contents. -/
theorem leaves0_3 (c : Dev nD) (t : Fin cfg0.N) : (dats m 0 c).leavesExact 3 t = owns (c : Thread nD τ) (ms0_3 t) fullShare ((dats m 0 c).after 3 t) := by
  unfold Dat.leavesExact; rw [show cfg0.idle 3 (cfg0.grid.coords t) = false from live3 t]

/-- Window 4 is returned at its contents after a row block's first point. -/
theorem leaves0_4_A (c : Dev nD) (t : Fin cfg0.N) (h : t.val % 8 = 0) : (dats m 0 c).leavesExact 4 t = owns (c : Thread nD τ) (ms0_4 t) fullShare (rowsAt m c t) := by
  unfold Dat.leavesExact; rw [show cfg0.idle 4 (cfg0.grid.coords t) = false from live4 t h]; exact congrArg (fun x => (owns (c : Thread nD τ) (ms0_4 t) fullShare x : sProp 𝕄)) (after0_4 m c t)

/-- Window 4 held at its contents is what a later point returns. -/
theorem leaves0_4_B (c : Dev nD) (t : Fin cfg0.N) (h : t.val % 8 ≠ 0) : (owns (c : Thread nD τ) (ms0_4 t) fullShare (rowsAt m c t) : sProp 𝕄) ⊢ (dats m 0 c).leavesExact 4 t := by
  by_cases hf : t.val % 8 = 7
  · unfold Dat.leavesExact
    rw [show cfg0.idle 4 (cfg0.grid.coords t) = true from idle4 t h, (flush0_4 t).mpr hf]
    exact Entails.of_eq (congrArg _ (after0_4 m c t).symm)
  · rw [Dat.leavesExact_idle _ 4 t (idle4 t h) (by rw [← Bool.not_eq_true]; exact fun e => hf ((flush0_4 t).mp e))]
    iintro H
    iexists (fun _ => Classical.arbitrary _)
    rw [before0_4 m c t h]
    iexact H

/-- Window 5 is returned at its contents after a row block's first point. -/
theorem leaves0_5_A (c : Dev nD) (t : Fin cfg0.N) (h : t.val % 8 = 0) : (dats m 0 c).leavesExact 5 t = owns (c : Thread nD τ) (ms0_5 t) fullShare (colsAt m c t) := by
  unfold Dat.leavesExact; rw [show cfg0.idle 5 (cfg0.grid.coords t) = false from live5 t h]; exact congrArg (fun x => (owns (c : Thread nD τ) (ms0_5 t) fullShare x : sProp 𝕄)) (after0_5 m c t)

/-- Window 5 held at its contents is what a later point returns. -/
theorem leaves0_5_B (c : Dev nD) (t : Fin cfg0.N) (h : t.val % 8 ≠ 0) : (owns (c : Thread nD τ) (ms0_5 t) fullShare (colsAt m c t) : sProp 𝕄) ⊢ (dats m 0 c).leavesExact 5 t := by
  by_cases hf : t.val % 8 = 7
  · unfold Dat.leavesExact
    rw [show cfg0.idle 5 (cfg0.grid.coords t) = true from idle5 t h, (flush0_5 t).mpr hf]
    exact Entails.of_eq (congrArg _ (after0_5 m c t).symm)
  · rw [Dat.leavesExact_idle _ 5 t (idle5 t h) (by rw [← Bool.not_eq_true]; exact fun e => hf ((flush0_5 t).mp e))]
    iintro H
    iexists (fun _ => Classical.arbitrary _)
    rw [before0_5 m c t h]
    iexact H

set_option maxHeartbeats 4000000 in
/-- The body at a row block's first point. -/
theorem sound_A (c : Dev nD) (t : Fin cfg0.N) (h : t.val % 8 = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, show (dats m 0 c).Φ t.succ = (dats m 0 c).Φ t.castSucc from rfl]
  rw [leaves0_0, leaves0_1, leaves0_2, leaves0_3, leaves0_4_A m c t h, leaves0_5_A m c t h, after0_0, after0_1, after0_2, after0_3]
  unfold prodAt rowsAt colsAt
  rw [head_of_first t h]
  iintro ⟨HP, Ho, ⟨%d0, H0⟩, ⟨%d1, H1⟩, ⟨%d2, H2⟩, ⟨%d3, H3⟩, ⟨%d4, H4⟩, ⟨%d5, H5⟩⟩
  iapply (run_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h) (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  iexact H5

set_option maxHeartbeats 4000000 in
/-- The body at a later point. -/
theorem sound_B (c : Dev nD) (t : Fin cfg0.N) (h : t.val % 8 ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_4 m c t h, before0_5 m c t h]
  rw [show (dats m 0 c).owesAt () t.succ = (dats m 0 c).owesAt () t.castSucc from rfl, show (dats m 0 c).Φ t.succ = (dats m 0 c).Φ t.castSucc from rfl]
  rw [leaves0_0, leaves0_1, leaves0_2, leaves0_3, after0_0, after0_1, after0_2, after0_3]
  unfold prodAt
  iintro ⟨HP, Ho, ⟨%d0, H0⟩, ⟨%d1, H1⟩, ⟨%d2, H2⟩, ⟨%d3, H3⟩, ⟨%d4, H4⟩, ⟨%d5, H5⟩⟩
  iapply (run_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (fun e => h ((hcond0_0 t).mp e)) (iblk m c 0 t) (iblk m c 1 t) (iblk m c 2 t) (rowsAt m c t) (colsAt m c t) Set.univ _)
  isplitl [H0]; · iexact H0
  isplitl [H1]; · iexact H1
  isplitl [H2]; · iexact H2
  isplitl [H3]; · iexists _; iexact H3
  isplitl [H4]; · iexact H4
  isplitl [H5]; · iexact H5
  iintro ⟨H0, H1, H2, H3, H4, H5⟩
  isplitl [HP]; · iexact HP
  isplitl [Ho]; · iexact Ho
  isplitl [H0]; · iexact H0
  isplitl [H1]; · iexact H1
  isplitl [H2]; · iexact H2
  isplitl [H3]; · iexact H3
  isplitl [H4]
  · iapply (leaves0_4_B m c t h); iexact H4
  iapply (leaves0_5_B m c t h); iexact H5

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val % 8 = 0
  · exact sound_A m c t h
  exact sound_B m c t h

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the launch theorem's implicit arguments are found by unifying its conclusion with this one
set_option backward.isDefEq.respectTransparency.types false in
/-- Every run of the program ends with every array at what the proof data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- Every run of the program ends with every array at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel3Ideal.Proj

end
-- ==== Proof.Proj.InProj.lean ====
module

public import proofs.«01_k».proof.Defs
public import proofs.«01_k».proof.Proof.Proj.Frame
public import proofs.«01_k».proof.Proof.Proj.FrameBits
public import proofs.«01_k».proof.Proof.Gen.Reference3Ideal.Run
public import Idealize.ShloMosaic.Lib.Pointwise
public import Idealize.ShloMosaic.Lib.Pipeline.ValueKit

@[expose] public section

set_option maxRecDepth 16384

noncomputable section

namespace Cert.Kernel3Ideal.Proj

open Cert.Kernel3Ideal Cert.Kernel3Ideal.Gen
open Idealize.ShloMosaic Idealize.ShloMosaic.TcCoe Idealize.SL.Sem

variable (m : (ℓ : Loc nD τ sig) → Buf (Elt Ideal) ℓ) (c : Dev nD)

/-- The residual stream, the norm's gain and the input weights. -/
def a0 (i : Fin 4096) (d : Fin 2048) : EReal := m ((c.tc : Thread nD τ).loc main_arg0) (ix2 i d)
def a1 (d : Fin 2048) : EReal := m ((c.tc : Thread nD τ).loc main_arg1) (ix1 d)
def a2 (d : Fin 2048) (k : Fin 14336) : EReal := m ((c.tc : Thread nD τ).loc main_arg2) (ix2 d k)

/-- The normed residual stream. -/
def hn (i : Fin 4096) (d : Fin 2048) : EReal :=
  a0 m c i d * Ideal.rsqrt (Ideal.div (∑ x : Fin 2048, a0 m c i x * a0 m c i x) (Ideal.ofBits FTy.f32 1157627904#32) + Ideal.ofBits FTy.f32 897988541#32) * a1 m c d

/-- Every window's block index at every point. -/
theorem idx : ∀ t : Fin cfg0.N, win0_0.index t = ![t.val / 8, 0] ∧ win0_1.index t = ![0, 0] ∧ win0_2.index t = ![t.val % 8, 0]
    ∧ win0_3.index t = ![t.val / 8, t.val % 8] ∧ win0_4.index t = ![t.val / 8, 0] ∧ win0_5.index t = ![0, t.val / 8] :=
  (by decide +kernel : ∀ t : Fin grid0.N, _)

/-- The operands, as the call finds them. -/
theorem V0 (y : S1x2048.Idx) : V m c main_v0 y = a1 m c (y 1) := by
  unfold a1
  entry_read
  pointwise
theorem V2 (y : S14336x2048.Idx) : V m c main_v2 y = a2 m c (y 1) (y 0) := by
  unfold a2
  entry_read
  pointwise
theorem Vx (y : S4096x2048.Idx) : V m c main_arg0 y = a0 m c (y 0) (y 1) := by
  unfold a0
  rw [V_main_arg0 m c]
  exact congrArg _ (eq_ix2 y)

/-- The row that a block's row is, at a point, and the column that a block's column is. -/
abbrev row (t : Fin cfg0.N) (r : Fin 512) : Fin 4096 := ⟨t.val / 8 * 512 + r.val, by have := lt_of_lt_of_eq t.isLt N_0; omega⟩
abbrev col (t : Fin cfg0.N) (k : Fin 1792) : Fin 14336 := ⟨t.val % 8 * 1792 + k.val, by omega⟩

/-- A row block's first point has the same rows. -/
theorem row_head (t : Fin cfg0.N) (r : Fin 512) : row (head t) r = row t r := Fin.ext (by simp only [row, head]; omega)

/-- The blocks of the residual stream, of the gain and of the weights. -/
theorem blk0 (t : Fin cfg0.N) (y : S512x2048.Idx) : iblk m c 0 t y = a0 m c (row t (y 0)) (y 1) := by
  refine (Vx m c _).trans ?_
  refine congrArg₂ (a0 m c) (Fin.ext ?_) (Fin.ext ?_) <;> (blk_simp [idx t, row]; try omega)
theorem blk1 (t : Fin cfg0.N) (y : S1x2048.Idx) : iblk m c 1 t y = a1 m c (y 1) := by
  refine (V0 m c _).trans ?_
  refine congrArg (a1 m c) (Fin.ext ?_) <;> (blk_simp [idx t]; try omega)
theorem blk2 (t : Fin cfg0.N) (y : S1792x2048.Idx) : iblk m c 2 t y = a2 m c (y 1) (col t (y 0)) := by
  refine (V2 m c _).trans ?_
  refine congrArg₂ (a2 m c) (Fin.ext ?_) (Fin.ext ?_) <;> (blk_simp [idx t, col]; try omega)

/-- The stored normed rows are the normed residual stream's, -/
theorem rows_eq (t : Fin cfg0.N) (r : Fin 512) (d : Fin 2048) : rowsAt m c t (ix2 r d) = hn m c (row t r) d := by
  unfold rowsAt
  pointwise [k0_pay2, k0_pay1]
  simp only [blk0, blk1]
  exact congrArg (fun i => hn m c i d) (row_head t r)

/-- so are their transpose's columns. -/
theorem cols_eq (t : Fin cfg0.N) (d : Fin 2048) (r : Fin 512) : colsAt m c t (ix2 d r) = hn m c (row t r) d := by
  unfold colsAt
  pointwise [k0_pay3, k0_pay1]
  simp only [blk0, blk1]
  exact congrArg (fun i => hn m c i d) (row_head t r)

/-- A block of the product. -/
theorem prod_eq (t : Fin cfg0.N) (r : Fin 512) (k : Fin 1792) : prodAt m c t (ix2 r k) = (∑ d : Fin 2048, hn m c (row t r) d * a2 m c d (col t k) : EReal) := by
  unfold prodAt
  pointwise [k0_pay4]
  show (_ : EReal) = _
  exact Finset.sum_congr rfl fun d _ => congrArg₂ (· * · : EReal → EReal → EReal) (rows_eq m c t r d) (blk2 m c t (ix2 k d))

/-- The projected columns after the run. -/
theorem arr3 : (dats m 0 c).arrAt 3 cfg0.N = fun y : S4096x14336.Idx => (∑ d : Fin 2048, hn m c (y 0) d * a2 m c d (y 1) : EReal) := by
  refine (dats m 0 c).arrAt_eq_of_covers 3 _ (by decide +kernel) fun t hf y => ?_
  blk_simp
  rw [after0_3]
  obtain ⟨r, k, rfl⟩ : ∃ (r : Fin 512) (k : Fin 1792), y = ix2 r k := ⟨y 0, y 1, eq_ix2 y⟩
  have e : (win0_3.blk t).view.emb (ix2 r k) = ix2 (row t r) (col t k) := by blk_ext [row, col, idx t]
  refine (prod_eq m c t r k).trans ?_
  exact (congrArg (fun z : S4096x14336.Idx => (∑ d : Fin 2048, hn m c (z 0) d * a2 m c d (z 1) : EReal)) e).symm

/-- The normed residual stream after the run. -/
theorem arr4 : (dats m 0 c).arrAt 4 cfg0.N = fun y : S4096x2048.Idx => hn m c (y 0) (y 1) := by
  refine (dats m 0 c).arrAt_eq_of_covers 4 _ (by decide +kernel) fun t hf y => ?_
  blk_simp
  rw [after0_4]
  obtain ⟨r, d, rfl⟩ : ∃ (r : Fin 512) (d : Fin 2048), y = ix2 r d := ⟨y 0, y 1, eq_ix2 y⟩
  have e : (win0_4.blk t).view.emb (ix2 r d) = ix2 (row t r) d := by blk_ext [row, idx t]
  refine (rows_eq m c t r d).trans ?_
  exact (congrArg (fun z : S4096x2048.Idx => hn m c (z 0) (z 1)) e).symm

/-- Its transpose after the run. -/
theorem arr5 : (dats m 0 c).arrAt 5 cfg0.N = fun y : S2048x4096.Idx => hn m c (y 1) (y 0) := by
  refine (dats m 0 c).arrAt_eq_of_covers 5 _ (by decide +kernel) fun t hf y => ?_
  blk_simp
  rw [after0_5]
  obtain ⟨d, r, rfl⟩ : ∃ (d : Fin 2048) (r : Fin 512), y = ix2 d r := ⟨y 0, y 1, eq_ix2 y⟩
  have e : (win0_5.blk t).view.emb (ix2 d r) = ix2 d (row t r) := by blk_ext [row, idx t]
  refine (cols_eq m c t d r).trans ?_
  exact (congrArg (fun z : S2048x4096.Idx => hn m c (z 1) (z 0)) e).symm

end Cert.Kernel3Ideal.Proj

namespace Cert.Proof.InProj

open Idealize.ShloMosaic Idealize.ShloMosaic.TcCoe Idealize.SL.Sem

/-! The claims of the input projection. -/

theorem frame_p : Cert.quiescent_Kernel3 := fun m ρ _ => Cert.Kernel3.Proj.frame m ρ
theorem frame_pi : Cert.quiescent_Kernel3Ideal := fun m ρ _ => Cert.Kernel3Ideal.Proj.frame m ρ
theorem frame_ri : Cert.quiescent_Reference3Ideal := fun m ρ _ =>
  (θ_run Cert.Reference3Ideal.defs _ _).mono (fun r h => ⟨fun c => (h c).2.2.2,
      Idealize.ShloMosaic.sem_eq_zero_of_no_sems (by decide) r.2⟩)
    (Cert.Reference3Ideal.Value.run (F := Ideal) m ρ)

theorem preserves : Cert.preserves_Kernel3_Kernel3Ideal := trivial

/-- The call's results are the reference's. -/
theorem algebraic : Cert.algebraic_Kernel3Ideal_Reference3Ideal := by
  pair_intro
  · run_from (Cert.Kernel3Ideal.Proj.run_main m g)
  · run_from (Cert.Reference3Ideal.Value.run (F := Ideal) m' g')
    · rw [Cert.Kernel3Ideal.Proj.arr3]
      funext y
      obtain ⟨a, b, rfl⟩ : ∃ (a : Fin 4096) (b : Fin 14336), y = ix2 a b := ⟨y 0, y 1, eq_ix2 y⟩
      pointwise
      rfl
    · rw [Cert.Kernel3Ideal.Proj.arr4]
      funext y
      obtain ⟨a, b, rfl⟩ : ∃ (a : Fin 4096) (b : Fin 2048), y = ix2 a b := ⟨y 0, y 1, eq_ix2 y⟩
      pointwise
      rfl
    · rw [Cert.Kernel3Ideal.Proj.arr5]
      funext y
      obtain ⟨a, b, rfl⟩ : ∃ (a : Fin 2048) (b : Fin 4096), y = ix2 a b := ⟨y 0, y 1, eq_ix2 y⟩
      pointwise
      rfl

end Cert.Proof.InProj
end
-- ==== Proof.Prod.Dwin.lean ====
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import Idealize.ShloMosaic.Lib.Pointwise
public import Idealize.ShloMosaic.Lib.Pipeline.ValueKit

@[expose] public section

set_option maxRecDepth 16384

noncomputable section

namespace Cert.Kernel4Ideal.Prod

open Cert.Kernel4Ideal Cert.Kernel4Ideal.Gen
open Idealize.ShloMosaic Idealize.ShloMosaic.TcCoe Idealize.SL.Sem

variable (m : (ℓ : Loc nD τ sig) → Buf (Elt Ideal) ℓ) (c : Dev nD)

/-- The residual stream, the norm's gain and the gradient of the projected columns. -/
def a0 (i : Fin 4096) (d : Fin 2048) : EReal := m ((c.tc : Thread nD τ).loc main_arg0) (ix2 i d)
def a1 (d : Fin 2048) : EReal := m ((c.tc : Thread nD τ).loc main_arg1) (ix1 d)
def a2 (i : Fin 4096) (d : Fin 14336) : EReal := m ((c.tc : Thread nD τ).loc main_arg2) (ix2 i d)

/-- The normed residual stream. -/
def hn (i : Fin 4096) (d : Fin 2048) : EReal :=
  a0 m c i d * Ideal.rsqrt (Ideal.div (∑ x : Fin 2048, a0 m c i x * a0 m c i x) (Ideal.ofBits FTy.f32 1157627904#32) + Ideal.ofBits FTy.f32 897988541#32) * a1 m c d

/-- Every window's block index at every point. -/
theorem idx : ∀ t : Fin cfg0.N, win0_0.index t = ![t.val / 16, 0] ∧ win0_1.index t = ![0, t.val % 16] ∧ win0_2.index t = ![t.val % 16 / 2, t.val / 16, t.val % 2] :=
  (by decide +kernel : ∀ t : Fin grid0.N, _)

/-- The two operands, as the call finds them. -/
theorem V14 (y : S2048x4096.Idx) : V m c main_v14 y = hn m c (y 1) (y 0) := by
  unfold hn a0 a1
  entry_read
  pointwise
theorem V15 (y : S4096x14336.Idx) : V m c main_v15 y = a2 m c (y 0) (y 1) := by
  unfold a2
  entry_read
  pointwise

/-- The column of an owner's column. -/
abbrev col (e : Fin 8) (l : Fin 1792) : Fin 14336 := ⟨e.val * 1792 + l.val, by omega⟩

/-- The product after the run. -/
theorem arr : (dats m 0 c).arrAt 2 cfg0.N = fun y : S8x2048x1792.Idx => (∑ d : Fin 4096, hn m c d (y 1) * a2 m c d (col (y 0) (y 2)) : EReal) := by
  refine (dats m 0 c).arrAt_eq_of_covers 2 _ (by decide +kernel) fun t hf y => ?_
  blk_simp
  rw [after0_2]
  frame_out
  pointwise [k0_pay1]
  show (_ : EReal) = _
  refine Finset.sum_congr rfl fun d _ => ?_
  refine congrArg₂ (· * · : EReal → EReal → EReal) ((V14 m c _).trans ?_) ((V15 m c _).trans ?_)
  · refine congrArg₂ (hn m c) (Fin.ext ?_) (Fin.ext ?_) <;> (blk_simp [idx t]; try omega)
  · refine congrArg₂ (a2 m c) (Fin.ext ?_) (Fin.ext ?_) <;> (blk_simp [idx t, col]; try (first | omega | (show t.val % 16 * 896 + _ = t.val % 16 / 2 * 1792 + (t.val % 2 * 896 + _); omega)))

end Cert.Kernel4Ideal.Prod

namespace Cert.Proof.Dwin

open Idealize.ShloMosaic Idealize.ShloMosaic.TcCoe Idealize.SL.Sem

/-! The claims of the gradient of the input weights, cut for the eight owners. -/

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem preserves : Cert.preserves_Kernel4_Kernel4Ideal := trivial

/-- The call's result is the reference's. -/
theorem algebraic : Cert.algebraic_Kernel4Ideal_Reference4Ideal := by
  pair_intro
  · run_from (Cert.Kernel4Ideal.Gen.run_main m g)
  · run_from (Cert.Reference4Ideal.Value.run (F := Ideal) m' g')
    rw [Cert.Kernel4Ideal.Prod.arr]
    funext y
    obtain ⟨a, b, d, rfl⟩ : ∃ (a : Fin 8) (b : Fin 2048) (d : Fin 1792), y = ix3 a b d := ⟨y 0, y 1, y 2, eq_ix3 y⟩
    pointwise
    show (_ : EReal) = _
    exact Finset.sum_congr rfl fun _ _ => mul_comm _ _

end Cert.Proof.Dwin
end
-- ==== Proof.Prod.Dcat.lean ====
module

public import proofs.«01_k».proof.Defs
public import proofs.«01_k».proof.Proof.Gen.Kernel6.Frame
public import proofs.«01_k».proof.Proof.Gen.Kernel6Ideal.Frame
public import proofs.«01_k».proof.Proof.Gen.Reference6Ideal.Run
public import Idealize.ShloMosaic.Lib.Pointwise
public import Idealize.ShloMosaic.Lib.Pipeline.ValueKit

@[expose] public section

set_option maxRecDepth 16384

noncomputable section

namespace Cert.Kernel6Ideal.Prod

open Cert.Kernel6Ideal Cert.Kernel6Ideal.Gen
open Idealize.ShloMosaic Idealize.ShloMosaic.TcCoe Idealize.SL.Sem

variable (m : (ℓ : Loc nD τ sig) → Buf (Elt Ideal) ℓ) (c : Dev nD)

/-- The gradient of the step's output and the output weights. -/
def a0 (i : Fin 4096) (d : Fin 2048) : EReal := m ((c.tc : Thread nD τ).loc main_arg0) (ix2 i d)
def a1 (i : Fin 4096) (d : Fin 2048) : EReal := m ((c.tc : Thread nD τ).loc main_arg1) (ix2 i d)

/-- Every window's block index at every point. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The two operands, as the call finds them. -/
theorem V0 (y : S4096x2048.Idx) : V m c main_v0 y = a0 m c (y 0) (y 1) := by
  unfold a0
  entry_read
  pointwise
theorem V1 (y : S4096x2048.Idx) : V m c main_v1 y = a1 m c (y 0) (y 1) := by
  unfold a1
  entry_read
  pointwise

/-- The product after the run. -/
theorem arr : (dats m 0 c).arrAt 2 cfg0.N = fun y : S4096x4096.Idx => (∑ d : Fin 2048, a0 m c (y 0) d * a1 m c (y 1) d : EReal) := by
  refine (dats m 0 c).arrAt_eq_of_covers 2 _ (by decide +kernel) fun t hf y => ?_
  blk_simp
  rw [after0_2]
  frame_out
  pointwise [k0_pay1]
  show (_ : EReal) = _
  refine Finset.sum_congr rfl fun d _ => ?_
  refine congrArg₂ (· * · : EReal → EReal → EReal) ((V0 m c _).trans ?_) ((V1 m c _).trans ?_)
  · refine congrArg₂ (a0 m c) (Fin.ext ?_) (Fin.ext ?_) <;> (blk_simp [idx t]; try omega)
  · refine congrArg₂ (a1 m c) (Fin.ext ?_) (Fin.ext ?_) <;> (blk_simp [idx t]; try omega)

end Cert.Kernel6Ideal.Prod

namespace Cert.Proof.Dcat

open Idealize.ShloMosaic Idealize.ShloMosaic.TcCoe Idealize.SL.Sem

/-! The claims of the gradient of the mixed columns. -/

theorem frame_p : Cert.quiescent_Kernel6 := fun m ρ _ => Cert.Kernel6.Gen.frame m ρ
theorem frame_pi : Cert.quiescent_Kernel6Ideal := fun m ρ _ => Cert.Kernel6Ideal.Gen.frame m ρ
theorem frame_ri : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

theorem preserves : Cert.preserves_Kernel6_Kernel6Ideal := trivial

/-- The call's result is the reference's. -/
theorem algebraic : Cert.algebraic_Kernel6Ideal_Reference6Ideal := by
  pair_intro
  · run_from (Cert.Kernel6Ideal.Gen.run_main m g)
  · run_from (Cert.Reference6Ideal.Value.run (F := Ideal) m' g')
    rw [Cert.Kernel6Ideal.Prod.arr]
    funext y
    obtain ⟨a, b, rfl⟩ : ∃ (a b : Fin 4096), y = ix2 a b := ⟨y 0, y 1, eq_ix2 y⟩
    pointwise
    rfl

end Cert.Proof.Dcat
end
-- ==== Proof.Prod.Dwout.lean ====
module

public import proofs.«01_k».proof.Defs
public import proofs.«01_k».proof.Proof.Gen.Kernel7.Frame
public import proofs.«01_k».proof.Proof.Gen.Kernel7Ideal.Frame
public import proofs.«01_k».proof.Proof.Gen.Reference7Ideal.Run
public import Idealize.ShloMosaic.Lib.Pointwise
public import Idealize.ShloMosaic.Lib.Pipeline.ValueKit

@[expose] public section

set_option maxRecDepth 16384

noncomputable section

namespace Cert.Kernel7Ideal.Prod

open Cert.Kernel7Ideal Cert.Kernel7Ideal.Gen
open Idealize.ShloMosaic Idealize.ShloMosaic.TcCoe Idealize.SL.Sem

variable (m : (ℓ : Loc nD τ sig) → Buf (Elt Ideal) ℓ) (c : Dev nD)

/-- The mixed columns and the gradient of the step's output. -/
def a0 (i : Fin 4096) (d : Fin 4096) : EReal := m ((c.tc : Thread nD τ).loc main_arg0) (ix2 i d)
def a1 (i : Fin 4096) (d : Fin 2048) : EReal := m ((c.tc : Thread nD τ).loc main_arg1) (ix2 i d)

/-- Every window's block index at every point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- The two operands, as the call finds them. -/
theorem V1 (y : S4096x4096.Idx) : V m c main_v1 y = a0 m c (y 1) (y 0) := by
  unfold a0
  entry_read
  pointwise
theorem V2 (y : S4096x2048.Idx) : V m c main_v2 y = a1 m c (y 0) (y 1) := by
  unfold a1
  entry_read
  pointwise

/-- The product after the run. -/
theorem arr : (dats m 0 c).arrAt 2 cfg0.N = fun y : S4096x2048.Idx => (∑ d : Fin 4096, a0 m c d (y 0) * a1 m c d (y 1) : EReal) := by
  refine (dats m 0 c).arrAt_eq_of_covers 2 _ (by decide +kernel) fun t hf y => ?_
  blk_simp
  rw [after0_2]
  frame_out
  pointwise [k0_pay1]
  show (_ : EReal) = _
  refine Finset.sum_congr rfl fun d _ => ?_
  refine congrArg₂ (· * · : EReal → EReal → EReal) ((V1 m c _).trans ?_) ((V2 m c _).trans ?_)
  · refine congrArg₂ (a0 m c) (Fin.ext ?_) (Fin.ext ?_) <;> (blk_simp [idx t]; try omega)
  · refine congrArg₂ (a1 m c) (Fin.ext ?_) (Fin.ext ?_) <;> (blk_simp [idx t]; try omega)

end Cert.Kernel7Ideal.Prod

namespace Cert.Proof.Dwout

open Idealize.ShloMosaic Idealize.ShloMosaic.TcCoe Idealize.SL.Sem

/-! The claims of the gradient of the output weights. -/

theorem frame_p : Cert.quiescent_Kernel7 := fun m ρ _ => Cert.Kernel7.Gen.frame m ρ
theorem frame_pi : Cert.quiescent_Kernel7Ideal := fun m ρ _ => Cert.Kernel7Ideal.Gen.frame m ρ
theorem frame_ri : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

theorem preserves : Cert.preserves_Kernel7_Kernel7Ideal := trivial

/-- The call's result is the reference's. -/
theorem algebraic : Cert.algebraic_Kernel7Ideal_Reference7Ideal := by
  pair_intro
  · run_from (Cert.Kernel7Ideal.Gen.run_main m g)
  · run_from (Cert.Reference7Ideal.Value.run (F := Ideal) m' g')
    rw [Cert.Kernel7Ideal.Prod.arr]
    funext y
    obtain ⟨a, b, rfl⟩ : ∃ (a : Fin 4096) (b : Fin 2048), y = ix2 a b := ⟨y 0, y 1, eq_ix2 y⟩
    pointwise
    show (_ : EReal) = _
    exact Finset.sum_congr rfl fun _ _ => mul_comm _ _

end Cert.Proof.Dwout
end
-- ==== Proof.Prod.OutProj.lean ====
module

public import proofs.«01_k».proof.Defs
public import proofs.«01_k».proof.Proof.Gen.Kernel8.Frame
public import proofs.«01_k».proof.Proof.Gen.Kernel8Ideal.Frame
public import proofs.«01_k».proof.Proof.Gen.Reference8Ideal.Run
public import Idealize.ShloMosaic.Lib.Pointwise
public import Idealize.ShloMosaic.Lib.Pipeline.ValueKit

@[expose] public section

set_option maxRecDepth 16384

noncomputable section

namespace Cert.Kernel8Ideal.Prod

open Cert.Kernel8Ideal Cert.Kernel8Ideal.Gen
open Idealize.ShloMosaic Idealize.ShloMosaic.TcCoe Idealize.SL.Sem

variable (m : (ℓ : Loc nD τ sig) → Buf (Elt Ideal) ℓ) (c : Dev nD)

/-- The mixed columns, the output weights and the residual stream. -/
def a0 (i : Fin 4096) (d : Fin 4096) : EReal := m ((c.tc : Thread nD τ).loc main_arg0) (ix2 i d)
def a1 (i : Fin 4096) (d : Fin 2048) : EReal := m ((c.tc : Thread nD τ).loc main_arg1) (ix2 i d)
def a2 (i : Fin 4096) (d : Fin 2048) : EReal := m ((c.tc : Thread nD τ).loc main_arg2) (ix2 i d)

/-- Every window's block index at every point. -/
theorem idx : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)

/-- The operands, as the call finds them. -/
theorem V0 (y : S4096x4096.Idx) : V m c main_v0 y = a0 m c (y 0) (y 1) := by
  unfold a0
  entry_read
  pointwise
theorem V1 (y : S4096x2048.Idx) : V m c main_v1 y = a1 m c (y 0) (y 1) := by
  unfold a1
  entry_read
  pointwise
theorem V2 (y : S4096x2048.Idx) : V m c main_arg2 y = a2 m c (y 0) (y 1) := by
  unfold a2
  rw [V_main_arg2 m c]
  exact congrArg _ (eq_ix2 y)

/-- The projection after the run. -/
theorem arr : (dats m 0 c).arrAt 3 cfg0.N = fun y : S4096x2048.Idx => ((∑ d : Fin 4096, a0 m c (y 0) d * a1 m c d (y 1)) + a2 m c (y 0) (y 1) : EReal) := by
  refine (dats m 0 c).arrAt_eq_of_covers 3 _ (by decide +kernel) fun t hf y => ?_
  blk_simp
  rw [after0_3]
  frame_out
  pointwise [k0_pay1]
  show (_ : EReal) = _
  refine congrArg₂ (· + · : EReal → EReal → EReal) (Finset.sum_congr rfl fun d _ => ?_) ((V2 m c _).trans ?_)
  · refine congrArg₂ (· * · : EReal → EReal → EReal) ((V0 m c _).trans ?_) ((V1 m c _).trans ?_)
    · refine congrArg₂ (a0 m c) (Fin.ext ?_) (Fin.ext ?_) <;> (blk_simp [idx t]; try omega)
    · refine congrArg₂ (a1 m c) (Fin.ext ?_) (Fin.ext ?_) <;> (blk_simp [idx t]; try omega)
  · refine congrArg₂ (a2 m c) (Fin.ext ?_) (Fin.ext ?_) <;> (blk_simp [idx t]; try omega)

end Cert.Kernel8Ideal.Prod

namespace Cert.Proof.OutProj

open Idealize.ShloMosaic Idealize.ShloMosaic.TcCoe Idealize.SL.Sem

/-! The claims of the output projection with its residual. -/

theorem frame_p : Cert.quiescent_Kernel8 := fun m ρ _ => Cert.Kernel8.Gen.frame m ρ
theorem frame_pi : Cert.quiescent_Kernel8Ideal := fun m ρ _ => Cert.Kernel8Ideal.Gen.frame m ρ
theorem frame_ri : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

theorem preserves : Cert.preserves_Kernel8_Kernel8Ideal := trivial

/-- The call's result is the reference's. -/
theorem algebraic : Cert.algebraic_Kernel8Ideal_Reference8Ideal := by
  pair_intro
  · run_from (Cert.Kernel8Ideal.Gen.run_main m g)
  · run_from (Cert.Reference8Ideal.Value.run (F := Ideal) m' g')
    rw [Cert.Kernel8Ideal.Prod.arr]
    funext y
    obtain ⟨a, b, rfl⟩ : ∃ (a : Fin 4096) (b : Fin 2048), y = ix2 a b := ⟨y 0, y 1, eq_ix2 y⟩
    pointwise
    exact add_comm (_ : EReal) _

end Cert.Proof.OutProj
end
-- ==== Proof.Prod.Dwpw.lean ====
module

public import proofs.«01_k».proof.Defs
public import proofs.«01_k».proof.Proof.Gen.Kernel9.Frame
public import proofs.«01_k».proof.Proof.Gen.Kernel9Ideal.Frame
public import proofs.«01_k».proof.Proof.Gen.Reference9Ideal.Run
public import Idealize.ShloMosaic.Lib.Pointwise
public import Idealize.ShloMosaic.Lib.Pipeline.ValueKit

@[expose] public section

set_option maxRecDepth 16384

noncomputable section

namespace Cert.Kernel9Ideal.Prod

open Cert.Kernel9Ideal Cert.Kernel9Ideal.Gen
open Idealize.ShloMosaic Idealize.ShloMosaic.TcCoe Idealize.SL.Sem

variable (m : (ℓ : Loc nD τ sig) → Buf (Elt Ideal) ℓ) (c : Dev nD)

/-- The convolution's columns before the pointwise product and the gradient of the convolution's output. -/
def a0 (i : Fin 4096) (d : Fin 2048) : EReal := m ((c.tc : Thread nD τ).loc main_arg0) (ix2 i d)
def a1 (i : Fin 4096) (d : Fin 2048) : EReal := m ((c.tc : Thread nD τ).loc main_arg1) (ix2 i d)

/-- Every window's block index at every point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- The two operands, as the call finds them. -/
theorem V1 (y : S2048x4096.Idx) : V m c main_v1 y = a0 m c (y 1) (y 0) := by
  unfold a0
  entry_read
  pointwise
theorem V2 (y : S4096x2048.Idx) : V m c main_v2 y = a1 m c (y 0) (y 1) := by
  unfold a1
  entry_read
  pointwise

/-- The product after the run. -/
theorem arr : (dats m 0 c).arrAt 2 cfg0.N = fun y : S2048x2048.Idx => (∑ d : Fin 4096, a0 m c d (y 0) * a1 m c d (y 1) : EReal) := by
  refine (dats m 0 c).arrAt_eq_of_covers 2 _ (by decide +kernel) fun t hf y => ?_
  blk_simp
  rw [after0_2]
  frame_out
  pointwise [k0_pay1]
  show (_ : EReal) = _
  refine Finset.sum_congr rfl fun d _ => ?_
  refine congrArg₂ (· * · : EReal → EReal → EReal) ((V1 m c _).trans ?_) ((V2 m c _).trans ?_)
  · refine congrArg₂ (a0 m c) (Fin.ext ?_) (Fin.ext ?_) <;> (blk_simp [idx t]; try omega)
  · refine congrArg₂ (a1 m c) (Fin.ext ?_) (Fin.ext ?_) <;> (blk_simp [idx t]; try omega)

end Cert.Kernel9Ideal.Prod

namespace Cert.Proof.Dwpw

open Idealize.ShloMosaic Idealize.ShloMosaic.TcCoe Idealize.SL.Sem

/-! The claims of the gradient of the pointwise weights. -/

theorem frame_p : Cert.quiescent_Kernel9 := fun m ρ _ => Cert.Kernel9.Gen.frame m ρ
theorem frame_pi : Cert.quiescent_Kernel9Ideal := fun m ρ _ => Cert.Kernel9Ideal.Gen.frame m ρ
theorem frame_ri : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

theorem preserves : Cert.preserves_Kernel9_Kernel9Ideal := trivial

/-- The call's result is the reference's. -/
theorem algebraic : Cert.algebraic_Kernel9Ideal_Reference9Ideal := by
  pair_intro
  · run_from (Cert.Kernel9Ideal.Gen.run_main m g)
  · run_from (Cert.Reference9Ideal.Value.run (F := Ideal) m' g')
    rw [Cert.Kernel9Ideal.Prod.arr]
    funext y
    obtain ⟨a, b, rfl⟩ : ∃ (a : Fin 2048) (b : Fin 2048), y = ix2 a b := ⟨y 0, y 1, eq_ix2 y⟩
    pointwise
    show (_ : EReal) = _
    exact Finset.sum_congr rfl fun _ _ => mul_comm _ _

end Cert.Proof.Dwpw
end
-- ==== Proof.Opt.Step.lean ====
module

public import proofs.«01_k».proof.Defs
public import Idealize.ShloMosaic.Lib.Pointwise
public import Idealize.ShloMosaic.Lib.Pipeline.ValueKit

@[expose] public section

noncomputable section

/-! One step of the optimiser at one weight, over the extended reals. The literals are the program's: beta1 and 1 − beta1,
beta2 and 1 − beta2, the two bias corrections, epsilon, the weight decay and minus the learning rate. -/

namespace Cert.Proof.Step

open Idealize.ShloMosaic

/-- The new first moment, from the old one and the gradient. -/
def mom (m g : EReal) : EReal := Ideal.ofBits FTy.f32 1063675494#32 * m + Ideal.ofBits FTy.f32 1036831949#32 * g

/-- The new second moment, from the old one and the gradient. -/
def sec (v g : EReal) : EReal := Ideal.ofBits FTy.f32 1065336439#32 * v + Ideal.ofBits FTy.f32 981668463#32 * (g * g)

/-- The weight's change, from the weight and its two new moments. -/
def change (w m v : EReal) : EReal :=
  Ideal.ofBits FTy.f32 3129152111#32 * (Ideal.div (Ideal.div m (Ideal.ofBits FTy.f32 1059503362#32))
    (Ideal.sqrt (Ideal.div v (Ideal.ofBits FTy.f32 1008933580#32)) + Ideal.ofBits FTy.f32 841731191#32) + Ideal.ofBits FTy.f32 1008981770#32 * w)

/-- Equal arguments give equal first moments, -/
theorem mom_eq {m m' g g' : EReal} (hm : m = m') (hg : g = g') : mom m g = mom m' g' := by rw [hm, hg]

/-- second moments, -/
theorem sec_eq {v v' g g' : EReal} (hv : v = v') (hg : g = g') : sec v g = sec v' g' := by rw [hv, hg]

/-- and changes. -/
theorem change_eq {w w' m m' v v' g g' : EReal} (hw : w = w') (hm : m = m') (hv : v = v') (hg : g = g') :
    change w (mom m g) (sec v g) = change w' (mom m' g') (sec v' g') := by rw [hw, hm, hv, hg]

end Cert.Proof.Step
end
-- ==== Proof.Opt.AdamwSmall.lean ====
module

public import proofs.«01_k».proof.Defs
public import proofs.«01_k».proof.Proof.Gen.Kernel10.Frame
public import proofs.«01_k».proof.Proof.Gen.Kernel10Ideal.Frame
public import proofs.«01_k».proof.Proof.Gen.Reference10Ideal.Run
public import proofs.«01_k».proof.Proof.Opt.Step
public import Idealize.ShloMosaic.Lib.Pointwise
public import Idealize.ShloMosaic.Lib.Pipeline.ValueKit

@[expose] public section

set_option maxRecDepth 16384

noncomputable section

namespace Cert.Kernel10Ideal.Opt

open Cert.Kernel10Ideal Cert.Kernel10Ideal.Gen Cert.Proof.Step
open Idealize.ShloMosaic Idealize.ShloMosaic.TcCoe Idealize.SL.Sem

variable (m : (ℓ : Loc nD τ sig) → Buf (Elt Ideal) ℓ) (c : Dev nD)

/-- The packed weights and their two moments, and the devices' packed gradients. -/
def a0 (r : Fin 16) (d : Fin 2048) : EReal := m ((c.tc : Thread nD τ).loc main_arg0) (ix3 0 r d)
def a1 (r : Fin 16) (d : Fin 2048) : EReal := m ((c.tc : Thread nD τ).loc main_arg1) (ix3 0 r d)
def a2 (r : Fin 16) (d : Fin 2048) : EReal := m ((c.tc : Thread nD τ).loc main_arg2) (ix3 0 r d)
def a3 (s : Fin 8) (r : Fin 16) (d : Fin 2048) : EReal := m ((c.tc : Thread nD τ).loc main_arg3) (ix3 s r d)

/-- The gradient: the sum over the devices. -/
def grad (r : Fin 16) (d : Fin 2048) : EReal := ∑ s : Fin 8, a3 m c s r d

/-- Every window's block index at the one point. -/
theorem idx : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0] :=
  (by decide +kernel : ∀ t : Fin grid0.N, _)

/-- A block is its array: the weights. -/
theorem b0 (t : Fin cfg0.N) (z : Fin 1) (r : Fin 16) (d : Fin 2048) : iblk m c 0 t (ix3 z r d) = a0 m c r d := by
  unfold a0
  blk_ext [iblk, V, idx t]
/-- The first moment. -/
theorem b1 (t : Fin cfg0.N) (z : Fin 1) (r : Fin 16) (d : Fin 2048) : iblk m c 1 t (ix3 z r d) = a1 m c r d := by
  unfold a1
  blk_ext [iblk, V, idx t]
/-- The second moment. -/
theorem b2 (t : Fin cfg0.N) (z : Fin 1) (r : Fin 16) (d : Fin 2048) : iblk m c 2 t (ix3 z r d) = a2 m c r d := by
  unfold a2
  blk_ext [iblk, V, idx t]
/-- The devices' gradients. -/
theorem b3 (t : Fin cfg0.N) (s : Fin 8) (r : Fin 16) (d : Fin 2048) : iblk m c 3 t (ix3 s r d) = a3 m c s r d := by
  unfold a3
  blk_ext [iblk, V, idx t]

/-- The gradient that the body computes from its blocks. -/
theorem sum_at (x0 x1 x2 : Vec Ideal S1x16x2048 .f32) (x3 : Vec Ideal S8x16x2048 .f32) (r : Fin 16) (d : Fin 2048) :
    k0_pay8 x0 x1 x2 x3 (ix2 r d) = (∑ s : Fin 8, x3 (ix3 s r d) : EReal) := by
  rw [Fin.sum_univ_eight]
  pointwise [k0_pay8, k0_pay2]
/-- The new first moment that the body computes. -/
theorem mom_at (x0 x1 x2 : Vec Ideal S1x16x2048 .f32) (x3 : Vec Ideal S8x16x2048 .f32) (r : Fin 16) (d : Fin 2048) :
    k0_pay9 x0 x1 x2 x3 (ix2 r d) = mom (x1 (ix3 0 r d)) (∑ s : Fin 8, x3 (ix3 s r d) : EReal) := by
  pointwise [k0_pay9, k0_pay3]
  exact congrArg (fun t : EReal => mom (x1 (ix3 0 r d)) t) (sum_at x0 x1 x2 x3 r d)
/-- The new second moment that the body computes. -/
theorem sec_at (x0 x1 x2 : Vec Ideal S1x16x2048 .f32) (x3 : Vec Ideal S8x16x2048 .f32) (r : Fin 16) (d : Fin 2048) :
    k0_pay4 (k0_pay8 x0 x1 x2 x3) x2 (ix2 r d) = sec (x2 (ix3 0 r d)) (∑ s : Fin 8, x3 (ix3 s r d) : EReal) := by
  pointwise [k0_pay4]
  exact congrArg (fun t : EReal => sec (x2 (ix3 0 r d)) t) (sum_at x0 x1 x2 x3 r d)
/-- The change that the body computes. -/
theorem change_at (x0 x1 x2 : Vec Ideal S1x16x2048 .f32) (x3 : Vec Ideal S8x16x2048 .f32) (r : Fin 16) (d : Fin 2048) (z : Fin 1) :
    k0_pay6 (k0_pay8 x0 x1 x2 x3) (k0_pay9 x0 x1 x2 x3) x2 x0 (ix3 z r d)
      = change (x0 (ix3 0 r d)) (mom (x1 (ix3 0 r d)) (∑ s : Fin 8, x3 (ix3 s r d) : EReal)) (sec (x2 (ix3 0 r d)) (∑ s : Fin 8, x3 (ix3 s r d) : EReal)) := by
  pointwise [k0_pay6]
  exact congrArg₂ (fun t u : EReal => change (x0 (ix3 0 r d)) t u) (mom_at x0 x1 x2 x3 r d) (sec_at x0 x1 x2 x3 r d)

/-- The summed gradient after the run. -/
theorem arr4 : (dats m 0 c).arrAt 4 cfg0.N = fun y : S1x16x2048.Idx => grad m c (y 1) (y 2) := by
  refine (dats m 0 c).arrAt_eq_of_covers 4 _ (by decide +kernel) fun t hf y => ?_
  blk_simp
  rw [after0_4]
  frame_out
  obtain ⟨z, r, d, rfl⟩ : ∃ (z : Fin 1) (r : Fin 16) (d : Fin 2048), y = ix3 z r d := ⟨y 0, y 1, y 2, eq_ix3 y⟩
  have e : (win0_4.blk t).view.emb (ix3 z r d) = ix3 z r d := by blk_ext [idx t]
  refine Eq.trans (b := grad m c r d) ?_ (congrArg (fun y : S1x16x2048.Idx => grad m c (y 1) (y 2)) e).symm
  pointwise [k0_pay5]
  rw [sum_at]
  exact Finset.sum_congr rfl fun s _ => b3 m c t s r d

/-- The weights' change after the run. -/
theorem arr5 : (dats m 0 c).arrAt 5 cfg0.N = fun y : S1x16x2048.Idx => change (a0 m c (y 1) (y 2)) (mom (a1 m c (y 1) (y 2)) (grad m c (y 1) (y 2))) (sec (a2 m c (y 1) (y 2)) (grad m c (y 1) (y 2))) := by
  refine (dats m 0 c).arrAt_eq_of_covers 5 _ (by decide +kernel) fun t hf y => ?_
  blk_simp
  rw [after0_5]
  frame_out
  obtain ⟨z, r, d, rfl⟩ : ∃ (z : Fin 1) (r : Fin 16) (d : Fin 2048), y = ix3 z r d := ⟨y 0, y 1, y 2, eq_ix3 y⟩
  have e : (win0_5.blk t).view.emb (ix3 z r d) = ix3 z r d := by blk_ext [idx t]
  refine Eq.trans (b := change (a0 m c r d) (mom (a1 m c r d) (grad m c r d)) (sec (a2 m c r d) (grad m c r d))) ?_ (congrArg (fun y : S1x16x2048.Idx => change (a0 m c (y 1) (y 2)) (mom (a1 m c (y 1) (y 2)) (grad m c (y 1) (y 2))) (sec (a2 m c (y 1) (y 2)) (grad m c (y 1) (y 2)))) e).symm
  rw [change_at]
  simp only [b0 m c t, b1 m c t, b2 m c t, b3 m c t]
  rfl

/-- The new first moment after the run. -/
theorem arr6 : (dats m 0 c).arrAt 6 cfg0.N = fun y : S1x16x2048.Idx => mom (a1 m c (y 1) (y 2)) (grad m c (y 1) (y 2)) := by
  refine (dats m 0 c).arrAt_eq_of_covers 6 _ (by decide +kernel) fun t hf y => ?_
  blk_simp
  rw [after0_6]
  frame_out
  obtain ⟨z, r, d, rfl⟩ : ∃ (z : Fin 1) (r : Fin 16) (d : Fin 2048), y = ix3 z r d := ⟨y 0, y 1, y 2, eq_ix3 y⟩
  have e : (win0_6.blk t).view.emb (ix3 z r d) = ix3 z r d := by blk_ext [idx t]
  refine Eq.trans (b := mom (a1 m c r d) (grad m c r d)) ?_ (congrArg (fun y : S1x16x2048.Idx => mom (a1 m c (y 1) (y 2)) (grad m c (y 1) (y 2))) e).symm
  pointwise [k0_pay7]
  rw [mom_at]
  simp only [b0 m c t, b1 m c t, b2 m c t, b3 m c t]
  rfl

/-- The new second moment after the run. -/
theorem arr7 : (dats m 0 c).arrAt 7 cfg0.N = fun y : S1x16x2048.Idx => sec (a2 m c (y 1) (y 2)) (grad m c (y 1) (y 2)) := by
  refine (dats m 0 c).arrAt_eq_of_covers 7 _ (by decide +kernel) fun t hf y => ?_
  blk_simp
  rw [after0_7]
  frame_out
  obtain ⟨z, r, d, rfl⟩ : ∃ (z : Fin 1) (r : Fin 16) (d : Fin 2048), y = ix3 z r d := ⟨y 0, y 1, y 2, eq_ix3 y⟩
  have e : (win0_7.blk t).view.emb (ix3 z r d) = ix3 z r d := by blk_ext [idx t]
  refine Eq.trans (b := sec (a2 m c r d) (grad m c r d)) ?_ (congrArg (fun y : S1x16x2048.Idx => sec (a2 m c (y 1) (y 2)) (grad m c (y 1) (y 2))) e).symm
  pointwise [k0_pay1]
  rw [sec_at]
  simp only [b0 m c t, b1 m c t, b2 m c t, b3 m c t]
  rfl

end Cert.Kernel10Ideal.Opt

namespace Cert.Proof.AdamwSmall

open Idealize.ShloMosaic Idealize.ShloMosaic.TcCoe Idealize.SL.Sem

/-! The claims of the optimiser's call for the small weights. -/

/-- The call of the words runs and leaves its arguments. -/
theorem frame_p : Cert.quiescent_Kernel10 := fun m ρ _ => Cert.Kernel10.Gen.frame m ρ
/-- The call over the reals runs and leaves its arguments. -/
theorem frame_pi : Cert.quiescent_Kernel10Ideal := fun m ρ _ => Cert.Kernel10Ideal.Gen.frame m ρ
/-- The reference runs and leaves its arguments. -/
theorem frame_ri : Cert.quiescent_Reference10Ideal := fun m ρ _ =>
  (θ_run Cert.Reference10Ideal.defs _ _).mono (fun r h => ⟨fun c => (h c).2.2.2.2,
      Idealize.ShloMosaic.sem_eq_zero_of_no_sems (by decide) r.2⟩)
    (Cert.Reference10Ideal.Value.run (F := Ideal) m ρ)

/-- The two programs have one text. -/
theorem preserves : Cert.preserves_Kernel10_Kernel10Ideal := trivial

/-- The call's results are the reference's. -/
theorem algebraic : Cert.algebraic_Kernel10Ideal_Reference10Ideal := by
  pair_intro
  · run_from (Cert.Kernel10Ideal.Gen.run_main m g)
  · refine Idealize.ShloMosaic.θ_run_mono (Cert.Reference10Ideal.Value.run (F := Ideal) m' g') ?_
    intro r hr c
    obtain ⟨h0, h1, h2, h3, k0, k1, k2, k3⟩ := hr c
    obtain ⟨e0, e1, e2, e3⟩ := hagree c
    clear hr hagree hpre
    refine ⟨h0.trans ?_, h1.trans ?_, h2.trans ?_, h3.trans ?_, k0, k1, k2, k3⟩
    all_goals clear h0 h1 h2 h3 k0 k1 k2 k3
    · rw [e3, Cert.Kernel10Ideal.Opt.arr4]
      funext y
      obtain ⟨z, a, b, rfl⟩ : ∃ (z : Fin 1) (a : Fin 16) (b : Fin 2048), y = ix3 z a b := ⟨y 0, y 1, y 2, eq_ix3 y⟩
      obtain rfl : z = 0 := Subsingleton.elim _ _
      pointwise
      rfl
    · rw [e0, e1, e2, e3, Cert.Kernel10Ideal.Opt.arr5]
      funext y
      obtain ⟨z, a, b, rfl⟩ : ∃ (z : Fin 1) (a : Fin 16) (b : Fin 2048), y = ix3 z a b := ⟨y 0, y 1, y 2, eq_ix3 y⟩
      obtain rfl : z = 0 := Subsingleton.elim _ _
      pointwise
      rfl
    · rw [e1, e3, Cert.Kernel10Ideal.Opt.arr6]
      funext y
      obtain ⟨z, a, b, rfl⟩ : ∃ (z : Fin 1) (a : Fin 16) (b : Fin 2048), y = ix3 z a b := ⟨y 0, y 1, y 2, eq_ix3 y⟩
      obtain rfl : z = 0 := Subsingleton.elim _ _
      pointwise
      rfl
    · rw [e2, e3, Cert.Kernel10Ideal.Opt.arr7]
      funext y
      obtain ⟨z, a, b, rfl⟩ : ∃ (z : Fin 1) (a : Fin 16) (b : Fin 2048), y = ix3 z a b := ⟨y 0, y 1, y 2, eq_ix3 y⟩
      obtain rfl : z = 0 := Subsingleton.elim _ _
      pointwise
      rfl

end Cert.Proof.AdamwSmall
end
-- ==== Proof.Opt.AdamwWpw.lean ====
module

public import proofs.«01_k».proof.Defs
public import proofs.«01_k».proof.Proof.Gen.Kernel11.Frame
public import proofs.«01_k».proof.Proof.Gen.Kernel11Ideal.Frame
public import proofs.«01_k».proof.Proof.Gen.Reference11Ideal.Run
public import proofs.«01_k».proof.Proof.Opt.Step
public import Idealize.ShloMosaic.Lib.Pointwise
public import Idealize.ShloMosaic.Lib.Pipeline.ValueKit

@[expose] public section

set_option maxRecDepth 16384

noncomputable section

/-! The optimiser's step of the pointwise weights: two calls, the first for layer 1, the second for layer 0 over the first's results. -/

namespace Cert.Kernel11Ideal.Opt

open Cert.Kernel11Ideal Cert.Kernel11Ideal.Gen Cert.Proof.Step
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## One block -/

/-- The gradient that the body computes from its blocks. -/
theorem sum_at (x0 x1 x2 : Vec Ideal S1x128x2048 .f32) (x3 : Vec Ideal S8x128x2048 .bf16) (r : Fin 128) (d : Fin 2048) :
    k0_pay8 x0 x1 x2 x3 (ix2 r d) = (∑ s : Fin 8, x3 (ix3 s r d) : EReal) := by
  rw [Fin.sum_univ_eight]
  pointwise [k0_pay8, k0_pay3]
/-- The new first moment that the body computes. -/
theorem mom_at (x0 x1 x2 : Vec Ideal S1x128x2048 .f32) (x3 : Vec Ideal S8x128x2048 .bf16) (r : Fin 128) (d : Fin 2048) :
    k0_pay4 (k0_pay8 x0 x1 x2 x3) x1 (ix2 r d) = mom (x1 (ix3 0 r d)) (∑ s : Fin 8, x3 (ix3 s r d) : EReal) := by
  pointwise [k0_pay4]
  exact congrArg (fun t : EReal => mom (x1 (ix3 0 r d)) t) (sum_at x0 x1 x2 x3 r d)
/-- The new second moment that the body computes. -/
theorem sec_at (x0 x1 x2 : Vec Ideal S1x128x2048 .f32) (x3 : Vec Ideal S8x128x2048 .bf16) (r : Fin 128) (d : Fin 2048) :
    k0_pay5 (k0_pay8 x0 x1 x2 x3) x2 (ix2 r d) = sec (x2 (ix3 0 r d)) (∑ s : Fin 8, x3 (ix3 s r d) : EReal) := by
  pointwise [k0_pay5]
  exact congrArg (fun t : EReal => sec (x2 (ix3 0 r d)) t) (sum_at x0 x1 x2 x3 r d)
/-- The change that the body computes. -/
theorem change_at (x0 x1 x2 : Vec Ideal S1x128x2048 .f32) (x3 : Vec Ideal S8x128x2048 .bf16) (r : Fin 128) (d : Fin 2048) (z : Fin 1) :
    k0_pay7 (k0_pay8 x0 x1 x2 x3) x1 x2 x0 (ix3 z r d)
      = change (x0 (ix3 0 r d)) (mom (x1 (ix3 0 r d)) (∑ s : Fin 8, x3 (ix3 s r d) : EReal)) (sec (x2 (ix3 0 r d)) (∑ s : Fin 8, x3 (ix3 s r d) : EReal)) := by
  pointwise [k0_pay7]
  exact congrArg₂ (fun t u : EReal => change (x0 (ix3 0 r d)) t u) (mom_at x0 x1 x2 x3 r d) (sec_at x0 x1 x2 x3 r d)
/-- A block of the gradient, as the first call's body leaves it. -/
theorem out_4 (x0 x1 x2 : Vec Ideal S1x128x2048 .f32) (x3 : Vec Ideal S8x128x2048 .bf16) (z : Fin 1) (r : Fin 128) (d : Fin 2048) : out0_4 x0 x1 x2 x3 (ix3 z r d) = (∑ s : Fin 8, x3 (ix3 s r d) : EReal) := by
  unfold out0_4
  frame_out
  pointwise [k0_pay6]
  rw [sum_at]
/-- A block of the change, as the first call's body leaves it. -/
theorem out_5 (x0 x1 x2 : Vec Ideal S1x128x2048 .f32) (x3 : Vec Ideal S8x128x2048 .bf16) (z : Fin 1) (r : Fin 128) (d : Fin 2048) : out0_5 x0 x1 x2 x3 (ix3 z r d) = change (x0 (ix3 0 r d)) (mom (x1 (ix3 0 r d)) (∑ s : Fin 8, x3 (ix3 s r d) : EReal)) (sec (x2 (ix3 0 r d)) (∑ s : Fin 8, x3 (ix3 s r d) : EReal)) := by
  unfold out0_5
  frame_out
  rw [change_at]
/-- A block of the new first moment, as the first call's body leaves it. -/
theorem out_6 (x0 x1 x2 : Vec Ideal S1x128x2048 .f32) (x3 : Vec Ideal S8x128x2048 .bf16) (z : Fin 1) (r : Fin 128) (d : Fin 2048) : out0_6 x0 x1 x2 x3 (ix3 z r d) = mom (x1 (ix3 0 r d)) (∑ s : Fin 8, x3 (ix3 s r d) : EReal) := by
  unfold out0_6
  frame_out
  pointwise [k0_pay1]
  rw [mom_at]
/-- A block of the new second moment, as the first call's body leaves it. -/
theorem out_7 (x0 x1 x2 : Vec Ideal S1x128x2048 .f32) (x3 : Vec Ideal S8x128x2048 .bf16) (z : Fin 1) (r : Fin 128) (d : Fin 2048) : out0_7 x0 x1 x2 x3 (ix3 z r d) = sec (x2 (ix3 0 r d)) (∑ s : Fin 8, x3 (ix3 s r d) : EReal) := by
  unfold out0_7
  frame_out
  pointwise [k0_pay2]
  rw [sec_at]

/-! ## The second call's body leaves the same -/

/-- Its block of the gradient. -/
theorem after_4 (V : (c : Dev nD) → (b : Ref sig .tc) → Buf (Elt Ideal) ((c : Thread nD τ).loc b)) (c : Dev nD) (t : Fin cfg1.N) :
    (outsAt1 V c t).1 = out0_4 (iblk1 V c 0 t) (iblk1 V c 1 t) (iblk1 V c 2 t) (iblk1 V c 3 t) := by
  unfold outsAt1 out1_A_4
  rw [View.read_writes_eq_canon _ _ _ (cover1_A_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t))]
  unfold kernelRun1_A
  dsimp only
  sl_unfold_words
  simp only [View.readAt_eq_ld, (hs1_0 t).read_unread, (hs1_1 t).read_unread, (hs1_2 t).read_unread, (hs1_3 t).read_unread]
  rfl
/-- Its block of the change. -/
theorem after_5 (V : (c : Dev nD) → (b : Ref sig .tc) → Buf (Elt Ideal) ((c : Thread nD τ).loc b)) (c : Dev nD) (t : Fin cfg1.N) :
    (outsAt1 V c t).2.1 = out0_5 (iblk1 V c 0 t) (iblk1 V c 1 t) (iblk1 V c 2 t) (iblk1 V c 3 t) := by
  unfold outsAt1 out1_A_5
  rw [View.read_writes_eq_canon _ _ _ (cover1_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t))]
  unfold kernelRun1_A
  dsimp only
  sl_unfold_words
  simp only [View.readAt_eq_ld, (hs1_0 t).read_unread, (hs1_1 t).read_unread, (hs1_2 t).read_unread, (hs1_3 t).read_unread]
  rfl
/-- Its block of the new first moment. -/
theorem after_6 (V : (c : Dev nD) → (b : Ref sig .tc) → Buf (Elt Ideal) ((c : Thread nD τ).loc b)) (c : Dev nD) (t : Fin cfg1.N) :
    (outsAt1 V c t).2.2.1 = out0_6 (iblk1 V c 0 t) (iblk1 V c 1 t) (iblk1 V c 2 t) (iblk1 V c 3 t) := by
  unfold outsAt1 out1_A_6
  rw [View.read_writes_eq_canon _ _ _ (cover1_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t))]
  unfold kernelRun1_A
  dsimp only
  sl_unfold_words
  simp only [View.readAt_eq_ld, (hs1_0 t).read_unread, (hs1_1 t).read_unread, (hs1_2 t).read_unread, (hs1_3 t).read_unread]
  rfl
/-- Its block of the new second moment. -/
theorem after_7 (V : (c : Dev nD) → (b : Ref sig .tc) → Buf (Elt Ideal) ((c : Thread nD τ).loc b)) (c : Dev nD) (t : Fin cfg1.N) :
    (outsAt1 V c t).2.2.2 = out0_7 (iblk1 V c 0 t) (iblk1 V c 1 t) (iblk1 V c 2 t) (iblk1 V c 3 t) := by
  unfold outsAt1 out1_A_7
  rw [View.read_writes_eq_canon _ _ _ (cover1_A_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t))]
  unfold kernelRun1_A
  dsimp only
  sl_unfold_words
  simp only [View.readAt_eq_ld, (hs1_0 t).read_unread, (hs1_1 t).read_unread, (hs1_2 t).read_unread, (hs1_3 t).read_unread]
  rfl

/-! ## The two calls' blocks and results -/

section Value

variable (V : (c : Dev nD) → (b : Ref sig .tc) → Buf (Elt Ideal) ((c : Thread nD τ).loc b)) (c : Dev nD)

/-- Every window's block index at a point. -/
theorem idx0 : ∀ t : Fin cfg0.N, win0_0.index t = ![1, t.val, 0] ∧ win0_1.index t = ![1, t.val, 0] ∧ win0_2.index t = ![1, t.val, 0] ∧ win0_3.index t = ![0, t.val, 0]
    ∧ win0_4.index t = ![1, t.val, 0] ∧ win0_5.index t = ![1, t.val, 0] ∧ win0_6.index t = ![1, t.val, 0] ∧ win0_7.index t = ![1, t.val, 0] :=
  (by decide +kernel : ∀ t : Fin grid0.N, _)
/-- The same of the second call. -/
theorem idx1 : ∀ t : Fin cfg1.N, win1_0.index t = ![0, t.val, 0] ∧ win1_1.index t = ![0, t.val, 0] ∧ win1_2.index t = ![0, t.val, 0] ∧ win1_3.index t = ![0, t.val, 0]
    ∧ win1_4.index t = ![0, t.val, 0] ∧ win1_5.index t = ![0, t.val, 0] ∧ win1_6.index t = ![0, t.val, 0] ∧ win1_7.index t = ![0, t.val, 0] :=
  (by decide +kernel : ∀ t : Fin grid1.N, _)

/-- The row that a block's row is, at a point. -/
abbrev row0 (t : Fin cfg0.N) (r : Fin 128) : Fin 256 := ⟨t.val * 128 + r.val, by have := lt_of_lt_of_eq t.isLt N_0; omega⟩
/-- The same of the second call. -/
abbrev row1 (t : Fin cfg1.N) (r : Fin 128) : Fin 256 := ⟨t.val * 128 + r.val, by have := lt_of_lt_of_eq t.isLt N_1; omega⟩
/-- A block of call 1's argument 0. -/
theorem b00 (t : Fin cfg0.N) (z : Fin 1) (r : Fin 128) (d : Fin 2048) : iblk0 V c 0 t (ix3 z r d) = V c main_arg0 (ix3 1 (row0 t r) d) := by
  blk_ext [iblk0, row0, idx0 t]
/-- A block of call 1's argument 1. -/
theorem b01 (t : Fin cfg0.N) (z : Fin 1) (r : Fin 128) (d : Fin 2048) : iblk0 V c 1 t (ix3 z r d) = V c main_arg1 (ix3 1 (row0 t r) d) := by
  blk_ext [iblk0, row0, idx0 t]
/-- A block of call 1's argument 2. -/
theorem b02 (t : Fin cfg0.N) (z : Fin 1) (r : Fin 128) (d : Fin 2048) : iblk0 V c 2 t (ix3 z r d) = V c main_arg2 (ix3 1 (row0 t r) d) := by
  blk_ext [iblk0, row0, idx0 t]
/-- A block of call 1's devices' gradients. -/
theorem b03 (t : Fin cfg0.N) (s : Fin 8) (r : Fin 128) (d : Fin 2048) : iblk0 V c 3 t (ix3 s r d) = V c main_v0 (ix3 s (row0 t r) d) := by
  blk_ext [iblk0, row0, idx0 t]
/-- A block of call 2's argument 0. -/
theorem b10 (t : Fin cfg1.N) (z : Fin 1) (r : Fin 128) (d : Fin 2048) : iblk1 V c 0 t (ix3 z r d) = V c main_arg0 (ix3 0 (row1 t r) d) := by
  blk_ext [iblk1, row1, idx1 t]
/-- A block of call 2's argument 1. -/
theorem b11 (t : Fin cfg1.N) (z : Fin 1) (r : Fin 128) (d : Fin 2048) : iblk1 V c 1 t (ix3 z r d) = V c main_arg1 (ix3 0 (row1 t r) d) := by
  blk_ext [iblk1, row1, idx1 t]
/-- A block of call 2's argument 2. -/
theorem b12 (t : Fin cfg1.N) (z : Fin 1) (r : Fin 128) (d : Fin 2048) : iblk1 V c 2 t (ix3 z r d) = V c main_arg2 (ix3 0 (row1 t r) d) := by
  blk_ext [iblk1, row1, idx1 t]
/-- A block of call 2's devices' gradients. -/
theorem b13 (t : Fin cfg1.N) (s : Fin 8) (r : Fin 128) (d : Fin 2048) : iblk1 V c 3 t (ix3 s r d) = V c main_v2 (ix3 s (row1 t r) d) := by
  blk_ext [iblk1, row1, idx1 t]
/-- Call 1's array of the gradient after the run: layer 1 is written, the other layer is as it was. -/
theorem arr04 : (dat0 V c).arrAt 4 cfg0.N = fun y : S2x256x2048.Idx => if (y 0 : ℕ) / 1 = 1 then (∑ s : Fin 8, V c main_v0 (ix3 s (y 1) (y 2)) : EReal) else (dat0 V c).A 4 y := by
  refine (dat0 V c).arrAt_eq_of_coversWhere 4 _ (fun β => β (0 : Fin 3) = 1) (by decide +kernel) (fun t hf y => ?_) (fun j => Iff.rfl)
  blk_simp
  rw [after0_4]
  obtain ⟨z, r, d, rfl⟩ : ∃ (z : Fin 1) (r : Fin 128) (d : Fin 2048), y = ix3 z r d := ⟨y 0, y 1, y 2, eq_ix3 y⟩
  have e : (win0_4.blk t).view.emb (ix3 z r d) = ix3 1 (row0 t r) d := by blk_ext [row0, idx0 t]
  refine Eq.trans (b := (∑ s : Fin 8, V c main_v0 (ix3 s (row0 t r) d) : EReal)) ?_ (congrArg (fun y : S2x256x2048.Idx => (∑ s : Fin 8, V c main_v0 (ix3 s (y 1) (y 2)) : EReal)) e).symm
  refine (out_4 _ _ _ _ z r d).trans ?_
  simp only [b00 V c t, b01 V c t, b02 V c t, b03 V c t]
/-- Call 1's array of the change after the run: layer 1 is written, the other layer is as it was. -/
theorem arr05 : (dat0 V c).arrAt 5 cfg0.N = fun y : S2x256x2048.Idx => if (y 0 : ℕ) / 1 = 1 then change (V c main_arg0 (ix3 1 (y 1) (y 2))) (mom (V c main_arg1 (ix3 1 (y 1) (y 2))) (∑ s : Fin 8, V c main_v0 (ix3 s (y 1) (y 2)) : EReal)) (sec (V c main_arg2 (ix3 1 (y 1) (y 2))) (∑ s : Fin 8, V c main_v0 (ix3 s (y 1) (y 2)) : EReal)) else (dat0 V c).A 5 y := by
  refine (dat0 V c).arrAt_eq_of_coversWhere 5 _ (fun β => β (0 : Fin 3) = 1) (by decide +kernel) (fun t hf y => ?_) (fun j => Iff.rfl)
  blk_simp
  rw [after0_5]
  obtain ⟨z, r, d, rfl⟩ : ∃ (z : Fin 1) (r : Fin 128) (d : Fin 2048), y = ix3 z r d := ⟨y 0, y 1, y 2, eq_ix3 y⟩
  have e : (win0_5.blk t).view.emb (ix3 z r d) = ix3 1 (row0 t r) d := by blk_ext [row0, idx0 t]
  refine Eq.trans (b := change (V c main_arg0 (ix3 1 (row0 t r) d)) (mom (V c main_arg1 (ix3 1 (row0 t r) d)) (∑ s : Fin 8, V c main_v0 (ix3 s (row0 t r) d) : EReal)) (sec (V c main_arg2 (ix3 1 (row0 t r) d)) (∑ s : Fin 8, V c main_v0 (ix3 s (row0 t r) d) : EReal))) ?_ (congrArg (fun y : S2x256x2048.Idx => change (V c main_arg0 (ix3 1 (y 1) (y 2))) (mom (V c main_arg1 (ix3 1 (y 1) (y 2))) (∑ s : Fin 8, V c main_v0 (ix3 s (y 1) (y 2)) : EReal)) (sec (V c main_arg2 (ix3 1 (y 1) (y 2))) (∑ s : Fin 8, V c main_v0 (ix3 s (y 1) (y 2)) : EReal))) e).symm
  refine (out_5 _ _ _ _ z r d).trans ?_
  simp only [b00 V c t, b01 V c t, b02 V c t, b03 V c t]
/-- Call 1's array of the new first moment after the run: layer 1 is written, the other layer is as it was. -/
theorem arr06 : (dat0 V c).arrAt 6 cfg0.N = fun y : S2x256x2048.Idx => if (y 0 : ℕ) / 1 = 1 then (mom (V c main_arg1 (ix3 1 (y 1) (y 2))) (∑ s : Fin 8, V c main_v0 (ix3 s (y 1) (y 2)) : EReal)) else (dat0 V c).A 6 y := by
  refine (dat0 V c).arrAt_eq_of_coversWhere 6 _ (fun β => β (0 : Fin 3) = 1) (by decide +kernel) (fun t hf y => ?_) (fun j => Iff.rfl)
  blk_simp
  rw [after0_6]
  obtain ⟨z, r, d, rfl⟩ : ∃ (z : Fin 1) (r : Fin 128) (d : Fin 2048), y = ix3 z r d := ⟨y 0, y 1, y 2, eq_ix3 y⟩
  have e : (win0_6.blk t).view.emb (ix3 z r d) = ix3 1 (row0 t r) d := by blk_ext [row0, idx0 t]
  refine Eq.trans (b := (mom (V c main_arg1 (ix3 1 (row0 t r) d)) (∑ s : Fin 8, V c main_v0 (ix3 s (row0 t r) d) : EReal))) ?_ (congrArg (fun y : S2x256x2048.Idx => (mom (V c main_arg1 (ix3 1 (y 1) (y 2))) (∑ s : Fin 8, V c main_v0 (ix3 s (y 1) (y 2)) : EReal))) e).symm
  refine (out_6 _ _ _ _ z r d).trans ?_
  simp only [b00 V c t, b01 V c t, b02 V c t, b03 V c t]
/-- Call 1's array of the new second moment after the run: layer 1 is written, the other layer is as it was. -/
theorem arr07 : (dat0 V c).arrAt 7 cfg0.N = fun y : S2x256x2048.Idx => if (y 0 : ℕ) / 1 = 1 then (sec (V c main_arg2 (ix3 1 (y 1) (y 2))) (∑ s : Fin 8, V c main_v0 (ix3 s (y 1) (y 2)) : EReal)) else (dat0 V c).A 7 y := by
  refine (dat0 V c).arrAt_eq_of_coversWhere 7 _ (fun β => β (0 : Fin 3) = 1) (by decide +kernel) (fun t hf y => ?_) (fun j => Iff.rfl)
  blk_simp
  rw [after0_7]
  obtain ⟨z, r, d, rfl⟩ : ∃ (z : Fin 1) (r : Fin 128) (d : Fin 2048), y = ix3 z r d := ⟨y 0, y 1, y 2, eq_ix3 y⟩
  have e : (win0_7.blk t).view.emb (ix3 z r d) = ix3 1 (row0 t r) d := by blk_ext [row0, idx0 t]
  refine Eq.trans (b := (sec (V c main_arg2 (ix3 1 (row0 t r) d)) (∑ s : Fin 8, V c main_v0 (ix3 s (row0 t r) d) : EReal))) ?_ (congrArg (fun y : S2x256x2048.Idx => (sec (V c main_arg2 (ix3 1 (y 1) (y 2))) (∑ s : Fin 8, V c main_v0 (ix3 s (y 1) (y 2)) : EReal))) e).symm
  refine (out_7 _ _ _ _ z r d).trans ?_
  simp only [b00 V c t, b01 V c t, b02 V c t, b03 V c t]
/-- Call 2's array of the gradient after the run: layer 0 is written, the other layer is as it was. -/
theorem arr14 : (dat1 V c).arrAt 4 cfg1.N = fun y : S2x256x2048.Idx => if (y 0 : ℕ) / 1 = 0 then (∑ s : Fin 8, V c main_v2 (ix3 s (y 1) (y 2)) : EReal) else (dat1 V c).A 4 y := by
  refine (dat1 V c).arrAt_eq_of_coversWhere 4 _ (fun β => β (0 : Fin 3) = 0) (by decide +kernel) (fun t hf y => ?_) (fun j => Iff.rfl)
  blk_simp
  rw [after1_4, after_4]
  obtain ⟨z, r, d, rfl⟩ : ∃ (z : Fin 1) (r : Fin 128) (d : Fin 2048), y = ix3 z r d := ⟨y 0, y 1, y 2, eq_ix3 y⟩
  have e : (win1_4.blk t).view.emb (ix3 z r d) = ix3 0 (row1 t r) d := by blk_ext [row1, idx1 t]
  refine Eq.trans (b := (∑ s : Fin 8, V c main_v2 (ix3 s (row1 t r) d) : EReal)) ?_ (congrArg (fun y : S2x256x2048.Idx => (∑ s : Fin 8, V c main_v2 (ix3 s (y 1) (y 2)) : EReal)) e).symm
  refine (out_4 _ _ _ _ z r d).trans ?_
  simp only [b10 V c t, b11 V c t, b12 V c t, b13 V c t]
/-- Call 2's array of the change after the run: layer 0 is written, the other layer is as it was. -/
theorem arr15 : (dat1 V c).arrAt 5 cfg1.N = fun y : S2x256x2048.Idx => if (y 0 : ℕ) / 1 = 0 then change (V c main_arg0 (ix3 0 (y 1) (y 2))) (mom (V c main_arg1 (ix3 0 (y 1) (y 2))) (∑ s : Fin 8, V c main_v2 (ix3 s (y 1) (y 2)) : EReal)) (sec (V c main_arg2 (ix3 0 (y 1) (y 2))) (∑ s : Fin 8, V c main_v2 (ix3 s (y 1) (y 2)) : EReal)) else (dat1 V c).A 5 y := by
  refine (dat1 V c).arrAt_eq_of_coversWhere 5 _ (fun β => β (0 : Fin 3) = 0) (by decide +kernel) (fun t hf y => ?_) (fun j => Iff.rfl)
  blk_simp
  rw [after1_5, after_5]
  obtain ⟨z, r, d, rfl⟩ : ∃ (z : Fin 1) (r : Fin 128) (d : Fin 2048), y = ix3 z r d := ⟨y 0, y 1, y 2, eq_ix3 y⟩
  have e : (win1_5.blk t).view.emb (ix3 z r d) = ix3 0 (row1 t r) d := by blk_ext [row1, idx1 t]
  refine Eq.trans (b := change (V c main_arg0 (ix3 0 (row1 t r) d)) (mom (V c main_arg1 (ix3 0 (row1 t r) d)) (∑ s : Fin 8, V c main_v2 (ix3 s (row1 t r) d) : EReal)) (sec (V c main_arg2 (ix3 0 (row1 t r) d)) (∑ s : Fin 8, V c main_v2 (ix3 s (row1 t r) d) : EReal))) ?_ (congrArg (fun y : S2x256x2048.Idx => change (V c main_arg0 (ix3 0 (y 1) (y 2))) (mom (V c main_arg1 (ix3 0 (y 1) (y 2))) (∑ s : Fin 8, V c main_v2 (ix3 s (y 1) (y 2)) : EReal)) (sec (V c main_arg2 (ix3 0 (y 1) (y 2))) (∑ s : Fin 8, V c main_v2 (ix3 s (y 1) (y 2)) : EReal))) e).symm
  refine (out_5 _ _ _ _ z r d).trans ?_
  simp only [b10 V c t, b11 V c t, b12 V c t, b13 V c t]
/-- Call 2's array of the new first moment after the run: layer 0 is written, the other layer is as it was. -/
theorem arr16 : (dat1 V c).arrAt 6 cfg1.N = fun y : S2x256x2048.Idx => if (y 0 : ℕ) / 1 = 0 then (mom (V c main_arg1 (ix3 0 (y 1) (y 2))) (∑ s : Fin 8, V c main_v2 (ix3 s (y 1) (y 2)) : EReal)) else (dat1 V c).A 6 y := by
  refine (dat1 V c).arrAt_eq_of_coversWhere 6 _ (fun β => β (0 : Fin 3) = 0) (by decide +kernel) (fun t hf y => ?_) (fun j => Iff.rfl)
  blk_simp
  rw [after1_6, after_6]
  obtain ⟨z, r, d, rfl⟩ : ∃ (z : Fin 1) (r : Fin 128) (d : Fin 2048), y = ix3 z r d := ⟨y 0, y 1, y 2, eq_ix3 y⟩
  have e : (win1_6.blk t).view.emb (ix3 z r d) = ix3 0 (row1 t r) d := by blk_ext [row1, idx1 t]
  refine Eq.trans (b := (mom (V c main_arg1 (ix3 0 (row1 t r) d)) (∑ s : Fin 8, V c main_v2 (ix3 s (row1 t r) d) : EReal))) ?_ (congrArg (fun y : S2x256x2048.Idx => (mom (V c main_arg1 (ix3 0 (y 1) (y 2))) (∑ s : Fin 8, V c main_v2 (ix3 s (y 1) (y 2)) : EReal))) e).symm
  refine (out_6 _ _ _ _ z r d).trans ?_
  simp only [b10 V c t, b11 V c t, b12 V c t, b13 V c t]
/-- Call 2's array of the new second moment after the run: layer 0 is written, the other layer is as it was. -/
theorem arr17 : (dat1 V c).arrAt 7 cfg1.N = fun y : S2x256x2048.Idx => if (y 0 : ℕ) / 1 = 0 then (sec (V c main_arg2 (ix3 0 (y 1) (y 2))) (∑ s : Fin 8, V c main_v2 (ix3 s (y 1) (y 2)) : EReal)) else (dat1 V c).A 7 y := by
  refine (dat1 V c).arrAt_eq_of_coversWhere 7 _ (fun β => β (0 : Fin 3) = 0) (by decide +kernel) (fun t hf y => ?_) (fun j => Iff.rfl)
  blk_simp
  rw [after1_7, after_7]
  obtain ⟨z, r, d, rfl⟩ : ∃ (z : Fin 1) (r : Fin 128) (d : Fin 2048), y = ix3 z r d := ⟨y 0, y 1, y 2, eq_ix3 y⟩
  have e : (win1_7.blk t).view.emb (ix3 z r d) = ix3 0 (row1 t r) d := by blk_ext [row1, idx1 t]
  refine Eq.trans (b := (sec (V c main_arg2 (ix3 0 (row1 t r) d)) (∑ s : Fin 8, V c main_v2 (ix3 s (row1 t r) d) : EReal))) ?_ (congrArg (fun y : S2x256x2048.Idx => (sec (V c main_arg2 (ix3 0 (y 1) (y 2))) (∑ s : Fin 8, V c main_v2 (ix3 s (y 1) (y 2)) : EReal))) e).symm
  refine (out_7 _ _ _ _ z r d).trans ?_
  simp only [b10 V c t, b11 V c t, b12 V c t, b13 V c t]

end Value

/-! ## The run -/

section Run

variable (m : (ℓ : Loc nD τ sig) → Buf (Elt Ideal) ℓ) (ρ : Dev nD → PrngReg)

set_option backward.isDefEq.respectTransparency.types false in
/-- Every run ends with the second call's results in place and the arguments as they were. -/
theorem run_all : θ_run defs (onTc (τ := τ) (main (F := Ideal))) ⟨m, fun _ => 0, ρ⟩ (fun r => ∀ c : Dev nD,
      r.2.mem ((c.tc : Thread nD τ).loc main_v3_0) = W4 m ρ c (Proc.devRef .tc main_v3_0)
      ∧ r.2.mem ((c.tc : Thread nD τ).loc main_v3_1) = W4 m ρ c (Proc.devRef .tc main_v3_1)
      ∧ r.2.mem ((c.tc : Thread nD τ).loc main_v3_2) = W4 m ρ c (Proc.devRef .tc main_v3_2)
      ∧ r.2.mem ((c.tc : Thread nD τ).loc main_v3_3) = W4 m ρ c (Proc.devRef .tc main_v3_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨h c _ (mem_uc main_v3_0 (by decide)),
       h c _ (mem_uc main_v3_1 (by decide)),
       h c _ (mem_uc main_v3_2 (by decide)),
       h c _ (mem_uc main_v3_3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

variable (c : Dev nD)

/-- Argument 0 at the two calls. -/
theorem e00 : V1 m ρ c main_arg0 = m ((c.tc : Thread nD τ).loc main_arg0) := W1_args m ρ c main_arg0 (by decide)
theorem e10 : V3 m ρ c main_arg0 = m ((c.tc : Thread nD τ).loc main_arg0) := W3_args m ρ c main_arg0 (by decide)
/-- Argument 1 at the two calls. -/
theorem e01 : V1 m ρ c main_arg1 = m ((c.tc : Thread nD τ).loc main_arg1) := W1_args m ρ c main_arg1 (by decide)
theorem e11 : V3 m ρ c main_arg1 = m ((c.tc : Thread nD τ).loc main_arg1) := W3_args m ρ c main_arg1 (by decide)
/-- Argument 2 at the two calls. -/
theorem e02 : V1 m ρ c main_arg2 = m ((c.tc : Thread nD τ).loc main_arg2) := W1_args m ρ c main_arg2 (by decide)
theorem e12 : V3 m ρ c main_arg2 = m ((c.tc : Thread nD τ).loc main_arg2) := W3_args m ρ c main_arg2 (by decide)
/-- The devices' gradients of layer 1 at the first call, -/
theorem e03 (y : S8x256x2048.Idx) : V1 m ρ c main_v0 y = m ((c.tc : Thread nD τ).loc main_arg4) y := by
  have h : W0 m ρ c (Proc.devRef .tc main_arg4) = m ((c.tc : Thread nD τ).loc main_arg4) := rfl
  show StableHlo.after hostOps0 (W0 m ρ c) (Proc.devRef .tc main_v0) y = _
  after_results
  rw [h]
  rfl
/-- and of layer 0 at the second. -/
theorem e13 (y : S8x256x2048.Idx) : V3 m ρ c main_v2 y = m ((c.tc : Thread nD τ).loc main_arg3) y := by
  have h := W2_args m ρ c main_arg3 (by decide)
  show StableHlo.after hostOps1 (W2 m ρ c) (Proc.devRef .tc main_v2) y = _
  after_results
  rw [h]
  rfl
/-- The second call finds the first's array of the gradient. -/
theorem prev4 : (dat1 (V3 m ρ) c).A 4 = (dat0 (V1 m ρ) c).arrAt 4 cfg0.N := by
  refine (A_eq1 (V3 m ρ) c 4).trans (Eq.trans ?_ (W2_arr m ρ c 4))
  show StableHlo.after hostOps1 (W2 m ρ c) (Proc.devRef .tc main_v3_0) = _
  after_results
  rfl
/-- The second call finds the first's array of the change. -/
theorem prev5 : (dat1 (V3 m ρ) c).A 5 = (dat0 (V1 m ρ) c).arrAt 5 cfg0.N := by
  refine (A_eq1 (V3 m ρ) c 5).trans (Eq.trans ?_ (W2_arr m ρ c 5))
  show StableHlo.after hostOps1 (W2 m ρ c) (Proc.devRef .tc main_v3_1) = _
  after_results
  rfl
/-- The second call finds the first's array of the new first moment. -/
theorem prev6 : (dat1 (V3 m ρ) c).A 6 = (dat0 (V1 m ρ) c).arrAt 6 cfg0.N := by
  refine (A_eq1 (V3 m ρ) c 6).trans (Eq.trans ?_ (W2_arr m ρ c 6))
  show StableHlo.after hostOps1 (W2 m ρ c) (Proc.devRef .tc main_v3_2) = _
  after_results
  rfl
/-- The second call finds the first's array of the new second moment. -/
theorem prev7 : (dat1 (V3 m ρ) c).A 7 = (dat0 (V1 m ρ) c).arrAt 7 cfg0.N := by
  refine (A_eq1 (V3 m ρ) c 7).trans (Eq.trans ?_ (W2_arr m ρ c 7))
  show StableHlo.after hostOps1 (W2 m ρ c) (Proc.devRef .tc main_v3_3) = _
  after_results
  rfl

/-- The weights. -/
def a0 (l : Fin 2) (r : Fin 256) (d : Fin 2048) : EReal := m ((c.tc : Thread nD τ).loc main_arg0) (ix3 l r d)
/-- The first moments. -/
def a1 (l : Fin 2) (r : Fin 256) (d : Fin 2048) : EReal := m ((c.tc : Thread nD τ).loc main_arg1) (ix3 l r d)
/-- The second moments. -/
def a2 (l : Fin 2) (r : Fin 256) (d : Fin 2048) : EReal := m ((c.tc : Thread nD τ).loc main_arg2) (ix3 l r d)
/-- A layer's gradient: the sum of its parts. -/
def grad (l : Fin 2) (r : Fin 256) (d : Fin 2048) : EReal :=
  if l = 0 then (∑ s : Fin 8, m ((c.tc : Thread nD τ).loc main_arg3) (ix3 s r d) : EReal) else (∑ s : Fin 8, m ((c.tc : Thread nD τ).loc main_arg4) (ix3 s r d) : EReal)
/-- Layer 1's gradient. -/
theorem g0 (r : Fin 256) (d : Fin 2048) : (∑ s : Fin 8, V1 m ρ c main_v0 (ix3 s r d) : EReal) = grad m c 1 r d :=
  congrArg (fun f : Fin 8 → EReal => ∑ s : Fin 8, f s) (funext fun s => e03 m ρ c (ix3 s r d))
/-- Layer 0's gradient. -/
theorem g1 (r : Fin 256) (d : Fin 2048) : (∑ s : Fin 8, V3 m ρ c main_v2 (ix3 s r d) : EReal) = grad m c 0 r d :=
  congrArg (fun f : Fin 8 → EReal => ∑ s : Fin 8, f s) (funext fun s => e13 m ρ c (ix3 s r d))
/-- The program's result: the gradient. -/
theorem res4 (l : Fin 2) (r : Fin 256) (d : Fin 2048) : W4 m ρ c (Proc.devRef .tc main_v3_0) (ix3 l r d) = grad m c l r d := by
  refine (congrFun (W4_arr m ρ c 4) _).trans ?_
  rw [arr14, prev4, arr04]
  rcases (show l = 0 ∨ l = 1 by omega) with rfl | rfl
  · refine (if_pos (show (0 : ℕ) / 1 = 0 from rfl)).trans ?_
    exact g1 m ρ c r d
  · refine (if_neg (show ¬ (1 : ℕ) / 1 = 0 by decide)).trans ((if_pos (show (1 : ℕ) / 1 = 1 from rfl)).trans ?_)
    exact g0 m ρ c r d
/-- The program's result: the change. -/
theorem res5 (l : Fin 2) (r : Fin 256) (d : Fin 2048) : W4 m ρ c (Proc.devRef .tc main_v3_1) (ix3 l r d) = change (a0 m c l r d) (mom (a1 m c l r d) (grad m c l r d)) (sec (a2 m c l r d) (grad m c l r d)) := by
  refine (congrFun (W4_arr m ρ c 5) _).trans ?_
  rw [arr15, prev5, arr05]
  rcases (show l = 0 ∨ l = 1 by omega) with rfl | rfl
  · refine (if_pos (show (0 : ℕ) / 1 = 0 from rfl)).trans ?_
    exact change_eq (congrFun (e10 m ρ c) (ix3 0 r d)) (congrFun (e11 m ρ c) (ix3 0 r d)) (congrFun (e12 m ρ c) (ix3 0 r d)) (g1 m ρ c r d)
  · refine (if_neg (show ¬ (1 : ℕ) / 1 = 0 by decide)).trans ((if_pos (show (1 : ℕ) / 1 = 1 from rfl)).trans ?_)
    exact change_eq (congrFun (e00 m ρ c) (ix3 1 r d)) (congrFun (e01 m ρ c) (ix3 1 r d)) (congrFun (e02 m ρ c) (ix3 1 r d)) (g0 m ρ c r d)
/-- The program's result: the new first moment. -/
theorem res6 (l : Fin 2) (r : Fin 256) (d : Fin 2048) : W4 m ρ c (Proc.devRef .tc main_v3_2) (ix3 l r d) = mom (a1 m c l r d) (grad m c l r d) := by
  refine (congrFun (W4_arr m ρ c 6) _).trans ?_
  rw [arr16, prev6, arr06]
  rcases (show l = 0 ∨ l = 1 by omega) with rfl | rfl
  · refine (if_pos (show (0 : ℕ) / 1 = 0 from rfl)).trans ?_
    exact mom_eq (congrFun (e11 m ρ c) (ix3 0 r d)) (g1 m ρ c r d)
  · refine (if_neg (show ¬ (1 : ℕ) / 1 = 0 by decide)).trans ((if_pos (show (1 : ℕ) / 1 = 1 from rfl)).trans ?_)
    exact mom_eq (congrFun (e01 m ρ c) (ix3 1 r d)) (g0 m ρ c r d)
/-- The program's result: the new second moment. -/
theorem res7 (l : Fin 2) (r : Fin 256) (d : Fin 2048) : W4 m ρ c (Proc.devRef .tc main_v3_3) (ix3 l r d) = sec (a2 m c l r d) (grad m c l r d) := by
  refine (congrFun (W4_arr m ρ c 7) _).trans ?_
  rw [arr17, prev7, arr07]
  rcases (show l = 0 ∨ l = 1 by omega) with rfl | rfl
  · refine (if_pos (show (0 : ℕ) / 1 = 0 from rfl)).trans ?_
    exact sec_eq (congrFun (e12 m ρ c) (ix3 0 r d)) (g1 m ρ c r d)
  · refine (if_neg (show ¬ (1 : ℕ) / 1 = 0 by decide)).trans ((if_pos (show (1 : ℕ) / 1 = 1 from rfl)).trans ?_)
    exact sec_eq (congrFun (e02 m ρ c) (ix3 1 r d)) (g0 m ρ c r d)

end Run

end Cert.Kernel11Ideal.Opt

namespace Cert.Proof.AdamwWpw

open Idealize.ShloMosaic Idealize.ShloMosaic.TcCoe Idealize.SL.Sem

/-! The claims of the optimiser's two calls for the pointwise weights. -/

/-- The calls of the words run and leave their arguments. -/
theorem frame_p : Cert.quiescent_Kernel11 := fun m ρ _ => Cert.Kernel11.Gen.frame m ρ
/-- The calls over the reals run and leave their arguments. -/
theorem frame_pi : Cert.quiescent_Kernel11Ideal := fun m ρ _ => Cert.Kernel11Ideal.Gen.frame m ρ
/-- The reference runs and leaves its arguments. -/
theorem frame_ri : Cert.quiescent_Reference11Ideal := fun m ρ _ =>
  (θ_run Cert.Reference11Ideal.defs _ _).mono (fun r h => ⟨fun c => (h c).2.2.2.2,
      Idealize.ShloMosaic.sem_eq_zero_of_no_sems (by decide) r.2⟩)
    (Cert.Reference11Ideal.Value.run (F := Ideal) m ρ)

/-- The two programs have one text. -/
theorem preserves : Cert.preserves_Kernel11_Kernel11Ideal := trivial

/-- The calls' results are the reference's. -/
theorem algebraic : Cert.algebraic_Kernel11Ideal_Reference11Ideal := by
  pair_intro
  · exact Cert.Kernel11Ideal.Opt.run_all m g
  · refine Idealize.ShloMosaic.θ_run_mono (Cert.Reference11Ideal.Value.run (F := Ideal) m' g') ?_
    intro r hr c
    obtain ⟨h0, h1, h2, h3, k0, k1, k2, k3, k4⟩ := hr c
    obtain ⟨e0, e1, e2, e3, e4⟩ := hagree c
    clear hr hagree hpre
    have hs (l : Fin 2) (a : Fin 256) (b : Fin 2048) :
        (if h : (l : ℕ) < 1 then (∑ x : Fin 8, m ((c.tc : Thread Cert.Kernel11Ideal.nD Cert.Kernel11Ideal.τ).loc Cert.Kernel11Ideal.main_arg3) (ix3 x a b) : EReal)
          else (∑ x : Fin 8, m ((c.tc : Thread Cert.Kernel11Ideal.nD Cert.Kernel11Ideal.τ).loc Cert.Kernel11Ideal.main_arg4) (ix3 x a b) : EReal)) = Cert.Kernel11Ideal.Opt.grad m c l a b := by
      rcases (show l = 0 ∨ l = 1 by omega) with rfl | rfl <;> rfl
    refine ⟨h0.trans ?_, h1.trans ?_, h2.trans ?_, h3.trans ?_, k0, k1, k2, k3, k4⟩
    all_goals clear h0 h1 h2 h3 k0 k1 k2 k3 k4
    · rw [e3, e4]
      funext y
      obtain ⟨l, a, b, rfl⟩ : ∃ (l : Fin 2) (a : Fin 256) (b : Fin 2048), y = ix3 l a b := ⟨y 0, y 1, y 2, eq_ix3 y⟩
      refine Eq.trans ?_ (Cert.Kernel11Ideal.Opt.res4 m g c l a b).symm
      pointwise
      exact hs l a b
    · rw [e0, e1, e2, e3, e4]
      funext y
      obtain ⟨l, a, b, rfl⟩ : ∃ (l : Fin 2) (a : Fin 256) (b : Fin 2048), y = ix3 l a b := ⟨y 0, y 1, y 2, eq_ix3 y⟩
      refine Eq.trans ?_ (Cert.Kernel11Ideal.Opt.res5 m g c l a b).symm
      pointwise
      exact Cert.Proof.Step.change_eq rfl rfl rfl (hs l a b)
    · rw [e1, e3, e4]
      funext y
      obtain ⟨l, a, b, rfl⟩ : ∃ (l : Fin 2) (a : Fin 256) (b : Fin 2048), y = ix3 l a b := ⟨y 0, y 1, y 2, eq_ix3 y⟩
      refine Eq.trans ?_ (Cert.Kernel11Ideal.Opt.res6 m g c l a b).symm
      pointwise
      exact Cert.Proof.Step.mom_eq rfl (hs l a b)
    · rw [e2, e3, e4]
      funext y
      obtain ⟨l, a, b, rfl⟩ : ∃ (l : Fin 2) (a : Fin 256) (b : Fin 2048), y = ix3 l a b := ⟨y 0, y 1, y 2, eq_ix3 y⟩
      refine Eq.trans ?_ (Cert.Kernel11Ideal.Opt.res7 m g c l a b).symm
      pointwise
      exact Cert.Proof.Step.sec_eq rfl (hs l a b)

end Cert.Proof.AdamwWpw
end
-- ==== Proof.Opt.AdamwWout.lean ====
module

public import proofs.«01_k».proof.Defs
public import proofs.«01_k».proof.Proof.Gen.Kernel12.Frame
public import proofs.«01_k».proof.Proof.Gen.Kernel12Ideal.Frame
public import proofs.«01_k».proof.Proof.Gen.Reference12Ideal.Run
public import proofs.«01_k».proof.Proof.Opt.Step
public import Idealize.ShloMosaic.Lib.Pointwise
public import Idealize.ShloMosaic.Lib.Pipeline.ValueKit

@[expose] public section

set_option maxRecDepth 16384

noncomputable section

/-! The optimiser's step of the output weights: two calls, the first for layer 1, the second for layer 0 over the first's results. -/

namespace Cert.Kernel12Ideal.Opt

open Cert.Kernel12Ideal Cert.Kernel12Ideal.Gen Cert.Proof.Step
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## One block -/

/-- The gradient that the body computes from its blocks. -/
theorem sum_at (x0 x1 x2 : Vec Ideal S1x128x2048 .f32) (x3 : Vec Ideal S8x128x2048 .bf16) (r : Fin 128) (d : Fin 2048) :
    k0_pay8 x0 x1 x2 x3 (ix2 r d) = (∑ s : Fin 8, x3 (ix3 s r d) : EReal) := by
  rw [Fin.sum_univ_eight]
  pointwise [k0_pay8, k0_pay3]
/-- The new first moment that the body computes. -/
theorem mom_at (x0 x1 x2 : Vec Ideal S1x128x2048 .f32) (x3 : Vec Ideal S8x128x2048 .bf16) (r : Fin 128) (d : Fin 2048) :
    k0_pay4 (k0_pay8 x0 x1 x2 x3) x1 (ix2 r d) = mom (x1 (ix3 0 r d)) (∑ s : Fin 8, x3 (ix3 s r d) : EReal) := by
  pointwise [k0_pay4]
  exact congrArg (fun t : EReal => mom (x1 (ix3 0 r d)) t) (sum_at x0 x1 x2 x3 r d)
/-- The new second moment that the body computes. -/
theorem sec_at (x0 x1 x2 : Vec Ideal S1x128x2048 .f32) (x3 : Vec Ideal S8x128x2048 .bf16) (r : Fin 128) (d : Fin 2048) :
    k0_pay5 (k0_pay8 x0 x1 x2 x3) x2 (ix2 r d) = sec (x2 (ix3 0 r d)) (∑ s : Fin 8, x3 (ix3 s r d) : EReal) := by
  pointwise [k0_pay5]
  exact congrArg (fun t : EReal => sec (x2 (ix3 0 r d)) t) (sum_at x0 x1 x2 x3 r d)
/-- The change that the body computes. -/
theorem change_at (x0 x1 x2 : Vec Ideal S1x128x2048 .f32) (x3 : Vec Ideal S8x128x2048 .bf16) (r : Fin 128) (d : Fin 2048) (z : Fin 1) :
    k0_pay7 (k0_pay8 x0 x1 x2 x3) x1 x2 x0 (ix3 z r d)
      = change (x0 (ix3 0 r d)) (mom (x1 (ix3 0 r d)) (∑ s : Fin 8, x3 (ix3 s r d) : EReal)) (sec (x2 (ix3 0 r d)) (∑ s : Fin 8, x3 (ix3 s r d) : EReal)) := by
  pointwise [k0_pay7]
  exact congrArg₂ (fun t u : EReal => change (x0 (ix3 0 r d)) t u) (mom_at x0 x1 x2 x3 r d) (sec_at x0 x1 x2 x3 r d)
/-- A block of the gradient, as the first call's body leaves it. -/
theorem out_4 (x0 x1 x2 : Vec Ideal S1x128x2048 .f32) (x3 : Vec Ideal S8x128x2048 .bf16) (z : Fin 1) (r : Fin 128) (d : Fin 2048) : out0_4 x0 x1 x2 x3 (ix3 z r d) = (∑ s : Fin 8, x3 (ix3 s r d) : EReal) := by
  unfold out0_4
  frame_out
  pointwise [k0_pay6]
  rw [sum_at]
/-- A block of the change, as the first call's body leaves it. -/
theorem out_5 (x0 x1 x2 : Vec Ideal S1x128x2048 .f32) (x3 : Vec Ideal S8x128x2048 .bf16) (z : Fin 1) (r : Fin 128) (d : Fin 2048) : out0_5 x0 x1 x2 x3 (ix3 z r d) = change (x0 (ix3 0 r d)) (mom (x1 (ix3 0 r d)) (∑ s : Fin 8, x3 (ix3 s r d) : EReal)) (sec (x2 (ix3 0 r d)) (∑ s : Fin 8, x3 (ix3 s r d) : EReal)) := by
  unfold out0_5
  frame_out
  rw [change_at]
/-- A block of the new first moment, as the first call's body leaves it. -/
theorem out_6 (x0 x1 x2 : Vec Ideal S1x128x2048 .f32) (x3 : Vec Ideal S8x128x2048 .bf16) (z : Fin 1) (r : Fin 128) (d : Fin 2048) : out0_6 x0 x1 x2 x3 (ix3 z r d) = mom (x1 (ix3 0 r d)) (∑ s : Fin 8, x3 (ix3 s r d) : EReal) := by
  unfold out0_6
  frame_out
  pointwise [k0_pay1]
  rw [mom_at]
/-- A block of the new second moment, as the first call's body leaves it. -/
theorem out_7 (x0 x1 x2 : Vec Ideal S1x128x2048 .f32) (x3 : Vec Ideal S8x128x2048 .bf16) (z : Fin 1) (r : Fin 128) (d : Fin 2048) : out0_7 x0 x1 x2 x3 (ix3 z r d) = sec (x2 (ix3 0 r d)) (∑ s : Fin 8, x3 (ix3 s r d) : EReal) := by
  unfold out0_7
  frame_out
  pointwise [k0_pay2]
  rw [sec_at]

/-! ## The second call's body leaves the same -/

/-- Its block of the gradient. -/
theorem after_4 (V : (c : Dev nD) → (b : Ref sig .tc) → Buf (Elt Ideal) ((c : Thread nD τ).loc b)) (c : Dev nD) (t : Fin cfg1.N) :
    (outsAt1 V c t).1 = out0_4 (iblk1 V c 0 t) (iblk1 V c 1 t) (iblk1 V c 2 t) (iblk1 V c 3 t) := by
  unfold outsAt1 out1_A_4
  rw [View.read_writes_eq_canon _ _ _ (cover1_A_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t))]
  unfold kernelRun1_A
  dsimp only
  sl_unfold_words
  simp only [View.readAt_eq_ld, (hs1_0 t).read_unread, (hs1_1 t).read_unread, (hs1_2 t).read_unread, (hs1_3 t).read_unread]
  rfl
/-- Its block of the change. -/
theorem after_5 (V : (c : Dev nD) → (b : Ref sig .tc) → Buf (Elt Ideal) ((c : Thread nD τ).loc b)) (c : Dev nD) (t : Fin cfg1.N) :
    (outsAt1 V c t).2.1 = out0_5 (iblk1 V c 0 t) (iblk1 V c 1 t) (iblk1 V c 2 t) (iblk1 V c 3 t) := by
  unfold outsAt1 out1_A_5
  rw [View.read_writes_eq_canon _ _ _ (cover1_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t))]
  unfold kernelRun1_A
  dsimp only
  sl_unfold_words
  simp only [View.readAt_eq_ld, (hs1_0 t).read_unread, (hs1_1 t).read_unread, (hs1_2 t).read_unread, (hs1_3 t).read_unread]
  rfl
/-- Its block of the new first moment. -/
theorem after_6 (V : (c : Dev nD) → (b : Ref sig .tc) → Buf (Elt Ideal) ((c : Thread nD τ).loc b)) (c : Dev nD) (t : Fin cfg1.N) :
    (outsAt1 V c t).2.2.1 = out0_6 (iblk1 V c 0 t) (iblk1 V c 1 t) (iblk1 V c 2 t) (iblk1 V c 3 t) := by
  unfold outsAt1 out1_A_6
  rw [View.read_writes_eq_canon _ _ _ (cover1_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t))]
  unfold kernelRun1_A
  dsimp only
  sl_unfold_words
  simp only [View.readAt_eq_ld, (hs1_0 t).read_unread, (hs1_1 t).read_unread, (hs1_2 t).read_unread, (hs1_3 t).read_unread]
  rfl
/-- Its block of the new second moment. -/
theorem after_7 (V : (c : Dev nD) → (b : Ref sig .tc) → Buf (Elt Ideal) ((c : Thread nD τ).loc b)) (c : Dev nD) (t : Fin cfg1.N) :
    (outsAt1 V c t).2.2.2 = out0_7 (iblk1 V c 0 t) (iblk1 V c 1 t) (iblk1 V c 2 t) (iblk1 V c 3 t) := by
  unfold outsAt1 out1_A_7
  rw [View.read_writes_eq_canon _ _ _ (cover1_A_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t))]
  unfold kernelRun1_A
  dsimp only
  sl_unfold_words
  simp only [View.readAt_eq_ld, (hs1_0 t).read_unread, (hs1_1 t).read_unread, (hs1_2 t).read_unread, (hs1_3 t).read_unread]
  rfl

/-! ## The two calls' blocks and results -/

section Value

variable (V : (c : Dev nD) → (b : Ref sig .tc) → Buf (Elt Ideal) ((c : Thread nD τ).loc b)) (c : Dev nD)

/-- Every window's block index at a point. -/
theorem idx0 : ∀ t : Fin cfg0.N, win0_0.index t = ![1, t.val, 0] ∧ win0_1.index t = ![1, t.val, 0] ∧ win0_2.index t = ![1, t.val, 0] ∧ win0_3.index t = ![0, t.val, 0]
    ∧ win0_4.index t = ![1, t.val, 0] ∧ win0_5.index t = ![1, t.val, 0] ∧ win0_6.index t = ![1, t.val, 0] ∧ win0_7.index t = ![1, t.val, 0] :=
  (by decide +kernel : ∀ t : Fin grid0.N, _)
/-- The same of the second call. -/
theorem idx1 : ∀ t : Fin cfg1.N, win1_0.index t = ![0, t.val, 0] ∧ win1_1.index t = ![0, t.val, 0] ∧ win1_2.index t = ![0, t.val, 0] ∧ win1_3.index t = ![0, t.val, 0]
    ∧ win1_4.index t = ![0, t.val, 0] ∧ win1_5.index t = ![0, t.val, 0] ∧ win1_6.index t = ![0, t.val, 0] ∧ win1_7.index t = ![0, t.val, 0] :=
  (by decide +kernel : ∀ t : Fin grid1.N, _)

/-- The row that a block's row is, at a point. -/
abbrev row0 (t : Fin cfg0.N) (r : Fin 128) : Fin 512 := ⟨t.val * 128 + r.val, by have := lt_of_lt_of_eq t.isLt N_0; omega⟩
/-- The same of the second call. -/
abbrev row1 (t : Fin cfg1.N) (r : Fin 128) : Fin 512 := ⟨t.val * 128 + r.val, by have := lt_of_lt_of_eq t.isLt N_1; omega⟩
/-- A block of call 1's argument 0. -/
theorem b00 (t : Fin cfg0.N) (z : Fin 1) (r : Fin 128) (d : Fin 2048) : iblk0 V c 0 t (ix3 z r d) = V c main_arg0 (ix3 1 (row0 t r) d) := by
  blk_ext [iblk0, row0, idx0 t]
/-- A block of call 1's argument 1. -/
theorem b01 (t : Fin cfg0.N) (z : Fin 1) (r : Fin 128) (d : Fin 2048) : iblk0 V c 1 t (ix3 z r d) = V c main_arg1 (ix3 1 (row0 t r) d) := by
  blk_ext [iblk0, row0, idx0 t]
/-- A block of call 1's argument 2. -/
theorem b02 (t : Fin cfg0.N) (z : Fin 1) (r : Fin 128) (d : Fin 2048) : iblk0 V c 2 t (ix3 z r d) = V c main_arg2 (ix3 1 (row0 t r) d) := by
  blk_ext [iblk0, row0, idx0 t]
/-- A block of call 1's devices' gradients. -/
theorem b03 (t : Fin cfg0.N) (s : Fin 8) (r : Fin 128) (d : Fin 2048) : iblk0 V c 3 t (ix3 s r d) = V c main_v0 (ix3 s (row0 t r) d) := by
  blk_ext [iblk0, row0, idx0 t]
/-- A block of call 2's argument 0. -/
theorem b10 (t : Fin cfg1.N) (z : Fin 1) (r : Fin 128) (d : Fin 2048) : iblk1 V c 0 t (ix3 z r d) = V c main_arg0 (ix3 0 (row1 t r) d) := by
  blk_ext [iblk1, row1, idx1 t]
/-- A block of call 2's argument 1. -/
theorem b11 (t : Fin cfg1.N) (z : Fin 1) (r : Fin 128) (d : Fin 2048) : iblk1 V c 1 t (ix3 z r d) = V c main_arg1 (ix3 0 (row1 t r) d) := by
  blk_ext [iblk1, row1, idx1 t]
/-- A block of call 2's argument 2. -/
theorem b12 (t : Fin cfg1.N) (z : Fin 1) (r : Fin 128) (d : Fin 2048) : iblk1 V c 2 t (ix3 z r d) = V c main_arg2 (ix3 0 (row1 t r) d) := by
  blk_ext [iblk1, row1, idx1 t]
/-- A block of call 2's devices' gradients. -/
theorem b13 (t : Fin cfg1.N) (s : Fin 8) (r : Fin 128) (d : Fin 2048) : iblk1 V c 3 t (ix3 s r d) = V c main_v2 (ix3 s (row1 t r) d) := by
  blk_ext [iblk1, row1, idx1 t]
/-- Call 1's array of the gradient after the run: layer 1 is written, the other layer is as it was. -/
theorem arr04 : (dat0 V c).arrAt 4 cfg0.N = fun y : S2x512x2048.Idx => if (y 0 : ℕ) / 1 = 1 then (∑ s : Fin 8, V c main_v0 (ix3 s (y 1) (y 2)) : EReal) else (dat0 V c).A 4 y := by
  refine (dat0 V c).arrAt_eq_of_coversWhere 4 _ (fun β => β (0 : Fin 3) = 1) (by decide +kernel) (fun t hf y => ?_) (fun j => Iff.rfl)
  blk_simp
  rw [after0_4]
  obtain ⟨z, r, d, rfl⟩ : ∃ (z : Fin 1) (r : Fin 128) (d : Fin 2048), y = ix3 z r d := ⟨y 0, y 1, y 2, eq_ix3 y⟩
  have e : (win0_4.blk t).view.emb (ix3 z r d) = ix3 1 (row0 t r) d := by blk_ext [row0, idx0 t]
  refine Eq.trans (b := (∑ s : Fin 8, V c main_v0 (ix3 s (row0 t r) d) : EReal)) ?_ (congrArg (fun y : S2x512x2048.Idx => (∑ s : Fin 8, V c main_v0 (ix3 s (y 1) (y 2)) : EReal)) e).symm
  refine (out_4 _ _ _ _ z r d).trans ?_
  simp only [b00 V c t, b01 V c t, b02 V c t, b03 V c t]
/-- Call 1's array of the change after the run: layer 1 is written, the other layer is as it was. -/
theorem arr05 : (dat0 V c).arrAt 5 cfg0.N = fun y : S2x512x2048.Idx => if (y 0 : ℕ) / 1 = 1 then change (V c main_arg0 (ix3 1 (y 1) (y 2))) (mom (V c main_arg1 (ix3 1 (y 1) (y 2))) (∑ s : Fin 8, V c main_v0 (ix3 s (y 1) (y 2)) : EReal)) (sec (V c main_arg2 (ix3 1 (y 1) (y 2))) (∑ s : Fin 8, V c main_v0 (ix3 s (y 1) (y 2)) : EReal)) else (dat0 V c).A 5 y := by
  refine (dat0 V c).arrAt_eq_of_coversWhere 5 _ (fun β => β (0 : Fin 3) = 1) (by decide +kernel) (fun t hf y => ?_) (fun j => Iff.rfl)
  blk_simp
  rw [after0_5]
  obtain ⟨z, r, d, rfl⟩ : ∃ (z : Fin 1) (r : Fin 128) (d : Fin 2048), y = ix3 z r d := ⟨y 0, y 1, y 2, eq_ix3 y⟩
  have e : (win0_5.blk t).view.emb (ix3 z r d) = ix3 1 (row0 t r) d := by blk_ext [row0, idx0 t]
  refine Eq.trans (b := change (V c main_arg0 (ix3 1 (row0 t r) d)) (mom (V c main_arg1 (ix3 1 (row0 t r) d)) (∑ s : Fin 8, V c main_v0 (ix3 s (row0 t r) d) : EReal)) (sec (V c main_arg2 (ix3 1 (row0 t r) d)) (∑ s : Fin 8, V c main_v0 (ix3 s (row0 t r) d) : EReal))) ?_ (congrArg (fun y : S2x512x2048.Idx => change (V c main_arg0 (ix3 1 (y 1) (y 2))) (mom (V c main_arg1 (ix3 1 (y 1) (y 2))) (∑ s : Fin 8, V c main_v0 (ix3 s (y 1) (y 2)) : EReal)) (sec (V c main_arg2 (ix3 1 (y 1) (y 2))) (∑ s : Fin 8, V c main_v0 (ix3 s (y 1) (y 2)) : EReal))) e).symm
  refine (out_5 _ _ _ _ z r d).trans ?_
  simp only [b00 V c t, b01 V c t, b02 V c t, b03 V c t]
/-- Call 1's array of the new first moment after the run: layer 1 is written, the other layer is as it was. -/
theorem arr06 : (dat0 V c).arrAt 6 cfg0.N = fun y : S2x512x2048.Idx => if (y 0 : ℕ) / 1 = 1 then (mom (V c main_arg1 (ix3 1 (y 1) (y 2))) (∑ s : Fin 8, V c main_v0 (ix3 s (y 1) (y 2)) : EReal)) else (dat0 V c).A 6 y := by
  refine (dat0 V c).arrAt_eq_of_coversWhere 6 _ (fun β => β (0 : Fin 3) = 1) (by decide +kernel) (fun t hf y => ?_) (fun j => Iff.rfl)
  blk_simp
  rw [after0_6]
  obtain ⟨z, r, d, rfl⟩ : ∃ (z : Fin 1) (r : Fin 128) (d : Fin 2048), y = ix3 z r d := ⟨y 0, y 1, y 2, eq_ix3 y⟩
  have e : (win0_6.blk t).view.emb (ix3 z r d) = ix3 1 (row0 t r) d := by blk_ext [row0, idx0 t]
  refine Eq.trans (b := (mom (V c main_arg1 (ix3 1 (row0 t r) d)) (∑ s : Fin 8, V c main_v0 (ix3 s (row0 t r) d) : EReal))) ?_ (congrArg (fun y : S2x512x2048.Idx => (mom (V c main_arg1 (ix3 1 (y 1) (y 2))) (∑ s : Fin 8, V c main_v0 (ix3 s (y 1) (y 2)) : EReal))) e).symm
  refine (out_6 _ _ _ _ z r d).trans ?_
  simp only [b00 V c t, b01 V c t, b02 V c t, b03 V c t]
/-- Call 1's array of the new second moment after the run: layer 1 is written, the other layer is as it was. -/
theorem arr07 : (dat0 V c).arrAt 7 cfg0.N = fun y : S2x512x2048.Idx => if (y 0 : ℕ) / 1 = 1 then (sec (V c main_arg2 (ix3 1 (y 1) (y 2))) (∑ s : Fin 8, V c main_v0 (ix3 s (y 1) (y 2)) : EReal)) else (dat0 V c).A 7 y := by
  refine (dat0 V c).arrAt_eq_of_coversWhere 7 _ (fun β => β (0 : Fin 3) = 1) (by decide +kernel) (fun t hf y => ?_) (fun j => Iff.rfl)
  blk_simp
  rw [after0_7]
  obtain ⟨z, r, d, rfl⟩ : ∃ (z : Fin 1) (r : Fin 128) (d : Fin 2048), y = ix3 z r d := ⟨y 0, y 1, y 2, eq_ix3 y⟩
  have e : (win0_7.blk t).view.emb (ix3 z r d) = ix3 1 (row0 t r) d := by blk_ext [row0, idx0 t]
  refine Eq.trans (b := (sec (V c main_arg2 (ix3 1 (row0 t r) d)) (∑ s : Fin 8, V c main_v0 (ix3 s (row0 t r) d) : EReal))) ?_ (congrArg (fun y : S2x512x2048.Idx => (sec (V c main_arg2 (ix3 1 (y 1) (y 2))) (∑ s : Fin 8, V c main_v0 (ix3 s (y 1) (y 2)) : EReal))) e).symm
  refine (out_7 _ _ _ _ z r d).trans ?_
  simp only [b00 V c t, b01 V c t, b02 V c t, b03 V c t]
/-- Call 2's array of the gradient after the run: layer 0 is written, the other layer is as it was. -/
theorem arr14 : (dat1 V c).arrAt 4 cfg1.N = fun y : S2x512x2048.Idx => if (y 0 : ℕ) / 1 = 0 then (∑ s : Fin 8, V c main_v2 (ix3 s (y 1) (y 2)) : EReal) else (dat1 V c).A 4 y := by
  refine (dat1 V c).arrAt_eq_of_coversWhere 4 _ (fun β => β (0 : Fin 3) = 0) (by decide +kernel) (fun t hf y => ?_) (fun j => Iff.rfl)
  blk_simp
  rw [after1_4, after_4]
  obtain ⟨z, r, d, rfl⟩ : ∃ (z : Fin 1) (r : Fin 128) (d : Fin 2048), y = ix3 z r d := ⟨y 0, y 1, y 2, eq_ix3 y⟩
  have e : (win1_4.blk t).view.emb (ix3 z r d) = ix3 0 (row1 t r) d := by blk_ext [row1, idx1 t]
  refine Eq.trans (b := (∑ s : Fin 8, V c main_v2 (ix3 s (row1 t r) d) : EReal)) ?_ (congrArg (fun y : S2x512x2048.Idx => (∑ s : Fin 8, V c main_v2 (ix3 s (y 1) (y 2)) : EReal)) e).symm
  refine (out_4 _ _ _ _ z r d).trans ?_
  simp only [b10 V c t, b11 V c t, b12 V c t, b13 V c t]
/-- Call 2's array of the change after the run: layer 0 is written, the other layer is as it was. -/
theorem arr15 : (dat1 V c).arrAt 5 cfg1.N = fun y : S2x512x2048.Idx => if (y 0 : ℕ) / 1 = 0 then change (V c main_arg0 (ix3 0 (y 1) (y 2))) (mom (V c main_arg1 (ix3 0 (y 1) (y 2))) (∑ s : Fin 8, V c main_v2 (ix3 s (y 1) (y 2)) : EReal)) (sec (V c main_arg2 (ix3 0 (y 1) (y 2))) (∑ s : Fin 8, V c main_v2 (ix3 s (y 1) (y 2)) : EReal)) else (dat1 V c).A 5 y := by
  refine (dat1 V c).arrAt_eq_of_coversWhere 5 _ (fun β => β (0 : Fin 3) = 0) (by decide +kernel) (fun t hf y => ?_) (fun j => Iff.rfl)
  blk_simp
  rw [after1_5, after_5]
  obtain ⟨z, r, d, rfl⟩ : ∃ (z : Fin 1) (r : Fin 128) (d : Fin 2048), y = ix3 z r d := ⟨y 0, y 1, y 2, eq_ix3 y⟩
  have e : (win1_5.blk t).view.emb (ix3 z r d) = ix3 0 (row1 t r) d := by blk_ext [row1, idx1 t]
  refine Eq.trans (b := change (V c main_arg0 (ix3 0 (row1 t r) d)) (mom (V c main_arg1 (ix3 0 (row1 t r) d)) (∑ s : Fin 8, V c main_v2 (ix3 s (row1 t r) d) : EReal)) (sec (V c main_arg2 (ix3 0 (row1 t r) d)) (∑ s : Fin 8, V c main_v2 (ix3 s (row1 t r) d) : EReal))) ?_ (congrArg (fun y : S2x512x2048.Idx => change (V c main_arg0 (ix3 0 (y 1) (y 2))) (mom (V c main_arg1 (ix3 0 (y 1) (y 2))) (∑ s : Fin 8, V c main_v2 (ix3 s (y 1) (y 2)) : EReal)) (sec (V c main_arg2 (ix3 0 (y 1) (y 2))) (∑ s : Fin 8, V c main_v2 (ix3 s (y 1) (y 2)) : EReal))) e).symm
  refine (out_5 _ _ _ _ z r d).trans ?_
  simp only [b10 V c t, b11 V c t, b12 V c t, b13 V c t]
/-- Call 2's array of the new first moment after the run: layer 0 is written, the other layer is as it was. -/
theorem arr16 : (dat1 V c).arrAt 6 cfg1.N = fun y : S2x512x2048.Idx => if (y 0 : ℕ) / 1 = 0 then (mom (V c main_arg1 (ix3 0 (y 1) (y 2))) (∑ s : Fin 8, V c main_v2 (ix3 s (y 1) (y 2)) : EReal)) else (dat1 V c).A 6 y := by
  refine (dat1 V c).arrAt_eq_of_coversWhere 6 _ (fun β => β (0 : Fin 3) = 0) (by decide +kernel) (fun t hf y => ?_) (fun j => Iff.rfl)
  blk_simp
  rw [after1_6, after_6]
  obtain ⟨z, r, d, rfl⟩ : ∃ (z : Fin 1) (r : Fin 128) (d : Fin 2048), y = ix3 z r d := ⟨y 0, y 1, y 2, eq_ix3 y⟩
  have e : (win1_6.blk t).view.emb (ix3 z r d) = ix3 0 (row1 t r) d := by blk_ext [row1, idx1 t]
  refine Eq.trans (b := (mom (V c main_arg1 (ix3 0 (row1 t r) d)) (∑ s : Fin 8, V c main_v2 (ix3 s (row1 t r) d) : EReal))) ?_ (congrArg (fun y : S2x512x2048.Idx => (mom (V c main_arg1 (ix3 0 (y 1) (y 2))) (∑ s : Fin 8, V c main_v2 (ix3 s (y 1) (y 2)) : EReal))) e).symm
  refine (out_6 _ _ _ _ z r d).trans ?_
  simp only [b10 V c t, b11 V c t, b12 V c t, b13 V c t]
/-- Call 2's array of the new second moment after the run: layer 0 is written, the other layer is as it was. -/
theorem arr17 : (dat1 V c).arrAt 7 cfg1.N = fun y : S2x512x2048.Idx => if (y 0 : ℕ) / 1 = 0 then (sec (V c main_arg2 (ix3 0 (y 1) (y 2))) (∑ s : Fin 8, V c main_v2 (ix3 s (y 1) (y 2)) : EReal)) else (dat1 V c).A 7 y := by
  refine (dat1 V c).arrAt_eq_of_coversWhere 7 _ (fun β => β (0 : Fin 3) = 0) (by decide +kernel) (fun t hf y => ?_) (fun j => Iff.rfl)
  blk_simp
  rw [after1_7, after_7]
  obtain ⟨z, r, d, rfl⟩ : ∃ (z : Fin 1) (r : Fin 128) (d : Fin 2048), y = ix3 z r d := ⟨y 0, y 1, y 2, eq_ix3 y⟩
  have e : (win1_7.blk t).view.emb (ix3 z r d) = ix3 0 (row1 t r) d := by blk_ext [row1, idx1 t]
  refine Eq.trans (b := (sec (V c main_arg2 (ix3 0 (row1 t r) d)) (∑ s : Fin 8, V c main_v2 (ix3 s (row1 t r) d) : EReal))) ?_ (congrArg (fun y : S2x512x2048.Idx => (sec (V c main_arg2 (ix3 0 (y 1) (y 2))) (∑ s : Fin 8, V c main_v2 (ix3 s (y 1) (y 2)) : EReal))) e).symm
  refine (out_7 _ _ _ _ z r d).trans ?_
  simp only [b10 V c t, b11 V c t, b12 V c t, b13 V c t]

end Value

/-! ## The run -/

section Run

variable (m : (ℓ : Loc nD τ sig) → Buf (Elt Ideal) ℓ) (ρ : Dev nD → PrngReg)

set_option backward.isDefEq.respectTransparency.types false in
/-- Every run ends with the second call's results in place and the arguments as they were. -/
theorem run_all : θ_run defs (onTc (τ := τ) (main (F := Ideal))) ⟨m, fun _ => 0, ρ⟩ (fun r => ∀ c : Dev nD,
      r.2.mem ((c.tc : Thread nD τ).loc main_v3_0) = W4 m ρ c (Proc.devRef .tc main_v3_0)
      ∧ r.2.mem ((c.tc : Thread nD τ).loc main_v3_1) = W4 m ρ c (Proc.devRef .tc main_v3_1)
      ∧ r.2.mem ((c.tc : Thread nD τ).loc main_v3_2) = W4 m ρ c (Proc.devRef .tc main_v3_2)
      ∧ r.2.mem ((c.tc : Thread nD τ).loc main_v3_3) = W4 m ρ c (Proc.devRef .tc main_v3_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨h c _ (mem_uc main_v3_0 (by decide)),
       h c _ (mem_uc main_v3_1 (by decide)),
       h c _ (mem_uc main_v3_2 (by decide)),
       h c _ (mem_uc main_v3_3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

variable (c : Dev nD)

/-- Argument 0 at the two calls. -/
theorem e00 : V1 m ρ c main_arg0 = m ((c.tc : Thread nD τ).loc main_arg0) := W1_args m ρ c main_arg0 (by decide)
theorem e10 : V3 m ρ c main_arg0 = m ((c.tc : Thread nD τ).loc main_arg0) := W3_args m ρ c main_arg0 (by decide)
/-- Argument 1 at the two calls. -/
theorem e01 : V1 m ρ c main_arg1 = m ((c.tc : Thread nD τ).loc main_arg1) := W1_args m ρ c main_arg1 (by decide)
theorem e11 : V3 m ρ c main_arg1 = m ((c.tc : Thread nD τ).loc main_arg1) := W3_args m ρ c main_arg1 (by decide)
/-- Argument 2 at the two calls. -/
theorem e02 : V1 m ρ c main_arg2 = m ((c.tc : Thread nD τ).loc main_arg2) := W1_args m ρ c main_arg2 (by decide)
theorem e12 : V3 m ρ c main_arg2 = m ((c.tc : Thread nD τ).loc main_arg2) := W3_args m ρ c main_arg2 (by decide)
/-- The devices' gradients of layer 1 at the first call, -/
theorem e03 (y : S8x512x2048.Idx) : V1 m ρ c main_v0 y = m ((c.tc : Thread nD τ).loc main_arg4) y := by
  have h : W0 m ρ c (Proc.devRef .tc main_arg4) = m ((c.tc : Thread nD τ).loc main_arg4) := rfl
  show StableHlo.after hostOps0 (W0 m ρ c) (Proc.devRef .tc main_v0) y = _
  after_results
  rw [h]
  rfl
/-- and of layer 0 at the second. -/
theorem e13 (y : S8x512x2048.Idx) : V3 m ρ c main_v2 y = m ((c.tc : Thread nD τ).loc main_arg3) y := by
  have h := W2_args m ρ c main_arg3 (by decide)
  show StableHlo.after hostOps1 (W2 m ρ c) (Proc.devRef .tc main_v2) y = _
  after_results
  rw [h]
  rfl
/-- The second call finds the first's array of the gradient. -/
theorem prev4 : (dat1 (V3 m ρ) c).A 4 = (dat0 (V1 m ρ) c).arrAt 4 cfg0.N := by
  refine (A_eq1 (V3 m ρ) c 4).trans (Eq.trans ?_ (W2_arr m ρ c 4))
  show StableHlo.after hostOps1 (W2 m ρ c) (Proc.devRef .tc main_v3_0) = _
  after_results
  rfl
/-- The second call finds the first's array of the change. -/
theorem prev5 : (dat1 (V3 m ρ) c).A 5 = (dat0 (V1 m ρ) c).arrAt 5 cfg0.N := by
  refine (A_eq1 (V3 m ρ) c 5).trans (Eq.trans ?_ (W2_arr m ρ c 5))
  show StableHlo.after hostOps1 (W2 m ρ c) (Proc.devRef .tc main_v3_1) = _
  after_results
  rfl
/-- The second call finds the first's array of the new first moment. -/
theorem prev6 : (dat1 (V3 m ρ) c).A 6 = (dat0 (V1 m ρ) c).arrAt 6 cfg0.N := by
  refine (A_eq1 (V3 m ρ) c 6).trans (Eq.trans ?_ (W2_arr m ρ c 6))
  show StableHlo.after hostOps1 (W2 m ρ c) (Proc.devRef .tc main_v3_2) = _
  after_results
  rfl
/-- The second call finds the first's array of the new second moment. -/
theorem prev7 : (dat1 (V3 m ρ) c).A 7 = (dat0 (V1 m ρ) c).arrAt 7 cfg0.N := by
  refine (A_eq1 (V3 m ρ) c 7).trans (Eq.trans ?_ (W2_arr m ρ c 7))
  show StableHlo.after hostOps1 (W2 m ρ c) (Proc.devRef .tc main_v3_3) = _
  after_results
  rfl

/-- The weights. -/
def a0 (l : Fin 2) (r : Fin 512) (d : Fin 2048) : EReal := m ((c.tc : Thread nD τ).loc main_arg0) (ix3 l r d)
/-- The first moments. -/
def a1 (l : Fin 2) (r : Fin 512) (d : Fin 2048) : EReal := m ((c.tc : Thread nD τ).loc main_arg1) (ix3 l r d)
/-- The second moments. -/
def a2 (l : Fin 2) (r : Fin 512) (d : Fin 2048) : EReal := m ((c.tc : Thread nD τ).loc main_arg2) (ix3 l r d)
/-- A layer's gradient: the sum of its parts. -/
def grad (l : Fin 2) (r : Fin 512) (d : Fin 2048) : EReal :=
  if l = 0 then (∑ s : Fin 8, m ((c.tc : Thread nD τ).loc main_arg3) (ix3 s r d) : EReal) else (∑ s : Fin 8, m ((c.tc : Thread nD τ).loc main_arg4) (ix3 s r d) : EReal)
/-- Layer 1's gradient. -/
theorem g0 (r : Fin 512) (d : Fin 2048) : (∑ s : Fin 8, V1 m ρ c main_v0 (ix3 s r d) : EReal) = grad m c 1 r d :=
  congrArg (fun f : Fin 8 → EReal => ∑ s : Fin 8, f s) (funext fun s => e03 m ρ c (ix3 s r d))
/-- Layer 0's gradient. -/
theorem g1 (r : Fin 512) (d : Fin 2048) : (∑ s : Fin 8, V3 m ρ c main_v2 (ix3 s r d) : EReal) = grad m c 0 r d :=
  congrArg (fun f : Fin 8 → EReal => ∑ s : Fin 8, f s) (funext fun s => e13 m ρ c (ix3 s r d))
/-- The program's result: the gradient. -/
theorem res4 (l : Fin 2) (r : Fin 512) (d : Fin 2048) : W4 m ρ c (Proc.devRef .tc main_v3_0) (ix3 l r d) = grad m c l r d := by
  refine (congrFun (W4_arr m ρ c 4) _).trans ?_
  rw [arr14, prev4, arr04]
  rcases (show l = 0 ∨ l = 1 by omega) with rfl | rfl
  · refine (if_pos (show (0 : ℕ) / 1 = 0 from rfl)).trans ?_
    exact g1 m ρ c r d
  · refine (if_neg (show ¬ (1 : ℕ) / 1 = 0 by decide)).trans ((if_pos (show (1 : ℕ) / 1 = 1 from rfl)).trans ?_)
    exact g0 m ρ c r d
/-- The program's result: the change. -/
theorem res5 (l : Fin 2) (r : Fin 512) (d : Fin 2048) : W4 m ρ c (Proc.devRef .tc main_v3_1) (ix3 l r d) = change (a0 m c l r d) (mom (a1 m c l r d) (grad m c l r d)) (sec (a2 m c l r d) (grad m c l r d)) := by
  refine (congrFun (W4_arr m ρ c 5) _).trans ?_
  rw [arr15, prev5, arr05]
  rcases (show l = 0 ∨ l = 1 by omega) with rfl | rfl
  · refine (if_pos (show (0 : ℕ) / 1 = 0 from rfl)).trans ?_
    exact change_eq (congrFun (e10 m ρ c) (ix3 0 r d)) (congrFun (e11 m ρ c) (ix3 0 r d)) (congrFun (e12 m ρ c) (ix3 0 r d)) (g1 m ρ c r d)
  · refine (if_neg (show ¬ (1 : ℕ) / 1 = 0 by decide)).trans ((if_pos (show (1 : ℕ) / 1 = 1 from rfl)).trans ?_)
    exact change_eq (congrFun (e00 m ρ c) (ix3 1 r d)) (congrFun (e01 m ρ c) (ix3 1 r d)) (congrFun (e02 m ρ c) (ix3 1 r d)) (g0 m ρ c r d)
/-- The program's result: the new first moment. -/
theorem res6 (l : Fin 2) (r : Fin 512) (d : Fin 2048) : W4 m ρ c (Proc.devRef .tc main_v3_2) (ix3 l r d) = mom (a1 m c l r d) (grad m c l r d) := by
  refine (congrFun (W4_arr m ρ c 6) _).trans ?_
  rw [arr16, prev6, arr06]
  rcases (show l = 0 ∨ l = 1 by omega) with rfl | rfl
  · refine (if_pos (show (0 : ℕ) / 1 = 0 from rfl)).trans ?_
    exact mom_eq (congrFun (e11 m ρ c) (ix3 0 r d)) (g1 m ρ c r d)
  · refine (if_neg (show ¬ (1 : ℕ) / 1 = 0 by decide)).trans ((if_pos (show (1 : ℕ) / 1 = 1 from rfl)).trans ?_)
    exact mom_eq (congrFun (e01 m ρ c) (ix3 1 r d)) (g0 m ρ c r d)
/-- The program's result: the new second moment. -/
theorem res7 (l : Fin 2) (r : Fin 512) (d : Fin 2048) : W4 m ρ c (Proc.devRef .tc main_v3_3) (ix3 l r d) = sec (a2 m c l r d) (grad m c l r d) := by
  refine (congrFun (W4_arr m ρ c 7) _).trans ?_
  rw [arr17, prev7, arr07]
  rcases (show l = 0 ∨ l = 1 by omega) with rfl | rfl
  · refine (if_pos (show (0 : ℕ) / 1 = 0 from rfl)).trans ?_
    exact sec_eq (congrFun (e12 m ρ c) (ix3 0 r d)) (g1 m ρ c r d)
  · refine (if_neg (show ¬ (1 : ℕ) / 1 = 0 by decide)).trans ((if_pos (show (1 : ℕ) / 1 = 1 from rfl)).trans ?_)
    exact sec_eq (congrFun (e02 m ρ c) (ix3 1 r d)) (g0 m ρ c r d)

end Run

end Cert.Kernel12Ideal.Opt

namespace Cert.Proof.AdamwWout

open Idealize.ShloMosaic Idealize.ShloMosaic.TcCoe Idealize.SL.Sem

/-! The claims of the optimiser's two calls for the output weights. -/

/-- The calls of the words run and leave their arguments. -/
theorem frame_p : Cert.quiescent_Kernel12 := fun m ρ _ => Cert.Kernel12.Gen.frame m ρ
/-- The calls over the reals run and leave their arguments. -/
theorem frame_pi : Cert.quiescent_Kernel12Ideal := fun m ρ _ => Cert.Kernel12Ideal.Gen.frame m ρ
/-- The reference runs and leaves its arguments. -/
theorem frame_ri : Cert.quiescent_Reference12Ideal := fun m ρ _ =>
  (θ_run Cert.Reference12Ideal.defs _ _).mono (fun r h => ⟨fun c => (h c).2.2.2.2,
      Idealize.ShloMosaic.sem_eq_zero_of_no_sems (by decide) r.2⟩)
    (Cert.Reference12Ideal.Value.run (F := Ideal) m ρ)

/-- The two programs have one text. -/
theorem preserves : Cert.preserves_Kernel12_Kernel12Ideal := trivial

/-- The calls' results are the reference's. -/
theorem algebraic : Cert.algebraic_Kernel12Ideal_Reference12Ideal := by
  pair_intro
  · exact Cert.Kernel12Ideal.Opt.run_all m g
  · refine Idealize.ShloMosaic.θ_run_mono (Cert.Reference12Ideal.Value.run (F := Ideal) m' g') ?_
    intro r hr c
    obtain ⟨h0, h1, h2, h3, k0, k1, k2, k3, k4⟩ := hr c
    obtain ⟨e0, e1, e2, e3, e4⟩ := hagree c
    clear hr hagree hpre
    have hs (l : Fin 2) (a : Fin 512) (b : Fin 2048) :
        (if h : (l : ℕ) < 1 then (∑ x : Fin 8, m ((c.tc : Thread Cert.Kernel12Ideal.nD Cert.Kernel12Ideal.τ).loc Cert.Kernel12Ideal.main_arg3) (ix3 x a b) : EReal)
          else (∑ x : Fin 8, m ((c.tc : Thread Cert.Kernel12Ideal.nD Cert.Kernel12Ideal.τ).loc Cert.Kernel12Ideal.main_arg4) (ix3 x a b) : EReal)) = Cert.Kernel12Ideal.Opt.grad m c l a b := by
      rcases (show l = 0 ∨ l = 1 by omega) with rfl | rfl <;> rfl
    refine ⟨h0.trans ?_, h1.trans ?_, h2.trans ?_, h3.trans ?_, k0, k1, k2, k3, k4⟩
    all_goals clear h0 h1 h2 h3 k0 k1 k2 k3 k4
    · rw [e3, e4]
      funext y
      obtain ⟨l, a, b, rfl⟩ : ∃ (l : Fin 2) (a : Fin 512) (b : Fin 2048), y = ix3 l a b := ⟨y 0, y 1, y 2, eq_ix3 y⟩
      refine Eq.trans ?_ (Cert.Kernel12Ideal.Opt.res4 m g c l a b).symm
      pointwise
      exact hs l a b
    · rw [e0, e1, e2, e3, e4]
      funext y
      obtain ⟨l, a, b, rfl⟩ : ∃ (l : Fin 2) (a : Fin 512) (b : Fin 2048), y = ix3 l a b := ⟨y 0, y 1, y 2, eq_ix3 y⟩
      refine Eq.trans ?_ (Cert.Kernel12Ideal.Opt.res5 m g c l a b).symm
      pointwise
      exact Cert.Proof.Step.change_eq rfl rfl rfl (hs l a b)
    · rw [e1, e3, e4]
      funext y
      obtain ⟨l, a, b, rfl⟩ : ∃ (l : Fin 2) (a : Fin 512) (b : Fin 2048), y = ix3 l a b := ⟨y 0, y 1, y 2, eq_ix3 y⟩
      refine Eq.trans ?_ (Cert.Kernel12Ideal.Opt.res6 m g c l a b).symm
      pointwise
      exact Cert.Proof.Step.mom_eq rfl (hs l a b)
    · rw [e2, e3, e4]
      funext y
      obtain ⟨l, a, b, rfl⟩ : ∃ (l : Fin 2) (a : Fin 512) (b : Fin 2048), y = ix3 l a b := ⟨y 0, y 1, y 2, eq_ix3 y⟩
      refine Eq.trans ?_ (Cert.Kernel12Ideal.Opt.res7 m g c l a b).symm
      pointwise
      exact Cert.Proof.Step.sec_eq rfl (hs l a b)

end Cert.Proof.AdamwWout
end
-- ==== Proof.Opt.AdamwDwk.lean ====
module

public import proofs.«01_k».proof.Defs
public import proofs.«01_k».proof.Proof.Gen.Kernel13.Frame
public import proofs.«01_k».proof.Proof.Gen.Kernel13Ideal.Frame
public import proofs.«01_k».proof.Proof.Gen.Reference13Ideal.Run
public import proofs.«01_k».proof.Proof.Opt.Step
public import Idealize.ShloMosaic.Lib.Pointwise
public import Idealize.ShloMosaic.Lib.Pipeline.ValueKit

@[expose] public section

set_option maxRecDepth 16384

noncomputable section

/-! The optimiser's step of the depthwise kernel: two calls, the first for layer 1, the second for layer 0 over the first's results. -/

namespace Cert.Kernel13Ideal.Opt

open Cert.Kernel13Ideal Cert.Kernel13Ideal.Gen Cert.Proof.Step
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## One block -/

/-- The gradient that the body computes from its blocks. -/
theorem sum_at (x0 x1 x2 : Vec Ideal S1x31x256 .f32) (x3 : Vec Ideal S8x31x256 .f32) (r : Fin 31) (d : Fin 256) :
    k0_pay8 x0 x1 x2 x3 (ix2 r d) = (∑ s : Fin 8, x3 (ix3 s r d) : EReal) := by
  rw [Fin.sum_univ_eight]
  pointwise [k0_pay8, k0_pay2]
/-- The new first moment that the body computes. -/
theorem mom_at (x0 x1 x2 : Vec Ideal S1x31x256 .f32) (x3 : Vec Ideal S8x31x256 .f32) (r : Fin 31) (d : Fin 256) :
    k0_pay9 x0 x1 x2 x3 (ix2 r d) = mom (x1 (ix3 0 r d)) (∑ s : Fin 8, x3 (ix3 s r d) : EReal) := by
  pointwise [k0_pay9, k0_pay3]
  exact congrArg (fun t : EReal => mom (x1 (ix3 0 r d)) t) (sum_at x0 x1 x2 x3 r d)
/-- The new second moment that the body computes. -/
theorem sec_at (x0 x1 x2 : Vec Ideal S1x31x256 .f32) (x3 : Vec Ideal S8x31x256 .f32) (r : Fin 31) (d : Fin 256) :
    k0_pay4 (k0_pay8 x0 x1 x2 x3) x2 (ix2 r d) = sec (x2 (ix3 0 r d)) (∑ s : Fin 8, x3 (ix3 s r d) : EReal) := by
  pointwise [k0_pay4]
  exact congrArg (fun t : EReal => sec (x2 (ix3 0 r d)) t) (sum_at x0 x1 x2 x3 r d)
/-- The change that the body computes. -/
theorem change_at (x0 x1 x2 : Vec Ideal S1x31x256 .f32) (x3 : Vec Ideal S8x31x256 .f32) (r : Fin 31) (d : Fin 256) (z : Fin 1) :
    k0_pay6 (k0_pay8 x0 x1 x2 x3) (k0_pay9 x0 x1 x2 x3) x2 x0 (ix3 z r d)
      = change (x0 (ix3 0 r d)) (mom (x1 (ix3 0 r d)) (∑ s : Fin 8, x3 (ix3 s r d) : EReal)) (sec (x2 (ix3 0 r d)) (∑ s : Fin 8, x3 (ix3 s r d) : EReal)) := by
  pointwise [k0_pay6]
  exact congrArg₂ (fun t u : EReal => change (x0 (ix3 0 r d)) t u) (mom_at x0 x1 x2 x3 r d) (sec_at x0 x1 x2 x3 r d)
/-- A block of the gradient, as the first call's body leaves it. -/
theorem out_4 (x0 x1 x2 : Vec Ideal S1x31x256 .f32) (x3 : Vec Ideal S8x31x256 .f32) (z : Fin 1) (r : Fin 31) (d : Fin 256) : out0_4 x0 x1 x2 x3 (ix3 z r d) = (∑ s : Fin 8, x3 (ix3 s r d) : EReal) := by
  unfold out0_4
  frame_out
  pointwise [k0_pay5]
  rw [sum_at]
/-- A block of the change, as the first call's body leaves it. -/
theorem out_5 (x0 x1 x2 : Vec Ideal S1x31x256 .f32) (x3 : Vec Ideal S8x31x256 .f32) (z : Fin 1) (r : Fin 31) (d : Fin 256) : out0_5 x0 x1 x2 x3 (ix3 z r d) = change (x0 (ix3 0 r d)) (mom (x1 (ix3 0 r d)) (∑ s : Fin 8, x3 (ix3 s r d) : EReal)) (sec (x2 (ix3 0 r d)) (∑ s : Fin 8, x3 (ix3 s r d) : EReal)) := by
  unfold out0_5
  frame_out
  rw [change_at]
/-- A block of the new first moment, as the first call's body leaves it. -/
theorem out_6 (x0 x1 x2 : Vec Ideal S1x31x256 .f32) (x3 : Vec Ideal S8x31x256 .f32) (z : Fin 1) (r : Fin 31) (d : Fin 256) : out0_6 x0 x1 x2 x3 (ix3 z r d) = mom (x1 (ix3 0 r d)) (∑ s : Fin 8, x3 (ix3 s r d) : EReal) := by
  unfold out0_6
  frame_out
  pointwise [k0_pay7]
  rw [mom_at]
/-- A block of the new second moment, as the first call's body leaves it. -/
theorem out_7 (x0 x1 x2 : Vec Ideal S1x31x256 .f32) (x3 : Vec Ideal S8x31x256 .f32) (z : Fin 1) (r : Fin 31) (d : Fin 256) : out0_7 x0 x1 x2 x3 (ix3 z r d) = sec (x2 (ix3 0 r d)) (∑ s : Fin 8, x3 (ix3 s r d) : EReal) := by
  unfold out0_7
  frame_out
  pointwise [k0_pay1]
  rw [sec_at]

/-! ## The second call's body leaves the same -/

/-- Its block of the gradient. -/
theorem after_4 (V : (c : Dev nD) → (b : Ref sig .tc) → Buf (Elt Ideal) ((c : Thread nD τ).loc b)) (c : Dev nD) (t : Fin cfg1.N) :
    (outsAt1 V c t).1 = out0_4 (iblk1 V c 0 t) (iblk1 V c 1 t) (iblk1 V c 2 t) (iblk1 V c 3 t) := by
  unfold outsAt1 out1_A_4
  rw [View.read_writes_eq_canon _ _ _ (cover1_A_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t))]
  unfold kernelRun1_A
  dsimp only
  sl_unfold_words
  simp only [View.readAt_eq_ld, (hs1_0 t).read_unread, (hs1_1 t).read_unread, (hs1_2 t).read_unread, (hs1_3 t).read_unread]
  rfl
/-- Its block of the change. -/
theorem after_5 (V : (c : Dev nD) → (b : Ref sig .tc) → Buf (Elt Ideal) ((c : Thread nD τ).loc b)) (c : Dev nD) (t : Fin cfg1.N) :
    (outsAt1 V c t).2.1 = out0_5 (iblk1 V c 0 t) (iblk1 V c 1 t) (iblk1 V c 2 t) (iblk1 V c 3 t) := by
  unfold outsAt1 out1_A_5
  rw [View.read_writes_eq_canon _ _ _ (cover1_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t))]
  unfold kernelRun1_A
  dsimp only
  sl_unfold_words
  simp only [View.readAt_eq_ld, (hs1_0 t).read_unread, (hs1_1 t).read_unread, (hs1_2 t).read_unread, (hs1_3 t).read_unread]
  rfl
/-- Its block of the new first moment. -/
theorem after_6 (V : (c : Dev nD) → (b : Ref sig .tc) → Buf (Elt Ideal) ((c : Thread nD τ).loc b)) (c : Dev nD) (t : Fin cfg1.N) :
    (outsAt1 V c t).2.2.1 = out0_6 (iblk1 V c 0 t) (iblk1 V c 1 t) (iblk1 V c 2 t) (iblk1 V c 3 t) := by
  unfold outsAt1 out1_A_6
  rw [View.read_writes_eq_canon _ _ _ (cover1_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t))]
  unfold kernelRun1_A
  dsimp only
  sl_unfold_words
  simp only [View.readAt_eq_ld, (hs1_0 t).read_unread, (hs1_1 t).read_unread, (hs1_2 t).read_unread, (hs1_3 t).read_unread]
  rfl
/-- Its block of the new second moment. -/
theorem after_7 (V : (c : Dev nD) → (b : Ref sig .tc) → Buf (Elt Ideal) ((c : Thread nD τ).loc b)) (c : Dev nD) (t : Fin cfg1.N) :
    (outsAt1 V c t).2.2.2 = out0_7 (iblk1 V c 0 t) (iblk1 V c 1 t) (iblk1 V c 2 t) (iblk1 V c 3 t) := by
  unfold outsAt1 out1_A_7
  rw [View.read_writes_eq_canon _ _ _ (cover1_A_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t))]
  unfold kernelRun1_A
  dsimp only
  sl_unfold_words
  simp only [View.readAt_eq_ld, (hs1_0 t).read_unread, (hs1_1 t).read_unread, (hs1_2 t).read_unread, (hs1_3 t).read_unread]
  rfl

/-! ## The two calls' blocks and results -/

section Value

variable (V : (c : Dev nD) → (b : Ref sig .tc) → Buf (Elt Ideal) ((c : Thread nD τ).loc b)) (c : Dev nD)

/-- Every window's block index at a point. -/
theorem idx0 : ∀ t : Fin cfg0.N, win0_0.index t = ![1, t.val, 0] ∧ win0_1.index t = ![1, t.val, 0] ∧ win0_2.index t = ![1, t.val, 0] ∧ win0_3.index t = ![0, t.val, 0]
    ∧ win0_4.index t = ![1, t.val, 0] ∧ win0_5.index t = ![1, t.val, 0] ∧ win0_6.index t = ![1, t.val, 0] ∧ win0_7.index t = ![1, t.val, 0] :=
  (by decide +kernel : ∀ t : Fin grid0.N, _)
/-- The same of the second call. -/
theorem idx1 : ∀ t : Fin cfg1.N, win1_0.index t = ![0, t.val, 0] ∧ win1_1.index t = ![0, t.val, 0] ∧ win1_2.index t = ![0, t.val, 0] ∧ win1_3.index t = ![0, t.val, 0]
    ∧ win1_4.index t = ![0, t.val, 0] ∧ win1_5.index t = ![0, t.val, 0] ∧ win1_6.index t = ![0, t.val, 0] ∧ win1_7.index t = ![0, t.val, 0] :=
  (by decide +kernel : ∀ t : Fin grid1.N, _)

/-- The row that a block's row is, at a point. -/
abbrev row0 (t : Fin cfg0.N) (r : Fin 31) : Fin 31 := ⟨t.val * 31 + r.val, by have := lt_of_lt_of_eq t.isLt N_0; omega⟩
/-- The same of the second call. -/
abbrev row1 (t : Fin cfg1.N) (r : Fin 31) : Fin 31 := ⟨t.val * 31 + r.val, by have := lt_of_lt_of_eq t.isLt N_1; omega⟩
/-- A block of call 1's argument 0. -/
theorem b00 (t : Fin cfg0.N) (z : Fin 1) (r : Fin 31) (d : Fin 256) : iblk0 V c 0 t (ix3 z r d) = V c main_arg0 (ix3 1 (row0 t r) d) := by
  blk_ext [iblk0, row0, idx0 t]
/-- A block of call 1's argument 1. -/
theorem b01 (t : Fin cfg0.N) (z : Fin 1) (r : Fin 31) (d : Fin 256) : iblk0 V c 1 t (ix3 z r d) = V c main_arg1 (ix3 1 (row0 t r) d) := by
  blk_ext [iblk0, row0, idx0 t]
/-- A block of call 1's argument 2. -/
theorem b02 (t : Fin cfg0.N) (z : Fin 1) (r : Fin 31) (d : Fin 256) : iblk0 V c 2 t (ix3 z r d) = V c main_arg2 (ix3 1 (row0 t r) d) := by
  blk_ext [iblk0, row0, idx0 t]
/-- A block of call 1's devices' gradients. -/
theorem b03 (t : Fin cfg0.N) (s : Fin 8) (r : Fin 31) (d : Fin 256) : iblk0 V c 3 t (ix3 s r d) = V c main_arg4 (ix3 s (row0 t r) d) := by
  blk_ext [iblk0, row0, idx0 t]
/-- A block of call 2's argument 0. -/
theorem b10 (t : Fin cfg1.N) (z : Fin 1) (r : Fin 31) (d : Fin 256) : iblk1 V c 0 t (ix3 z r d) = V c main_arg0 (ix3 0 (row1 t r) d) := by
  blk_ext [iblk1, row1, idx1 t]
/-- A block of call 2's argument 1. -/
theorem b11 (t : Fin cfg1.N) (z : Fin 1) (r : Fin 31) (d : Fin 256) : iblk1 V c 1 t (ix3 z r d) = V c main_arg1 (ix3 0 (row1 t r) d) := by
  blk_ext [iblk1, row1, idx1 t]
/-- A block of call 2's argument 2. -/
theorem b12 (t : Fin cfg1.N) (z : Fin 1) (r : Fin 31) (d : Fin 256) : iblk1 V c 2 t (ix3 z r d) = V c main_arg2 (ix3 0 (row1 t r) d) := by
  blk_ext [iblk1, row1, idx1 t]
/-- A block of call 2's devices' gradients. -/
theorem b13 (t : Fin cfg1.N) (s : Fin 8) (r : Fin 31) (d : Fin 256) : iblk1 V c 3 t (ix3 s r d) = V c main_arg3 (ix3 s (row1 t r) d) := by
  blk_ext [iblk1, row1, idx1 t]
/-- Call 1's array of the gradient after the run: layer 1 is written, the other layer is as it was. -/
theorem arr04 : (dat0 V c).arrAt 4 cfg0.N = fun y : S2x31x256.Idx => if (y 0 : ℕ) / 1 = 1 then (∑ s : Fin 8, V c main_arg4 (ix3 s (y 1) (y 2)) : EReal) else (dat0 V c).A 4 y := by
  refine (dat0 V c).arrAt_eq_of_coversWhere 4 _ (fun β => β (0 : Fin 3) = 1) (by decide +kernel) (fun t hf y => ?_) (fun j => Iff.rfl)
  blk_simp
  rw [after0_4]
  obtain ⟨z, r, d, rfl⟩ : ∃ (z : Fin 1) (r : Fin 31) (d : Fin 256), y = ix3 z r d := ⟨y 0, y 1, y 2, eq_ix3 y⟩
  have e : (win0_4.blk t).view.emb (ix3 z r d) = ix3 1 (row0 t r) d := by blk_ext [row0, idx0 t]
  refine Eq.trans (b := (∑ s : Fin 8, V c main_arg4 (ix3 s (row0 t r) d) : EReal)) ?_ (congrArg (fun y : S2x31x256.Idx => (∑ s : Fin 8, V c main_arg4 (ix3 s (y 1) (y 2)) : EReal)) e).symm
  refine (out_4 _ _ _ _ z r d).trans ?_
  simp only [b00 V c t, b01 V c t, b02 V c t, b03 V c t]
/-- Call 1's array of the change after the run: layer 1 is written, the other layer is as it was. -/
theorem arr05 : (dat0 V c).arrAt 5 cfg0.N = fun y : S2x31x256.Idx => if (y 0 : ℕ) / 1 = 1 then change (V c main_arg0 (ix3 1 (y 1) (y 2))) (mom (V c main_arg1 (ix3 1 (y 1) (y 2))) (∑ s : Fin 8, V c main_arg4 (ix3 s (y 1) (y 2)) : EReal)) (sec (V c main_arg2 (ix3 1 (y 1) (y 2))) (∑ s : Fin 8, V c main_arg4 (ix3 s (y 1) (y 2)) : EReal)) else (dat0 V c).A 5 y := by
  refine (dat0 V c).arrAt_eq_of_coversWhere 5 _ (fun β => β (0 : Fin 3) = 1) (by decide +kernel) (fun t hf y => ?_) (fun j => Iff.rfl)
  blk_simp
  rw [after0_5]
  obtain ⟨z, r, d, rfl⟩ : ∃ (z : Fin 1) (r : Fin 31) (d : Fin 256), y = ix3 z r d := ⟨y 0, y 1, y 2, eq_ix3 y⟩
  have e : (win0_5.blk t).view.emb (ix3 z r d) = ix3 1 (row0 t r) d := by blk_ext [row0, idx0 t]
  refine Eq.trans (b := change (V c main_arg0 (ix3 1 (row0 t r) d)) (mom (V c main_arg1 (ix3 1 (row0 t r) d)) (∑ s : Fin 8, V c main_arg4 (ix3 s (row0 t r) d) : EReal)) (sec (V c main_arg2 (ix3 1 (row0 t r) d)) (∑ s : Fin 8, V c main_arg4 (ix3 s (row0 t r) d) : EReal))) ?_ (congrArg (fun y : S2x31x256.Idx => change (V c main_arg0 (ix3 1 (y 1) (y 2))) (mom (V c main_arg1 (ix3 1 (y 1) (y 2))) (∑ s : Fin 8, V c main_arg4 (ix3 s (y 1) (y 2)) : EReal)) (sec (V c main_arg2 (ix3 1 (y 1) (y 2))) (∑ s : Fin 8, V c main_arg4 (ix3 s (y 1) (y 2)) : EReal))) e).symm
  refine (out_5 _ _ _ _ z r d).trans ?_
  simp only [b00 V c t, b01 V c t, b02 V c t, b03 V c t]
/-- Call 1's array of the new first moment after the run: layer 1 is written, the other layer is as it was. -/
theorem arr06 : (dat0 V c).arrAt 6 cfg0.N = fun y : S2x31x256.Idx => if (y 0 : ℕ) / 1 = 1 then (mom (V c main_arg1 (ix3 1 (y 1) (y 2))) (∑ s : Fin 8, V c main_arg4 (ix3 s (y 1) (y 2)) : EReal)) else (dat0 V c).A 6 y := by
  refine (dat0 V c).arrAt_eq_of_coversWhere 6 _ (fun β => β (0 : Fin 3) = 1) (by decide +kernel) (fun t hf y => ?_) (fun j => Iff.rfl)
  blk_simp
  rw [after0_6]
  obtain ⟨z, r, d, rfl⟩ : ∃ (z : Fin 1) (r : Fin 31) (d : Fin 256), y = ix3 z r d := ⟨y 0, y 1, y 2, eq_ix3 y⟩
  have e : (win0_6.blk t).view.emb (ix3 z r d) = ix3 1 (row0 t r) d := by blk_ext [row0, idx0 t]
  refine Eq.trans (b := (mom (V c main_arg1 (ix3 1 (row0 t r) d)) (∑ s : Fin 8, V c main_arg4 (ix3 s (row0 t r) d) : EReal))) ?_ (congrArg (fun y : S2x31x256.Idx => (mom (V c main_arg1 (ix3 1 (y 1) (y 2))) (∑ s : Fin 8, V c main_arg4 (ix3 s (y 1) (y 2)) : EReal))) e).symm
  refine (out_6 _ _ _ _ z r d).trans ?_
  simp only [b00 V c t, b01 V c t, b02 V c t, b03 V c t]
/-- Call 1's array of the new second moment after the run: layer 1 is written, the other layer is as it was. -/
theorem arr07 : (dat0 V c).arrAt 7 cfg0.N = fun y : S2x31x256.Idx => if (y 0 : ℕ) / 1 = 1 then (sec (V c main_arg2 (ix3 1 (y 1) (y 2))) (∑ s : Fin 8, V c main_arg4 (ix3 s (y 1) (y 2)) : EReal)) else (dat0 V c).A 7 y := by
  refine (dat0 V c).arrAt_eq_of_coversWhere 7 _ (fun β => β (0 : Fin 3) = 1) (by decide +kernel) (fun t hf y => ?_) (fun j => Iff.rfl)
  blk_simp
  rw [after0_7]
  obtain ⟨z, r, d, rfl⟩ : ∃ (z : Fin 1) (r : Fin 31) (d : Fin 256), y = ix3 z r d := ⟨y 0, y 1, y 2, eq_ix3 y⟩
  have e : (win0_7.blk t).view.emb (ix3 z r d) = ix3 1 (row0 t r) d := by blk_ext [row0, idx0 t]
  refine Eq.trans (b := (sec (V c main_arg2 (ix3 1 (row0 t r) d)) (∑ s : Fin 8, V c main_arg4 (ix3 s (row0 t r) d) : EReal))) ?_ (congrArg (fun y : S2x31x256.Idx => (sec (V c main_arg2 (ix3 1 (y 1) (y 2))) (∑ s : Fin 8, V c main_arg4 (ix3 s (y 1) (y 2)) : EReal))) e).symm
  refine (out_7 _ _ _ _ z r d).trans ?_
  simp only [b00 V c t, b01 V c t, b02 V c t, b03 V c t]
/-- Call 2's array of the gradient after the run: layer 0 is written, the other layer is as it was. -/
theorem arr14 : (dat1 V c).arrAt 4 cfg1.N = fun y : S2x31x256.Idx => if (y 0 : ℕ) / 1 = 0 then (∑ s : Fin 8, V c main_arg3 (ix3 s (y 1) (y 2)) : EReal) else (dat1 V c).A 4 y := by
  refine (dat1 V c).arrAt_eq_of_coversWhere 4 _ (fun β => β (0 : Fin 3) = 0) (by decide +kernel) (fun t hf y => ?_) (fun j => Iff.rfl)
  blk_simp
  rw [after1_4, after_4]
  obtain ⟨z, r, d, rfl⟩ : ∃ (z : Fin 1) (r : Fin 31) (d : Fin 256), y = ix3 z r d := ⟨y 0, y 1, y 2, eq_ix3 y⟩
  have e : (win1_4.blk t).view.emb (ix3 z r d) = ix3 0 (row1 t r) d := by blk_ext [row1, idx1 t]
  refine Eq.trans (b := (∑ s : Fin 8, V c main_arg3 (ix3 s (row1 t r) d) : EReal)) ?_ (congrArg (fun y : S2x31x256.Idx => (∑ s : Fin 8, V c main_arg3 (ix3 s (y 1) (y 2)) : EReal)) e).symm
  refine (out_4 _ _ _ _ z r d).trans ?_
  simp only [b10 V c t, b11 V c t, b12 V c t, b13 V c t]
/-- Call 2's array of the change after the run: layer 0 is written, the other layer is as it was. -/
theorem arr15 : (dat1 V c).arrAt 5 cfg1.N = fun y : S2x31x256.Idx => if (y 0 : ℕ) / 1 = 0 then change (V c main_arg0 (ix3 0 (y 1) (y 2))) (mom (V c main_arg1 (ix3 0 (y 1) (y 2))) (∑ s : Fin 8, V c main_arg3 (ix3 s (y 1) (y 2)) : EReal)) (sec (V c main_arg2 (ix3 0 (y 1) (y 2))) (∑ s : Fin 8, V c main_arg3 (ix3 s (y 1) (y 2)) : EReal)) else (dat1 V c).A 5 y := by
  refine (dat1 V c).arrAt_eq_of_coversWhere 5 _ (fun β => β (0 : Fin 3) = 0) (by decide +kernel) (fun t hf y => ?_) (fun j => Iff.rfl)
  blk_simp
  rw [after1_5, after_5]
  obtain ⟨z, r, d, rfl⟩ : ∃ (z : Fin 1) (r : Fin 31) (d : Fin 256), y = ix3 z r d := ⟨y 0, y 1, y 2, eq_ix3 y⟩
  have e : (win1_5.blk t).view.emb (ix3 z r d) = ix3 0 (row1 t r) d := by blk_ext [row1, idx1 t]
  refine Eq.trans (b := change (V c main_arg0 (ix3 0 (row1 t r) d)) (mom (V c main_arg1 (ix3 0 (row1 t r) d)) (∑ s : Fin 8, V c main_arg3 (ix3 s (row1 t r) d) : EReal)) (sec (V c main_arg2 (ix3 0 (row1 t r) d)) (∑ s : Fin 8, V c main_arg3 (ix3 s (row1 t r) d) : EReal))) ?_ (congrArg (fun y : S2x31x256.Idx => change (V c main_arg0 (ix3 0 (y 1) (y 2))) (mom (V c main_arg1 (ix3 0 (y 1) (y 2))) (∑ s : Fin 8, V c main_arg3 (ix3 s (y 1) (y 2)) : EReal)) (sec (V c main_arg2 (ix3 0 (y 1) (y 2))) (∑ s : Fin 8, V c main_arg3 (ix3 s (y 1) (y 2)) : EReal))) e).symm
  refine (out_5 _ _ _ _ z r d).trans ?_
  simp only [b10 V c t, b11 V c t, b12 V c t, b13 V c t]
/-- Call 2's array of the new first moment after the run: layer 0 is written, the other layer is as it was. -/
theorem arr16 : (dat1 V c).arrAt 6 cfg1.N = fun y : S2x31x256.Idx => if (y 0 : ℕ) / 1 = 0 then (mom (V c main_arg1 (ix3 0 (y 1) (y 2))) (∑ s : Fin 8, V c main_arg3 (ix3 s (y 1) (y 2)) : EReal)) else (dat1 V c).A 6 y := by
  refine (dat1 V c).arrAt_eq_of_coversWhere 6 _ (fun β => β (0 : Fin 3) = 0) (by decide +kernel) (fun t hf y => ?_) (fun j => Iff.rfl)
  blk_simp
  rw [after1_6, after_6]
  obtain ⟨z, r, d, rfl⟩ : ∃ (z : Fin 1) (r : Fin 31) (d : Fin 256), y = ix3 z r d := ⟨y 0, y 1, y 2, eq_ix3 y⟩
  have e : (win1_6.blk t).view.emb (ix3 z r d) = ix3 0 (row1 t r) d := by blk_ext [row1, idx1 t]
  refine Eq.trans (b := (mom (V c main_arg1 (ix3 0 (row1 t r) d)) (∑ s : Fin 8, V c main_arg3 (ix3 s (row1 t r) d) : EReal))) ?_ (congrArg (fun y : S2x31x256.Idx => (mom (V c main_arg1 (ix3 0 (y 1) (y 2))) (∑ s : Fin 8, V c main_arg3 (ix3 s (y 1) (y 2)) : EReal))) e).symm
  refine (out_6 _ _ _ _ z r d).trans ?_
  simp only [b10 V c t, b11 V c t, b12 V c t, b13 V c t]
/-- Call 2's array of the new second moment after the run: layer 0 is written, the other layer is as it was. -/
theorem arr17 : (dat1 V c).arrAt 7 cfg1.N = fun y : S2x31x256.Idx => if (y 0 : ℕ) / 1 = 0 then (sec (V c main_arg2 (ix3 0 (y 1) (y 2))) (∑ s : Fin 8, V c main_arg3 (ix3 s (y 1) (y 2)) : EReal)) else (dat1 V c).A 7 y := by
  refine (dat1 V c).arrAt_eq_of_coversWhere 7 _ (fun β => β (0 : Fin 3) = 0) (by decide +kernel) (fun t hf y => ?_) (fun j => Iff.rfl)
  blk_simp
  rw [after1_7, after_7]
  obtain ⟨z, r, d, rfl⟩ : ∃ (z : Fin 1) (r : Fin 31) (d : Fin 256), y = ix3 z r d := ⟨y 0, y 1, y 2, eq_ix3 y⟩
  have e : (win1_7.blk t).view.emb (ix3 z r d) = ix3 0 (row1 t r) d := by blk_ext [row1, idx1 t]
  refine Eq.trans (b := (sec (V c main_arg2 (ix3 0 (row1 t r) d)) (∑ s : Fin 8, V c main_arg3 (ix3 s (row1 t r) d) : EReal))) ?_ (congrArg (fun y : S2x31x256.Idx => (sec (V c main_arg2 (ix3 0 (y 1) (y 2))) (∑ s : Fin 8, V c main_arg3 (ix3 s (y 1) (y 2)) : EReal))) e).symm
  refine (out_7 _ _ _ _ z r d).trans ?_
  simp only [b10 V c t, b11 V c t, b12 V c t, b13 V c t]

end Value

/-! ## The run -/

section Run

variable (m : (ℓ : Loc nD τ sig) → Buf (Elt Ideal) ℓ) (ρ : Dev nD → PrngReg)

set_option backward.isDefEq.respectTransparency.types false in
/-- Every run ends with the second call's results in place and the arguments as they were. -/
theorem run_all : θ_run defs (onTc (τ := τ) (main (F := Ideal))) ⟨m, fun _ => 0, ρ⟩ (fun r => ∀ c : Dev nD,
      r.2.mem ((c.tc : Thread nD τ).loc main_v1_0) = W3 m ρ c (Proc.devRef .tc main_v1_0)
      ∧ r.2.mem ((c.tc : Thread nD τ).loc main_v1_1) = W3 m ρ c (Proc.devRef .tc main_v1_1)
      ∧ r.2.mem ((c.tc : Thread nD τ).loc main_v1_2) = W3 m ρ c (Proc.devRef .tc main_v1_2)
      ∧ r.2.mem ((c.tc : Thread nD τ).loc main_v1_3) = W3 m ρ c (Proc.devRef .tc main_v1_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨h c _ (mem_uc main_v1_0 (by decide)),
       h c _ (mem_uc main_v1_1 (by decide)),
       h c _ (mem_uc main_v1_2 (by decide)),
       h c _ (mem_uc main_v1_3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

variable (c : Dev nD)

/-- Argument 0 at the two calls. -/
theorem e00 : V0 m ρ c main_arg0 = m ((c.tc : Thread nD τ).loc main_arg0) := W0_args m ρ c main_arg0 (by decide)
theorem e10 : V2 m ρ c main_arg0 = m ((c.tc : Thread nD τ).loc main_arg0) := W2_args m ρ c main_arg0 (by decide)
/-- Argument 1 at the two calls. -/
theorem e01 : V0 m ρ c main_arg1 = m ((c.tc : Thread nD τ).loc main_arg1) := W0_args m ρ c main_arg1 (by decide)
theorem e11 : V2 m ρ c main_arg1 = m ((c.tc : Thread nD τ).loc main_arg1) := W2_args m ρ c main_arg1 (by decide)
/-- Argument 2 at the two calls. -/
theorem e02 : V0 m ρ c main_arg2 = m ((c.tc : Thread nD τ).loc main_arg2) := W0_args m ρ c main_arg2 (by decide)
theorem e12 : V2 m ρ c main_arg2 = m ((c.tc : Thread nD τ).loc main_arg2) := W2_args m ρ c main_arg2 (by decide)
/-- The devices' gradients of layer 1 at the first call, -/
theorem e03 (y : S8x31x256.Idx) : V0 m ρ c main_arg4 y = m ((c.tc : Thread nD τ).loc main_arg4) y := congrFun (W0_args m ρ c main_arg4 (by decide)) y
/-- and of layer 0 at the second. -/
theorem e13 (y : S8x31x256.Idx) : V2 m ρ c main_arg3 y = m ((c.tc : Thread nD τ).loc main_arg3) y := congrFun (W2_args m ρ c main_arg3 (by decide)) y
/-- The second call finds the first's array of the gradient. -/
theorem prev4 : (dat1 (V2 m ρ) c).A 4 = (dat0 (V0 m ρ) c).arrAt 4 cfg0.N := by
  refine (A_eq1 (V2 m ρ) c 4).trans (Eq.trans ?_ (W1_arr m ρ c 4))
  show StableHlo.after hostOps1 (W1 m ρ c) (Proc.devRef .tc main_v1_0) = _
  after_results
  rfl
/-- The second call finds the first's array of the change. -/
theorem prev5 : (dat1 (V2 m ρ) c).A 5 = (dat0 (V0 m ρ) c).arrAt 5 cfg0.N := by
  refine (A_eq1 (V2 m ρ) c 5).trans (Eq.trans ?_ (W1_arr m ρ c 5))
  show StableHlo.after hostOps1 (W1 m ρ c) (Proc.devRef .tc main_v1_1) = _
  after_results
  rfl
/-- The second call finds the first's array of the new first moment. -/
theorem prev6 : (dat1 (V2 m ρ) c).A 6 = (dat0 (V0 m ρ) c).arrAt 6 cfg0.N := by
  refine (A_eq1 (V2 m ρ) c 6).trans (Eq.trans ?_ (W1_arr m ρ c 6))
  show StableHlo.after hostOps1 (W1 m ρ c) (Proc.devRef .tc main_v1_2) = _
  after_results
  rfl
/-- The second call finds the first's array of the new second moment. -/
theorem prev7 : (dat1 (V2 m ρ) c).A 7 = (dat0 (V0 m ρ) c).arrAt 7 cfg0.N := by
  refine (A_eq1 (V2 m ρ) c 7).trans (Eq.trans ?_ (W1_arr m ρ c 7))
  show StableHlo.after hostOps1 (W1 m ρ c) (Proc.devRef .tc main_v1_3) = _
  after_results
  rfl

/-- The weights. -/
def a0 (l : Fin 2) (r : Fin 31) (d : Fin 256) : EReal := m ((c.tc : Thread nD τ).loc main_arg0) (ix3 l r d)
/-- The first moments. -/
def a1 (l : Fin 2) (r : Fin 31) (d : Fin 256) : EReal := m ((c.tc : Thread nD τ).loc main_arg1) (ix3 l r d)
/-- The second moments. -/
def a2 (l : Fin 2) (r : Fin 31) (d : Fin 256) : EReal := m ((c.tc : Thread nD τ).loc main_arg2) (ix3 l r d)
/-- A layer's gradient: the sum of its parts. -/
def grad (l : Fin 2) (r : Fin 31) (d : Fin 256) : EReal :=
  if l = 0 then (∑ s : Fin 8, m ((c.tc : Thread nD τ).loc main_arg3) (ix3 s r d) : EReal) else (∑ s : Fin 8, m ((c.tc : Thread nD τ).loc main_arg4) (ix3 s r d) : EReal)
/-- Layer 1's gradient. -/
theorem g0 (r : Fin 31) (d : Fin 256) : (∑ s : Fin 8, V0 m ρ c main_arg4 (ix3 s r d) : EReal) = grad m c 1 r d :=
  congrArg (fun f : Fin 8 → EReal => ∑ s : Fin 8, f s) (funext fun s => e03 m ρ c (ix3 s r d))
/-- Layer 0's gradient. -/
theorem g1 (r : Fin 31) (d : Fin 256) : (∑ s : Fin 8, V2 m ρ c main_arg3 (ix3 s r d) : EReal) = grad m c 0 r d :=
  congrArg (fun f : Fin 8 → EReal => ∑ s : Fin 8, f s) (funext fun s => e13 m ρ c (ix3 s r d))
/-- The program's result: the gradient. -/
theorem res4 (l : Fin 2) (r : Fin 31) (d : Fin 256) : W3 m ρ c (Proc.devRef .tc main_v1_0) (ix3 l r d) = grad m c l r d := by
  refine (congrFun (W3_arr m ρ c 4) _).trans ?_
  rw [arr14, prev4, arr04]
  rcases (show l = 0 ∨ l = 1 by omega) with rfl | rfl
  · refine (if_pos (show (0 : ℕ) / 1 = 0 from rfl)).trans ?_
    exact g1 m ρ c r d
  · refine (if_neg (show ¬ (1 : ℕ) / 1 = 0 by decide)).trans ((if_pos (show (1 : ℕ) / 1 = 1 from rfl)).trans ?_)
    exact g0 m ρ c r d
/-- The program's result: the change. -/
theorem res5 (l : Fin 2) (r : Fin 31) (d : Fin 256) : W3 m ρ c (Proc.devRef .tc main_v1_1) (ix3 l r d) = change (a0 m c l r d) (mom (a1 m c l r d) (grad m c l r d)) (sec (a2 m c l r d) (grad m c l r d)) := by
  refine (congrFun (W3_arr m ρ c 5) _).trans ?_
  rw [arr15, prev5, arr05]
  rcases (show l = 0 ∨ l = 1 by omega) with rfl | rfl
  · refine (if_pos (show (0 : ℕ) / 1 = 0 from rfl)).trans ?_
    exact change_eq (congrFun (e10 m ρ c) (ix3 0 r d)) (congrFun (e11 m ρ c) (ix3 0 r d)) (congrFun (e12 m ρ c) (ix3 0 r d)) (g1 m ρ c r d)
  · refine (if_neg (show ¬ (1 : ℕ) / 1 = 0 by decide)).trans ((if_pos (show (1 : ℕ) / 1 = 1 from rfl)).trans ?_)
    exact change_eq (congrFun (e00 m ρ c) (ix3 1 r d)) (congrFun (e01 m ρ c) (ix3 1 r d)) (congrFun (e02 m ρ c) (ix3 1 r d)) (g0 m ρ c r d)
/-- The program's result: the new first moment. -/
theorem res6 (l : Fin 2) (r : Fin 31) (d : Fin 256) : W3 m ρ c (Proc.devRef .tc main_v1_2) (ix3 l r d) = mom (a1 m c l r d) (grad m c l r d) := by
  refine (congrFun (W3_arr m ρ c 6) _).trans ?_
  rw [arr16, prev6, arr06]
  rcases (show l = 0 ∨ l = 1 by omega) with rfl | rfl
  · refine (if_pos (show (0 : ℕ) / 1 = 0 from rfl)).trans ?_
    exact mom_eq (congrFun (e11 m ρ c) (ix3 0 r d)) (g1 m ρ c r d)
  · refine (if_neg (show ¬ (1 : ℕ) / 1 = 0 by decide)).trans ((if_pos (show (1 : ℕ) / 1 = 1 from rfl)).trans ?_)
    exact mom_eq (congrFun (e01 m ρ c) (ix3 1 r d)) (g0 m ρ c r d)
/-- The program's result: the new second moment. -/
theorem res7 (l : Fin 2) (r : Fin 31) (d : Fin 256) : W3 m ρ c (Proc.devRef .tc main_v1_3) (ix3 l r d) = sec (a2 m c l r d) (grad m c l r d) := by
  refine (congrFun (W3_arr m ρ c 7) _).trans ?_
  rw [arr17, prev7, arr07]
  rcases (show l = 0 ∨ l = 1 by omega) with rfl | rfl
  · refine (if_pos (show (0 : ℕ) / 1 = 0 from rfl)).trans ?_
    exact sec_eq (congrFun (e12 m ρ c) (ix3 0 r d)) (g1 m ρ c r d)
  · refine (if_neg (show ¬ (1 : ℕ) / 1 = 0 by decide)).trans ((if_pos (show (1 : ℕ) / 1 = 1 from rfl)).trans ?_)
    exact sec_eq (congrFun (e02 m ρ c) (ix3 1 r d)) (g0 m ρ c r d)

end Run

end Cert.Kernel13Ideal.Opt

namespace Cert.Proof.AdamwDwk

open Idealize.ShloMosaic Idealize.ShloMosaic.TcCoe Idealize.SL.Sem

/-! The claims of the optimiser's two calls for the depthwise kernel. -/

/-- The calls of the words run and leave their arguments. -/
theorem frame_p : Cert.quiescent_Kernel13 := fun m ρ _ => Cert.Kernel13.Gen.frame m ρ
/-- The calls over the reals run and leave their arguments. -/
theorem frame_pi : Cert.quiescent_Kernel13Ideal := fun m ρ _ => Cert.Kernel13Ideal.Gen.frame m ρ
/-- The reference runs and leaves its arguments. -/
theorem frame_ri : Cert.quiescent_Reference13Ideal := fun m ρ _ =>
  (θ_run Cert.Reference13Ideal.defs _ _).mono (fun r h => ⟨fun c => (h c).2.2.2.2,
      Idealize.ShloMosaic.sem_eq_zero_of_no_sems (by decide) r.2⟩)
    (Cert.Reference13Ideal.Value.run (F := Ideal) m ρ)

/-- The two programs have one text. -/
theorem preserves : Cert.preserves_Kernel13_Kernel13Ideal := trivial

/-- The calls' results are the reference's. -/
theorem algebraic : Cert.algebraic_Kernel13Ideal_Reference13Ideal := by
  pair_intro
  · exact Cert.Kernel13Ideal.Opt.run_all m g
  · refine Idealize.ShloMosaic.θ_run_mono (Cert.Reference13Ideal.Value.run (F := Ideal) m' g') ?_
    intro r hr c
    obtain ⟨h0, h1, h2, h3, k0, k1, k2, k3, k4⟩ := hr c
    obtain ⟨e0, e1, e2, e3, e4⟩ := hagree c
    clear hr hagree hpre
    have hs (l : Fin 2) (a : Fin 31) (b : Fin 256) :
        (if h : (l : ℕ) < 1 then (∑ x : Fin 8, m ((c.tc : Thread Cert.Kernel13Ideal.nD Cert.Kernel13Ideal.τ).loc Cert.Kernel13Ideal.main_arg3) (ix3 x a b) : EReal)
          else (∑ x : Fin 8, m ((c.tc : Thread Cert.Kernel13Ideal.nD Cert.Kernel13Ideal.τ).loc Cert.Kernel13Ideal.main_arg4) (ix3 x a b) : EReal)) = Cert.Kernel13Ideal.Opt.grad m c l a b := by
      rcases (show l = 0 ∨ l = 1 by omega) with rfl | rfl <;> rfl
    refine ⟨h0.trans ?_, h1.trans ?_, h2.trans ?_, h3.trans ?_, k0, k1, k2, k3, k4⟩
    all_goals clear h0 h1 h2 h3 k0 k1 k2 k3 k4
    · rw [e3, e4]
      funext y
      obtain ⟨l, a, b, rfl⟩ : ∃ (l : Fin 2) (a : Fin 31) (b : Fin 256), y = ix3 l a b := ⟨y 0, y 1, y 2, eq_ix3 y⟩
      refine Eq.trans ?_ (Cert.Kernel13Ideal.Opt.res4 m g c l a b).symm
      pointwise
      exact hs l a b
    · rw [e0, e1, e2, e3, e4]
      funext y
      obtain ⟨l, a, b, rfl⟩ : ∃ (l : Fin 2) (a : Fin 31) (b : Fin 256), y = ix3 l a b := ⟨y 0, y 1, y 2, eq_ix3 y⟩
      refine Eq.trans ?_ (Cert.Kernel13Ideal.Opt.res5 m g c l a b).symm
      pointwise
      exact Cert.Proof.Step.change_eq rfl rfl rfl (hs l a b)
    · rw [e1, e3, e4]
      funext y
      obtain ⟨l, a, b, rfl⟩ : ∃ (l : Fin 2) (a : Fin 31) (b : Fin 256), y = ix3 l a b := ⟨y 0, y 1, y 2, eq_ix3 y⟩
      refine Eq.trans ?_ (Cert.Kernel13Ideal.Opt.res6 m g c l a b).symm
      pointwise
      exact Cert.Proof.Step.mom_eq rfl (hs l a b)
    · rw [e2, e3, e4]
      funext y
      obtain ⟨l, a, b, rfl⟩ : ∃ (l : Fin 2) (a : Fin 31) (b : Fin 256), y = ix3 l a b := ⟨y 0, y 1, y 2, eq_ix3 y⟩
      refine Eq.trans ?_ (Cert.Kernel13Ideal.Opt.res7 m g c l a b).symm
      pointwise
      exact Cert.Proof.Step.sec_eq rfl (hs l a b)

end Cert.Proof.AdamwDwk
end
-- ==== Proof.Opt.AdamwWin.lean ====
module

public import proofs.«01_k».proof.Defs
public import proofs.«01_k».proof.Proof.Gen.Kernel14.Frame
public import proofs.«01_k».proof.Proof.Gen.Kernel14Ideal.Frame
public import proofs.«01_k».proof.Proof.Gen.Reference14Ideal.Run
public import proofs.«01_k».proof.Proof.Opt.Step
public import Idealize.ShloMosaic.Lib.Pointwise
public import Idealize.ShloMosaic.Lib.Pipeline.ValueKit

@[expose] public section

set_option maxRecDepth 16384

noncomputable section

/-! The optimiser's step of the input weights: two calls, the first for layer 1, the second for layer 0 over the first's results. -/

namespace Cert.Kernel14Ideal.Opt

open Cert.Kernel14Ideal Cert.Kernel14Ideal.Gen Cert.Proof.Step
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## One block -/

/-- The gradient that the body computes from its blocks. -/
theorem sum_at (x0 x1 x2 : Vec Ideal S1x128x1792 .f32) (x3 : Vec Ideal S8x128x1792 .bf16) (r : Fin 128) (d : Fin 1792) :
    k0_pay8 x0 x1 x2 x3 (ix2 r d) = (∑ s : Fin 8, x3 (ix3 s r d) : EReal) := by
  rw [Fin.sum_univ_eight]
  pointwise [k0_pay8, k0_pay3]
/-- The new first moment that the body computes. -/
theorem mom_at (x0 x1 x2 : Vec Ideal S1x128x1792 .f32) (x3 : Vec Ideal S8x128x1792 .bf16) (r : Fin 128) (d : Fin 1792) :
    k0_pay4 (k0_pay8 x0 x1 x2 x3) x1 (ix2 r d) = mom (x1 (ix3 0 r d)) (∑ s : Fin 8, x3 (ix3 s r d) : EReal) := by
  pointwise [k0_pay4]
  exact congrArg (fun t : EReal => mom (x1 (ix3 0 r d)) t) (sum_at x0 x1 x2 x3 r d)
/-- The new second moment that the body computes. -/
theorem sec_at (x0 x1 x2 : Vec Ideal S1x128x1792 .f32) (x3 : Vec Ideal S8x128x1792 .bf16) (r : Fin 128) (d : Fin 1792) :
    k0_pay5 (k0_pay8 x0 x1 x2 x3) x2 (ix2 r d) = sec (x2 (ix3 0 r d)) (∑ s : Fin 8, x3 (ix3 s r d) : EReal) := by
  pointwise [k0_pay5]
  exact congrArg (fun t : EReal => sec (x2 (ix3 0 r d)) t) (sum_at x0 x1 x2 x3 r d)
/-- The change that the body computes. -/
theorem change_at (x0 x1 x2 : Vec Ideal S1x128x1792 .f32) (x3 : Vec Ideal S8x128x1792 .bf16) (r : Fin 128) (d : Fin 1792) (z : Fin 1) :
    k0_pay7 (k0_pay8 x0 x1 x2 x3) x1 x2 x0 (ix3 z r d)
      = change (x0 (ix3 0 r d)) (mom (x1 (ix3 0 r d)) (∑ s : Fin 8, x3 (ix3 s r d) : EReal)) (sec (x2 (ix3 0 r d)) (∑ s : Fin 8, x3 (ix3 s r d) : EReal)) := by
  pointwise [k0_pay7]
  exact congrArg₂ (fun t u : EReal => change (x0 (ix3 0 r d)) t u) (mom_at x0 x1 x2 x3 r d) (sec_at x0 x1 x2 x3 r d)
/-- A block of the gradient, as the first call's body leaves it. -/
theorem out_4 (x0 x1 x2 : Vec Ideal S1x128x1792 .f32) (x3 : Vec Ideal S8x128x1792 .bf16) (z : Fin 1) (r : Fin 128) (d : Fin 1792) : out0_4 x0 x1 x2 x3 (ix3 z r d) = (∑ s : Fin 8, x3 (ix3 s r d) : EReal) := by
  unfold out0_4
  frame_out
  pointwise [k0_pay6]
  rw [sum_at]
/-- A block of the change, as the first call's body leaves it. -/
theorem out_5 (x0 x1 x2 : Vec Ideal S1x128x1792 .f32) (x3 : Vec Ideal S8x128x1792 .bf16) (z : Fin 1) (r : Fin 128) (d : Fin 1792) : out0_5 x0 x1 x2 x3 (ix3 z r d) = change (x0 (ix3 0 r d)) (mom (x1 (ix3 0 r d)) (∑ s : Fin 8, x3 (ix3 s r d) : EReal)) (sec (x2 (ix3 0 r d)) (∑ s : Fin 8, x3 (ix3 s r d) : EReal)) := by
  unfold out0_5
  frame_out
  rw [change_at]
/-- A block of the new first moment, as the first call's body leaves it. -/
theorem out_6 (x0 x1 x2 : Vec Ideal S1x128x1792 .f32) (x3 : Vec Ideal S8x128x1792 .bf16) (z : Fin 1) (r : Fin 128) (d : Fin 1792) : out0_6 x0 x1 x2 x3 (ix3 z r d) = mom (x1 (ix3 0 r d)) (∑ s : Fin 8, x3 (ix3 s r d) : EReal) := by
  unfold out0_6
  frame_out
  pointwise [k0_pay1]
  rw [mom_at]
/-- A block of the new second moment, as the first call's body leaves it. -/
theorem out_7 (x0 x1 x2 : Vec Ideal S1x128x1792 .f32) (x3 : Vec Ideal S8x128x1792 .bf16) (z : Fin 1) (r : Fin 128) (d : Fin 1792) : out0_7 x0 x1 x2 x3 (ix3 z r d) = sec (x2 (ix3 0 r d)) (∑ s : Fin 8, x3 (ix3 s r d) : EReal) := by
  unfold out0_7
  frame_out
  pointwise [k0_pay2]
  rw [sec_at]

/-! ## The second call's body leaves the same -/

/-- A chip's slab of the block of gradients. -/
abbrev q0 : Rect S4x128x1792 := Rect.unit (s := S4x128x1792) ![0, 0, 0] S1x128x1792.size inb_S4x128x1792_S1x128x1792_0_0_0
/-- A chip's slab of the block of gradients. -/
abbrev q1 : Rect S4x128x1792 := Rect.unit (s := S4x128x1792) ![1, 0, 0] S1x128x1792.size inb_S4x128x1792_S1x128x1792_1_0_0
/-- A chip's slab of the block of gradients. -/
abbrev q2 : Rect S4x128x1792 := Rect.unit (s := S4x128x1792) ![2, 0, 0] S1x128x1792.size inb_S4x128x1792_S1x128x1792_2_0_0
/-- A chip's slab of the block of gradients. -/
abbrev q3 : Rect S4x128x1792 := Rect.unit (s := S4x128x1792) ![3, 0, 0] S1x128x1792.size inb_S4x128x1792_S1x128x1792_3_0_0
/-- The gradient that the second call's body computes from its blocks. -/
theorem sum1_at (x0 x1 x2 : Vec Ideal S1x128x1792 .f32) (x3 : Vec Ideal S4x128x1792 .bf16) (r : Fin 128) (d : Fin 1792) : k1_pay5 (View.ld x3 q0) (View.ld x3 q1) (View.ld x3 q2) (View.ld x3 q3) (ix2 r d) = (∑ s : Fin 4, x3 (ix3 s r d) : EReal) := by
  rw [Fin.sum_univ_four]
  pointwise [k1_pay5]
/-- The new first moment that it computes. -/
theorem mom1_at (x0 x1 x2 : Vec Ideal S1x128x1792 .f32) (x3 : Vec Ideal S4x128x1792 .bf16) (r : Fin 128) (d : Fin 1792) : k1_pay6 (View.ld x3 q0) (View.ld x3 q1) (View.ld x3 q2) (View.ld x3 q3) x1 (ix2 r d) = mom (x1 (ix3 0 r d)) (∑ s : Fin 4, x3 (ix3 s r d) : EReal) := by
  pointwise [k1_pay6]
  exact congrArg (fun t : EReal => mom (x1 (ix3 0 r d)) t) (sum1_at x0 x1 x2 x3 r d)
/-- The new second moment that it computes. -/
theorem sec1_at (x0 x1 x2 : Vec Ideal S1x128x1792 .f32) (x3 : Vec Ideal S4x128x1792 .bf16) (r : Fin 128) (d : Fin 1792) : k1_pay7 (View.ld x3 q0) (View.ld x3 q1) (View.ld x3 q2) (View.ld x3 q3) x2 (ix2 r d) = sec (x2 (ix3 0 r d)) (∑ s : Fin 4, x3 (ix3 s r d) : EReal) := by
  pointwise [k1_pay7]
  exact congrArg (fun t : EReal => sec (x2 (ix3 0 r d)) t) (sum1_at x0 x1 x2 x3 r d)
/-- The change that it computes. -/
theorem change1_at (x0 x1 x2 : Vec Ideal S1x128x1792 .f32) (x3 : Vec Ideal S4x128x1792 .bf16) (r : Fin 128) (d : Fin 1792) (z : Fin 1) : k1_pay2 (k1_pay8 (View.ld x3 q0) (View.ld x3 q1) (View.ld x3 q2) (View.ld x3 q3) x1) (k1_pay9 (View.ld x3 q0) (View.ld x3 q1) (View.ld x3 q2) (View.ld x3 q3) x2) x0 (ix3 z r d)
      = change (x0 (ix3 0 r d)) (mom (x1 (ix3 0 r d)) (∑ s : Fin 4, x3 (ix3 s r d) : EReal)) (sec (x2 (ix3 0 r d)) (∑ s : Fin 4, x3 (ix3 s r d) : EReal)) := by
  pointwise [k1_pay2, k1_pay8, k1_pay9]
  exact congrArg₂ (fun t u : EReal => change (x0 (ix3 0 r d)) t u) (mom1_at x0 x1 x2 x3 r d) (sec1_at x0 x1 x2 x3 r d)
/-- What the second call's body leaves of the gradient. -/
def later_4 (x0 x1 x2 : Vec Ideal S1x128x1792 .f32) (x3 : Vec Ideal S4x128x1792 .bf16) : Vec Ideal S1x128x1792 .f32 := View.canon [⟨r0_8, k1_pay1 (k1_pay5 (View.ld x3 q0) (View.ld x3 q1) (View.ld x3 q2) (View.ld x3 q3))⟩]
/-- It, index by index. -/
theorem later_4_at (x0 x1 x2 : Vec Ideal S1x128x1792 .f32) (x3 : Vec Ideal S4x128x1792 .bf16) (z : Fin 1) (r : Fin 128) (d : Fin 1792) : later_4 x0 x1 x2 x3 (ix3 z r d) = (∑ s : Fin 4, x3 (ix3 s r d) : EReal) := by
  unfold later_4
  frame_out
  pointwise [k1_pay1]
  exact sum1_at x0 x1 x2 x3 r d
/-- What the second call's body leaves of the change. -/
def later_5 (x0 x1 x2 : Vec Ideal S1x128x1792 .f32) (x3 : Vec Ideal S4x128x1792 .bf16) : Vec Ideal S1x128x1792 .f32 := View.canon [⟨r0_8, k1_pay2 (k1_pay8 (View.ld x3 q0) (View.ld x3 q1) (View.ld x3 q2) (View.ld x3 q3) (View.ld x1 r0_8)) (k1_pay9 (View.ld x3 q0) (View.ld x3 q1) (View.ld x3 q2) (View.ld x3 q3) (View.ld x2 r0_8)) (View.ld x0 r0_8)⟩]
/-- It, index by index. -/
theorem later_5_at (x0 x1 x2 : Vec Ideal S1x128x1792 .f32) (x3 : Vec Ideal S4x128x1792 .bf16) (z : Fin 1) (r : Fin 128) (d : Fin 1792) : later_5 x0 x1 x2 x3 (ix3 z r d) = change (x0 (ix3 0 r d)) (mom (x1 (ix3 0 r d)) (∑ s : Fin 4, x3 (ix3 s r d) : EReal)) (sec (x2 (ix3 0 r d)) (∑ s : Fin 4, x3 (ix3 s r d) : EReal)) := by
  unfold later_5
  frame_out
  exact change1_at x0 x1 x2 x3 r d z
/-- What the second call's body leaves of the new first moment. -/
def later_6 (x0 x1 x2 : Vec Ideal S1x128x1792 .f32) (x3 : Vec Ideal S4x128x1792 .bf16) : Vec Ideal S1x128x1792 .f32 := View.canon [⟨r0_8, k1_pay3 (k1_pay6 (View.ld x3 q0) (View.ld x3 q1) (View.ld x3 q2) (View.ld x3 q3) (View.ld x1 r0_8))⟩]
/-- It, index by index. -/
theorem later_6_at (x0 x1 x2 : Vec Ideal S1x128x1792 .f32) (x3 : Vec Ideal S4x128x1792 .bf16) (z : Fin 1) (r : Fin 128) (d : Fin 1792) : later_6 x0 x1 x2 x3 (ix3 z r d) = mom (x1 (ix3 0 r d)) (∑ s : Fin 4, x3 (ix3 s r d) : EReal) := by
  unfold later_6
  frame_out
  pointwise [k1_pay3]
  exact mom1_at x0 x1 x2 x3 r d
/-- What the second call's body leaves of the new second moment. -/
def later_7 (x0 x1 x2 : Vec Ideal S1x128x1792 .f32) (x3 : Vec Ideal S4x128x1792 .bf16) : Vec Ideal S1x128x1792 .f32 := View.canon [⟨r0_8, k1_pay4 (k1_pay7 (View.ld x3 q0) (View.ld x3 q1) (View.ld x3 q2) (View.ld x3 q3) (View.ld x2 r0_8))⟩]
/-- It, index by index. -/
theorem later_7_at (x0 x1 x2 : Vec Ideal S1x128x1792 .f32) (x3 : Vec Ideal S4x128x1792 .bf16) (z : Fin 1) (r : Fin 128) (d : Fin 1792) : later_7 x0 x1 x2 x3 (ix3 z r d) = sec (x2 (ix3 0 r d)) (∑ s : Fin 4, x3 (ix3 s r d) : EReal) := by
  unfold later_7
  frame_out
  pointwise [k1_pay4]
  exact sec1_at x0 x1 x2 x3 r d
/-- Its block of the gradient. -/
theorem after_4 (V : (c : Dev nD) → (b : Ref sig .tc) → Buf (Elt Ideal) ((c : Thread nD τ).loc b)) (c : Dev nD) (t : Fin cfg1.N) :
    (outsAt1 V c t).1 = later_4 (iblk1 V c 0 t) (iblk1 V c 1 t) (iblk1 V c 2 t) (iblk1 V c 3 t) := by
  unfold outsAt1 out1_A_4
  rw [View.read_writes_eq_canon _ _ _ (cover1_A_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t))]
  unfold kernelRun1_A
  dsimp only
  sl_unfold_words
  simp only [View.readAt_eq_ld, (hs1_0 t).read_unread, (hs1_1 t).read_unread, (hs1_2 t).read_unread, (hs1_3 t).read_unread]
  rfl
/-- Its block of the change. -/
theorem after_5 (V : (c : Dev nD) → (b : Ref sig .tc) → Buf (Elt Ideal) ((c : Thread nD τ).loc b)) (c : Dev nD) (t : Fin cfg1.N) :
    (outsAt1 V c t).2.1 = later_5 (iblk1 V c 0 t) (iblk1 V c 1 t) (iblk1 V c 2 t) (iblk1 V c 3 t) := by
  unfold outsAt1 out1_A_5
  rw [View.read_writes_eq_canon _ _ _ (cover1_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t))]
  unfold kernelRun1_A
  dsimp only
  sl_unfold_words
  simp only [View.readAt_eq_ld, (hs1_0 t).read_unread, (hs1_1 t).read_unread, (hs1_2 t).read_unread, (hs1_3 t).read_unread]
  rfl
/-- Its block of the new first moment. -/
theorem after_6 (V : (c : Dev nD) → (b : Ref sig .tc) → Buf (Elt Ideal) ((c : Thread nD τ).loc b)) (c : Dev nD) (t : Fin cfg1.N) :
    (outsAt1 V c t).2.2.1 = later_6 (iblk1 V c 0 t) (iblk1 V c 1 t) (iblk1 V c 2 t) (iblk1 V c 3 t) := by
  unfold outsAt1 out1_A_6
  rw [View.read_writes_eq_canon _ _ _ (cover1_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t))]
  unfold kernelRun1_A
  dsimp only
  sl_unfold_words
  simp only [View.readAt_eq_ld, (hs1_0 t).read_unread, (hs1_1 t).read_unread, (hs1_2 t).read_unread, (hs1_3 t).read_unread]
  rfl
/-- Its block of the new second moment. -/
theorem after_7 (V : (c : Dev nD) → (b : Ref sig .tc) → Buf (Elt Ideal) ((c : Thread nD τ).loc b)) (c : Dev nD) (t : Fin cfg1.N) :
    (outsAt1 V c t).2.2.2 = later_7 (iblk1 V c 0 t) (iblk1 V c 1 t) (iblk1 V c 2 t) (iblk1 V c 3 t) := by
  unfold outsAt1 out1_A_7
  rw [View.read_writes_eq_canon _ _ _ (cover1_A_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t))]
  unfold kernelRun1_A
  dsimp only
  sl_unfold_words
  simp only [View.readAt_eq_ld, (hs1_0 t).read_unread, (hs1_1 t).read_unread, (hs1_2 t).read_unread, (hs1_3 t).read_unread]
  rfl

/-! ## The two calls' blocks and results -/

section Value

variable (V : (c : Dev nD) → (b : Ref sig .tc) → Buf (Elt Ideal) ((c : Thread nD τ).loc b)) (c : Dev nD)

/-- Every window's block index at a point. -/
theorem idx0 : ∀ t : Fin cfg0.N, win0_0.index t = ![1, t.val, 0] ∧ win0_1.index t = ![1, t.val, 0] ∧ win0_2.index t = ![1, t.val, 0] ∧ win0_3.index t = ![0, t.val, 0]
    ∧ win0_4.index t = ![1, t.val, 0] ∧ win0_5.index t = ![1, t.val, 0] ∧ win0_6.index t = ![1, t.val, 0] ∧ win0_7.index t = ![1, t.val, 0] :=
  (by decide +kernel : ∀ t : Fin grid0.N, _)
/-- The same of the second call. -/
theorem idx1 : ∀ t : Fin cfg1.N, win1_0.index t = ![0, t.val, 0] ∧ win1_1.index t = ![0, t.val, 0] ∧ win1_2.index t = ![0, t.val, 0] ∧ win1_3.index t = ![0, t.val, 0]
    ∧ win1_4.index t = ![0, t.val, 0] ∧ win1_5.index t = ![0, t.val, 0] ∧ win1_6.index t = ![0, t.val, 0] ∧ win1_7.index t = ![0, t.val, 0] :=
  (by decide +kernel : ∀ t : Fin grid1.N, _)

/-- The row that a block's row is, at a point. -/
abbrev row0 (t : Fin cfg0.N) (r : Fin 128) : Fin 2048 := ⟨t.val * 128 + r.val, by have := lt_of_lt_of_eq t.isLt N_0; omega⟩
/-- The same of the second call. -/
abbrev row1 (t : Fin cfg1.N) (r : Fin 128) : Fin 2048 := ⟨t.val * 128 + r.val, by have := lt_of_lt_of_eq t.isLt N_1; omega⟩
/-- A block of call 1's argument 0. -/
theorem b00 (t : Fin cfg0.N) (z : Fin 1) (r : Fin 128) (d : Fin 1792) : iblk0 V c 0 t (ix3 z r d) = V c main_arg0 (ix3 1 (row0 t r) d) := by
  blk_ext [iblk0, row0, idx0 t]
/-- A block of call 1's argument 1. -/
theorem b01 (t : Fin cfg0.N) (z : Fin 1) (r : Fin 128) (d : Fin 1792) : iblk0 V c 1 t (ix3 z r d) = V c main_arg1 (ix3 1 (row0 t r) d) := by
  blk_ext [iblk0, row0, idx0 t]
/-- A block of call 1's argument 2. -/
theorem b02 (t : Fin cfg0.N) (z : Fin 1) (r : Fin 128) (d : Fin 1792) : iblk0 V c 2 t (ix3 z r d) = V c main_arg2 (ix3 1 (row0 t r) d) := by
  blk_ext [iblk0, row0, idx0 t]
/-- A block of call 1's devices' gradients. -/
theorem b03 (t : Fin cfg0.N) (s : Fin 8) (r : Fin 128) (d : Fin 1792) : iblk0 V c 3 t (ix3 s r d) = V c main_v0 (ix3 s (row0 t r) d) := by
  blk_ext [iblk0, row0, idx0 t]
/-- A block of call 2's argument 0. -/
theorem b10 (t : Fin cfg1.N) (z : Fin 1) (r : Fin 128) (d : Fin 1792) : iblk1 V c 0 t (ix3 z r d) = V c main_arg0 (ix3 0 (row1 t r) d) := by
  blk_ext [iblk1, row1, idx1 t]
/-- A block of call 2's argument 1. -/
theorem b11 (t : Fin cfg1.N) (z : Fin 1) (r : Fin 128) (d : Fin 1792) : iblk1 V c 1 t (ix3 z r d) = V c main_arg1 (ix3 0 (row1 t r) d) := by
  blk_ext [iblk1, row1, idx1 t]
/-- A block of call 2's argument 2. -/
theorem b12 (t : Fin cfg1.N) (z : Fin 1) (r : Fin 128) (d : Fin 1792) : iblk1 V c 2 t (ix3 z r d) = V c main_arg2 (ix3 0 (row1 t r) d) := by
  blk_ext [iblk1, row1, idx1 t]
/-- A block of call 2's devices' gradients. -/
theorem b13 (t : Fin cfg1.N) (s : Fin 4) (r : Fin 128) (d : Fin 1792) : iblk1 V c 3 t (ix3 s r d) = V c main_v2 (ix3 s (row1 t r) d) := by
  blk_ext [iblk1, row1, idx1 t]
/-- Call 1's array of the gradient after the run: layer 1 is written, the other layer is as it was. -/
theorem arr04 : (dat0 V c).arrAt 4 cfg0.N = fun y : S2x2048x1792.Idx => if (y 0 : ℕ) / 1 = 1 then (∑ s : Fin 8, V c main_v0 (ix3 s (y 1) (y 2)) : EReal) else (dat0 V c).A 4 y := by
  refine (dat0 V c).arrAt_eq_of_coversWhere 4 _ (fun β => β (0 : Fin 3) = 1) (by decide +kernel) (fun t hf y => ?_) (fun j => Iff.rfl)
  blk_simp
  rw [after0_4]
  obtain ⟨z, r, d, rfl⟩ : ∃ (z : Fin 1) (r : Fin 128) (d : Fin 1792), y = ix3 z r d := ⟨y 0, y 1, y 2, eq_ix3 y⟩
  have e : (win0_4.blk t).view.emb (ix3 z r d) = ix3 1 (row0 t r) d := by blk_ext [row0, idx0 t]
  refine Eq.trans (b := (∑ s : Fin 8, V c main_v0 (ix3 s (row0 t r) d) : EReal)) ?_ (congrArg (fun y : S2x2048x1792.Idx => (∑ s : Fin 8, V c main_v0 (ix3 s (y 1) (y 2)) : EReal)) e).symm
  refine (out_4 _ _ _ _ z r d).trans ?_
  simp only [b00 V c t, b01 V c t, b02 V c t, b03 V c t]
/-- Call 1's array of the change after the run: layer 1 is written, the other layer is as it was. -/
theorem arr05 : (dat0 V c).arrAt 5 cfg0.N = fun y : S2x2048x1792.Idx => if (y 0 : ℕ) / 1 = 1 then change (V c main_arg0 (ix3 1 (y 1) (y 2))) (mom (V c main_arg1 (ix3 1 (y 1) (y 2))) (∑ s : Fin 8, V c main_v0 (ix3 s (y 1) (y 2)) : EReal)) (sec (V c main_arg2 (ix3 1 (y 1) (y 2))) (∑ s : Fin 8, V c main_v0 (ix3 s (y 1) (y 2)) : EReal)) else (dat0 V c).A 5 y := by
  refine (dat0 V c).arrAt_eq_of_coversWhere 5 _ (fun β => β (0 : Fin 3) = 1) (by decide +kernel) (fun t hf y => ?_) (fun j => Iff.rfl)
  blk_simp
  rw [after0_5]
  obtain ⟨z, r, d, rfl⟩ : ∃ (z : Fin 1) (r : Fin 128) (d : Fin 1792), y = ix3 z r d := ⟨y 0, y 1, y 2, eq_ix3 y⟩
  have e : (win0_5.blk t).view.emb (ix3 z r d) = ix3 1 (row0 t r) d := by blk_ext [row0, idx0 t]
  refine Eq.trans (b := change (V c main_arg0 (ix3 1 (row0 t r) d)) (mom (V c main_arg1 (ix3 1 (row0 t r) d)) (∑ s : Fin 8, V c main_v0 (ix3 s (row0 t r) d) : EReal)) (sec (V c main_arg2 (ix3 1 (row0 t r) d)) (∑ s : Fin 8, V c main_v0 (ix3 s (row0 t r) d) : EReal))) ?_ (congrArg (fun y : S2x2048x1792.Idx => change (V c main_arg0 (ix3 1 (y 1) (y 2))) (mom (V c main_arg1 (ix3 1 (y 1) (y 2))) (∑ s : Fin 8, V c main_v0 (ix3 s (y 1) (y 2)) : EReal)) (sec (V c main_arg2 (ix3 1 (y 1) (y 2))) (∑ s : Fin 8, V c main_v0 (ix3 s (y 1) (y 2)) : EReal))) e).symm
  refine (out_5 _ _ _ _ z r d).trans ?_
  simp only [b00 V c t, b01 V c t, b02 V c t, b03 V c t]
/-- Call 1's array of the new first moment after the run: layer 1 is written, the other layer is as it was. -/
theorem arr06 : (dat0 V c).arrAt 6 cfg0.N = fun y : S2x2048x1792.Idx => if (y 0 : ℕ) / 1 = 1 then (mom (V c main_arg1 (ix3 1 (y 1) (y 2))) (∑ s : Fin 8, V c main_v0 (ix3 s (y 1) (y 2)) : EReal)) else (dat0 V c).A 6 y := by
  refine (dat0 V c).arrAt_eq_of_coversWhere 6 _ (fun β => β (0 : Fin 3) = 1) (by decide +kernel) (fun t hf y => ?_) (fun j => Iff.rfl)
  blk_simp
  rw [after0_6]
  obtain ⟨z, r, d, rfl⟩ : ∃ (z : Fin 1) (r : Fin 128) (d : Fin 1792), y = ix3 z r d := ⟨y 0, y 1, y 2, eq_ix3 y⟩
  have e : (win0_6.blk t).view.emb (ix3 z r d) = ix3 1 (row0 t r) d := by blk_ext [row0, idx0 t]
  refine Eq.trans (b := (mom (V c main_arg1 (ix3 1 (row0 t r) d)) (∑ s : Fin 8, V c main_v0 (ix3 s (row0 t r) d) : EReal))) ?_ (congrArg (fun y : S2x2048x1792.Idx => (mom (V c main_arg1 (ix3 1 (y 1) (y 2))) (∑ s : Fin 8, V c main_v0 (ix3 s (y 1) (y 2)) : EReal))) e).symm
  refine (out_6 _ _ _ _ z r d).trans ?_
  simp only [b00 V c t, b01 V c t, b02 V c t, b03 V c t]
/-- Call 1's array of the new second moment after the run: layer 1 is written, the other layer is as it was. -/
theorem arr07 : (dat0 V c).arrAt 7 cfg0.N = fun y : S2x2048x1792.Idx => if (y 0 : ℕ) / 1 = 1 then (sec (V c main_arg2 (ix3 1 (y 1) (y 2))) (∑ s : Fin 8, V c main_v0 (ix3 s (y 1) (y 2)) : EReal)) else (dat0 V c).A 7 y := by
  refine (dat0 V c).arrAt_eq_of_coversWhere 7 _ (fun β => β (0 : Fin 3) = 1) (by decide +kernel) (fun t hf y => ?_) (fun j => Iff.rfl)
  blk_simp
  rw [after0_7]
  obtain ⟨z, r, d, rfl⟩ : ∃ (z : Fin 1) (r : Fin 128) (d : Fin 1792), y = ix3 z r d := ⟨y 0, y 1, y 2, eq_ix3 y⟩
  have e : (win0_7.blk t).view.emb (ix3 z r d) = ix3 1 (row0 t r) d := by blk_ext [row0, idx0 t]
  refine Eq.trans (b := (sec (V c main_arg2 (ix3 1 (row0 t r) d)) (∑ s : Fin 8, V c main_v0 (ix3 s (row0 t r) d) : EReal))) ?_ (congrArg (fun y : S2x2048x1792.Idx => (sec (V c main_arg2 (ix3 1 (y 1) (y 2))) (∑ s : Fin 8, V c main_v0 (ix3 s (y 1) (y 2)) : EReal))) e).symm
  refine (out_7 _ _ _ _ z r d).trans ?_
  simp only [b00 V c t, b01 V c t, b02 V c t, b03 V c t]
/-- Call 2's array of the gradient after the run: layer 0 is written, the other layer is as it was. -/
theorem arr14 : (dat1 V c).arrAt 4 cfg1.N = fun y : S2x2048x1792.Idx => if (y 0 : ℕ) / 1 = 0 then (∑ s : Fin 4, V c main_v2 (ix3 s (y 1) (y 2)) : EReal) else (dat1 V c).A 4 y := by
  refine (dat1 V c).arrAt_eq_of_coversWhere 4 _ (fun β => β (0 : Fin 3) = 0) (by decide +kernel) (fun t hf y => ?_) (fun j => Iff.rfl)
  blk_simp
  rw [after1_4, after_4]
  obtain ⟨z, r, d, rfl⟩ : ∃ (z : Fin 1) (r : Fin 128) (d : Fin 1792), y = ix3 z r d := ⟨y 0, y 1, y 2, eq_ix3 y⟩
  have e : (win1_4.blk t).view.emb (ix3 z r d) = ix3 0 (row1 t r) d := by blk_ext [row1, idx1 t]
  refine Eq.trans (b := (∑ s : Fin 4, V c main_v2 (ix3 s (row1 t r) d) : EReal)) ?_ (congrArg (fun y : S2x2048x1792.Idx => (∑ s : Fin 4, V c main_v2 (ix3 s (y 1) (y 2)) : EReal)) e).symm
  refine (later_4_at _ _ _ _ z r d).trans ?_
  simp only [b10 V c t, b11 V c t, b12 V c t, b13 V c t]
/-- Call 2's array of the change after the run: layer 0 is written, the other layer is as it was. -/
theorem arr15 : (dat1 V c).arrAt 5 cfg1.N = fun y : S2x2048x1792.Idx => if (y 0 : ℕ) / 1 = 0 then change (V c main_arg0 (ix3 0 (y 1) (y 2))) (mom (V c main_arg1 (ix3 0 (y 1) (y 2))) (∑ s : Fin 4, V c main_v2 (ix3 s (y 1) (y 2)) : EReal)) (sec (V c main_arg2 (ix3 0 (y 1) (y 2))) (∑ s : Fin 4, V c main_v2 (ix3 s (y 1) (y 2)) : EReal)) else (dat1 V c).A 5 y := by
  refine (dat1 V c).arrAt_eq_of_coversWhere 5 _ (fun β => β (0 : Fin 3) = 0) (by decide +kernel) (fun t hf y => ?_) (fun j => Iff.rfl)
  blk_simp
  rw [after1_5, after_5]
  obtain ⟨z, r, d, rfl⟩ : ∃ (z : Fin 1) (r : Fin 128) (d : Fin 1792), y = ix3 z r d := ⟨y 0, y 1, y 2, eq_ix3 y⟩
  have e : (win1_5.blk t).view.emb (ix3 z r d) = ix3 0 (row1 t r) d := by blk_ext [row1, idx1 t]
  refine Eq.trans (b := change (V c main_arg0 (ix3 0 (row1 t r) d)) (mom (V c main_arg1 (ix3 0 (row1 t r) d)) (∑ s : Fin 4, V c main_v2 (ix3 s (row1 t r) d) : EReal)) (sec (V c main_arg2 (ix3 0 (row1 t r) d)) (∑ s : Fin 4, V c main_v2 (ix3 s (row1 t r) d) : EReal))) ?_ (congrArg (fun y : S2x2048x1792.Idx => change (V c main_arg0 (ix3 0 (y 1) (y 2))) (mom (V c main_arg1 (ix3 0 (y 1) (y 2))) (∑ s : Fin 4, V c main_v2 (ix3 s (y 1) (y 2)) : EReal)) (sec (V c main_arg2 (ix3 0 (y 1) (y 2))) (∑ s : Fin 4, V c main_v2 (ix3 s (y 1) (y 2)) : EReal))) e).symm
  refine (later_5_at _ _ _ _ z r d).trans ?_
  simp only [b10 V c t, b11 V c t, b12 V c t, b13 V c t]
/-- Call 2's array of the new first moment after the run: layer 0 is written, the other layer is as it was. -/
theorem arr16 : (dat1 V c).arrAt 6 cfg1.N = fun y : S2x2048x1792.Idx => if (y 0 : ℕ) / 1 = 0 then (mom (V c main_arg1 (ix3 0 (y 1) (y 2))) (∑ s : Fin 4, V c main_v2 (ix3 s (y 1) (y 2)) : EReal)) else (dat1 V c).A 6 y := by
  refine (dat1 V c).arrAt_eq_of_coversWhere 6 _ (fun β => β (0 : Fin 3) = 0) (by decide +kernel) (fun t hf y => ?_) (fun j => Iff.rfl)
  blk_simp
  rw [after1_6, after_6]
  obtain ⟨z, r, d, rfl⟩ : ∃ (z : Fin 1) (r : Fin 128) (d : Fin 1792), y = ix3 z r d := ⟨y 0, y 1, y 2, eq_ix3 y⟩
  have e : (win1_6.blk t).view.emb (ix3 z r d) = ix3 0 (row1 t r) d := by blk_ext [row1, idx1 t]
  refine Eq.trans (b := (mom (V c main_arg1 (ix3 0 (row1 t r) d)) (∑ s : Fin 4, V c main_v2 (ix3 s (row1 t r) d) : EReal))) ?_ (congrArg (fun y : S2x2048x1792.Idx => (mom (V c main_arg1 (ix3 0 (y 1) (y 2))) (∑ s : Fin 4, V c main_v2 (ix3 s (y 1) (y 2)) : EReal))) e).symm
  refine (later_6_at _ _ _ _ z r d).trans ?_
  simp only [b10 V c t, b11 V c t, b12 V c t, b13 V c t]
/-- Call 2's array of the new second moment after the run: layer 0 is written, the other layer is as it was. -/
theorem arr17 : (dat1 V c).arrAt 7 cfg1.N = fun y : S2x2048x1792.Idx => if (y 0 : ℕ) / 1 = 0 then (sec (V c main_arg2 (ix3 0 (y 1) (y 2))) (∑ s : Fin 4, V c main_v2 (ix3 s (y 1) (y 2)) : EReal)) else (dat1 V c).A 7 y := by
  refine (dat1 V c).arrAt_eq_of_coversWhere 7 _ (fun β => β (0 : Fin 3) = 0) (by decide +kernel) (fun t hf y => ?_) (fun j => Iff.rfl)
  blk_simp
  rw [after1_7, after_7]
  obtain ⟨z, r, d, rfl⟩ : ∃ (z : Fin 1) (r : Fin 128) (d : Fin 1792), y = ix3 z r d := ⟨y 0, y 1, y 2, eq_ix3 y⟩
  have e : (win1_7.blk t).view.emb (ix3 z r d) = ix3 0 (row1 t r) d := by blk_ext [row1, idx1 t]
  refine Eq.trans (b := (sec (V c main_arg2 (ix3 0 (row1 t r) d)) (∑ s : Fin 4, V c main_v2 (ix3 s (row1 t r) d) : EReal))) ?_ (congrArg (fun y : S2x2048x1792.Idx => (sec (V c main_arg2 (ix3 0 (y 1) (y 2))) (∑ s : Fin 4, V c main_v2 (ix3 s (y 1) (y 2)) : EReal))) e).symm
  refine (later_7_at _ _ _ _ z r d).trans ?_
  simp only [b10 V c t, b11 V c t, b12 V c t, b13 V c t]

end Value

/-! ## The run -/

section Run

variable (m : (ℓ : Loc nD τ sig) → Buf (Elt Ideal) ℓ) (ρ : Dev nD → PrngReg)

set_option backward.isDefEq.respectTransparency.types false in
/-- Every run ends with the second call's results in place and the arguments as they were. -/
theorem run_all : θ_run defs (onTc (τ := τ) (main (F := Ideal))) ⟨m, fun _ => 0, ρ⟩ (fun r => ∀ c : Dev nD,
      r.2.mem ((c.tc : Thread nD τ).loc main_v3_0) = W4 m ρ c (Proc.devRef .tc main_v3_0)
      ∧ r.2.mem ((c.tc : Thread nD τ).loc main_v3_1) = W4 m ρ c (Proc.devRef .tc main_v3_1)
      ∧ r.2.mem ((c.tc : Thread nD τ).loc main_v3_2) = W4 m ρ c (Proc.devRef .tc main_v3_2)
      ∧ r.2.mem ((c.tc : Thread nD τ).loc main_v3_3) = W4 m ρ c (Proc.devRef .tc main_v3_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨h c _ (mem_uc main_v3_0 (by decide)),
       h c _ (mem_uc main_v3_1 (by decide)),
       h c _ (mem_uc main_v3_2 (by decide)),
       h c _ (mem_uc main_v3_3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

variable (c : Dev nD)

/-- Argument 0 at the two calls. -/
theorem e00 : V1 m ρ c main_arg0 = m ((c.tc : Thread nD τ).loc main_arg0) := W1_args m ρ c main_arg0 (by decide)
theorem e10 : V3 m ρ c main_arg0 = m ((c.tc : Thread nD τ).loc main_arg0) := W3_args m ρ c main_arg0 (by decide)
/-- Argument 1 at the two calls. -/
theorem e01 : V1 m ρ c main_arg1 = m ((c.tc : Thread nD τ).loc main_arg1) := W1_args m ρ c main_arg1 (by decide)
theorem e11 : V3 m ρ c main_arg1 = m ((c.tc : Thread nD τ).loc main_arg1) := W3_args m ρ c main_arg1 (by decide)
/-- Argument 2 at the two calls. -/
theorem e02 : V1 m ρ c main_arg2 = m ((c.tc : Thread nD τ).loc main_arg2) := W1_args m ρ c main_arg2 (by decide)
theorem e12 : V3 m ρ c main_arg2 = m ((c.tc : Thread nD τ).loc main_arg2) := W3_args m ρ c main_arg2 (by decide)
/-- The devices' gradients of layer 1 at the first call, -/
theorem e03 (y : S8x2048x1792.Idx) : V1 m ρ c main_v0 y = m ((c.tc : Thread nD τ).loc main_arg4) y := by
  have h : W0 m ρ c (Proc.devRef .tc main_arg4) = m ((c.tc : Thread nD τ).loc main_arg4) := rfl
  show StableHlo.after hostOps0 (W0 m ρ c) (Proc.devRef .tc main_v0) y = _
  after_results
  rw [h]
  rfl
/-- and of layer 0 at the second. -/
theorem e13 (y : S4x2048x1792.Idx) : V3 m ρ c main_v2 y = m ((c.tc : Thread nD τ).loc main_arg3) y := by
  have h := W2_args m ρ c main_arg3 (by decide)
  show StableHlo.after hostOps1 (W2 m ρ c) (Proc.devRef .tc main_v2) y = _
  after_results
  rw [h]
  rfl
/-- The second call finds the first's array of the gradient. -/
theorem prev4 : (dat1 (V3 m ρ) c).A 4 = (dat0 (V1 m ρ) c).arrAt 4 cfg0.N := by
  refine (A_eq1 (V3 m ρ) c 4).trans (Eq.trans ?_ (W2_arr m ρ c 4))
  show StableHlo.after hostOps1 (W2 m ρ c) (Proc.devRef .tc main_v3_0) = _
  after_results
  rfl
/-- The second call finds the first's array of the change. -/
theorem prev5 : (dat1 (V3 m ρ) c).A 5 = (dat0 (V1 m ρ) c).arrAt 5 cfg0.N := by
  refine (A_eq1 (V3 m ρ) c 5).trans (Eq.trans ?_ (W2_arr m ρ c 5))
  show StableHlo.after hostOps1 (W2 m ρ c) (Proc.devRef .tc main_v3_1) = _
  after_results
  rfl
/-- The second call finds the first's array of the new first moment. -/
theorem prev6 : (dat1 (V3 m ρ) c).A 6 = (dat0 (V1 m ρ) c).arrAt 6 cfg0.N := by
  refine (A_eq1 (V3 m ρ) c 6).trans (Eq.trans ?_ (W2_arr m ρ c 6))
  show StableHlo.after hostOps1 (W2 m ρ c) (Proc.devRef .tc main_v3_2) = _
  after_results
  rfl
/-- The second call finds the first's array of the new second moment. -/
theorem prev7 : (dat1 (V3 m ρ) c).A 7 = (dat0 (V1 m ρ) c).arrAt 7 cfg0.N := by
  refine (A_eq1 (V3 m ρ) c 7).trans (Eq.trans ?_ (W2_arr m ρ c 7))
  show StableHlo.after hostOps1 (W2 m ρ c) (Proc.devRef .tc main_v3_3) = _
  after_results
  rfl

/-- The weights. -/
def a0 (l : Fin 2) (r : Fin 2048) (d : Fin 1792) : EReal := m ((c.tc : Thread nD τ).loc main_arg0) (ix3 l r d)
/-- The first moments. -/
def a1 (l : Fin 2) (r : Fin 2048) (d : Fin 1792) : EReal := m ((c.tc : Thread nD τ).loc main_arg1) (ix3 l r d)
/-- The second moments. -/
def a2 (l : Fin 2) (r : Fin 2048) (d : Fin 1792) : EReal := m ((c.tc : Thread nD τ).loc main_arg2) (ix3 l r d)
/-- A layer's gradient: the sum of its parts. -/
def grad (l : Fin 2) (r : Fin 2048) (d : Fin 1792) : EReal :=
  if l = 0 then (∑ s : Fin 4, m ((c.tc : Thread nD τ).loc main_arg3) (ix3 s r d) : EReal) else (∑ s : Fin 8, m ((c.tc : Thread nD τ).loc main_arg4) (ix3 s r d) : EReal)
/-- Layer 1's gradient. -/
theorem g0 (r : Fin 2048) (d : Fin 1792) : (∑ s : Fin 8, V1 m ρ c main_v0 (ix3 s r d) : EReal) = grad m c 1 r d :=
  congrArg (fun f : Fin 8 → EReal => ∑ s : Fin 8, f s) (funext fun s => e03 m ρ c (ix3 s r d))
/-- Layer 0's gradient. -/
theorem g1 (r : Fin 2048) (d : Fin 1792) : (∑ s : Fin 4, V3 m ρ c main_v2 (ix3 s r d) : EReal) = grad m c 0 r d :=
  congrArg (fun f : Fin 4 → EReal => ∑ s : Fin 4, f s) (funext fun s => e13 m ρ c (ix3 s r d))
/-- The program's result: the gradient. -/
theorem res4 (l : Fin 2) (r : Fin 2048) (d : Fin 1792) : W4 m ρ c (Proc.devRef .tc main_v3_0) (ix3 l r d) = grad m c l r d := by
  refine (congrFun (W4_arr m ρ c 4) _).trans ?_
  rw [arr14, prev4, arr04]
  rcases (show l = 0 ∨ l = 1 by omega) with rfl | rfl
  · refine (if_pos (show (0 : ℕ) / 1 = 0 from rfl)).trans ?_
    exact g1 m ρ c r d
  · refine (if_neg (show ¬ (1 : ℕ) / 1 = 0 by decide)).trans ((if_pos (show (1 : ℕ) / 1 = 1 from rfl)).trans ?_)
    exact g0 m ρ c r d
/-- The program's result: the change. -/
theorem res5 (l : Fin 2) (r : Fin 2048) (d : Fin 1792) : W4 m ρ c (Proc.devRef .tc main_v3_1) (ix3 l r d) = change (a0 m c l r d) (mom (a1 m c l r d) (grad m c l r d)) (sec (a2 m c l r d) (grad m c l r d)) := by
  refine (congrFun (W4_arr m ρ c 5) _).trans ?_
  rw [arr15, prev5, arr05]
  rcases (show l = 0 ∨ l = 1 by omega) with rfl | rfl
  · refine (if_pos (show (0 : ℕ) / 1 = 0 from rfl)).trans ?_
    exact change_eq (congrFun (e10 m ρ c) (ix3 0 r d)) (congrFun (e11 m ρ c) (ix3 0 r d)) (congrFun (e12 m ρ c) (ix3 0 r d)) (g1 m ρ c r d)
  · refine (if_neg (show ¬ (1 : ℕ) / 1 = 0 by decide)).trans ((if_pos (show (1 : ℕ) / 1 = 1 from rfl)).trans ?_)
    exact change_eq (congrFun (e00 m ρ c) (ix3 1 r d)) (congrFun (e01 m ρ c) (ix3 1 r d)) (congrFun (e02 m ρ c) (ix3 1 r d)) (g0 m ρ c r d)
/-- The program's result: the new first moment. -/
theorem res6 (l : Fin 2) (r : Fin 2048) (d : Fin 1792) : W4 m ρ c (Proc.devRef .tc main_v3_2) (ix3 l r d) = mom (a1 m c l r d) (grad m c l r d) := by
  refine (congrFun (W4_arr m ρ c 6) _).trans ?_
  rw [arr16, prev6, arr06]
  rcases (show l = 0 ∨ l = 1 by omega) with rfl | rfl
  · refine (if_pos (show (0 : ℕ) / 1 = 0 from rfl)).trans ?_
    exact mom_eq (congrFun (e11 m ρ c) (ix3 0 r d)) (g1 m ρ c r d)
  · refine (if_neg (show ¬ (1 : ℕ) / 1 = 0 by decide)).trans ((if_pos (show (1 : ℕ) / 1 = 1 from rfl)).trans ?_)
    exact mom_eq (congrFun (e01 m ρ c) (ix3 1 r d)) (g0 m ρ c r d)
/-- The program's result: the new second moment. -/
theorem res7 (l : Fin 2) (r : Fin 2048) (d : Fin 1792) : W4 m ρ c (Proc.devRef .tc main_v3_3) (ix3 l r d) = sec (a2 m c l r d) (grad m c l r d) := by
  refine (congrFun (W4_arr m ρ c 7) _).trans ?_
  rw [arr17, prev7, arr07]
  rcases (show l = 0 ∨ l = 1 by omega) with rfl | rfl
  · refine (if_pos (show (0 : ℕ) / 1 = 0 from rfl)).trans ?_
    exact sec_eq (congrFun (e12 m ρ c) (ix3 0 r d)) (g1 m ρ c r d)
  · refine (if_neg (show ¬ (1 : ℕ) / 1 = 0 by decide)).trans ((if_pos (show (1 : ℕ) / 1 = 1 from rfl)).trans ?_)
    exact sec_eq (congrFun (e02 m ρ c) (ix3 1 r d)) (g0 m ρ c r d)

end Run

end Cert.Kernel14Ideal.Opt

namespace Cert.Proof.AdamwWin

open Idealize.ShloMosaic Idealize.ShloMosaic.TcCoe Idealize.SL.Sem

/-! The claims of the optimiser's two calls for the input weights. -/

/-- The calls of the words run and leave their arguments. -/
theorem frame_p : Cert.quiescent_Kernel14 := fun m ρ _ => Cert.Kernel14.Gen.frame m ρ
/-- The calls over the reals run and leave their arguments. -/
theorem frame_pi : Cert.quiescent_Kernel14Ideal := fun m ρ _ => Cert.Kernel14Ideal.Gen.frame m ρ
/-- The reference runs and leaves its arguments. -/
theorem frame_ri : Cert.quiescent_Reference14Ideal := fun m ρ _ =>
  (θ_run Cert.Reference14Ideal.defs _ _).mono (fun r h => ⟨fun c => (h c).2.2.2.2,
      Idealize.ShloMosaic.sem_eq_zero_of_no_sems (by decide) r.2⟩)
    (Cert.Reference14Ideal.Value.run (F := Ideal) m ρ)

/-- The two programs have one text. -/
theorem preserves : Cert.preserves_Kernel14_Kernel14Ideal := trivial

/-- The calls' results are the reference's. -/
theorem algebraic : Cert.algebraic_Kernel14Ideal_Reference14Ideal := by
  pair_intro
  · exact Cert.Kernel14Ideal.Opt.run_all m g
  · refine Idealize.ShloMosaic.θ_run_mono (Cert.Reference14Ideal.Value.run (F := Ideal) m' g') ?_
    intro r hr c
    obtain ⟨h0, h1, h2, h3, k0, k1, k2, k3, k4⟩ := hr c
    obtain ⟨e0, e1, e2, e3, e4⟩ := hagree c
    clear hr hagree hpre
    have hs (l : Fin 2) (a : Fin 2048) (b : Fin 1792) :
        (if h : (l : ℕ) < 1 then (∑ x : Fin 4, m ((c.tc : Thread Cert.Kernel14Ideal.nD Cert.Kernel14Ideal.τ).loc Cert.Kernel14Ideal.main_arg3) (ix3 x a b) : EReal)
          else (∑ x : Fin 8, m ((c.tc : Thread Cert.Kernel14Ideal.nD Cert.Kernel14Ideal.τ).loc Cert.Kernel14Ideal.main_arg4) (ix3 x a b) : EReal)) = Cert.Kernel14Ideal.Opt.grad m c l a b := by
      rcases (show l = 0 ∨ l = 1 by omega) with rfl | rfl <;> rfl
    refine ⟨h0.trans ?_, h1.trans ?_, h2.trans ?_, h3.trans ?_, k0, k1, k2, k3, k4⟩
    all_goals clear h0 h1 h2 h3 k0 k1 k2 k3 k4
    · rw [e3, e4]
      funext y
      obtain ⟨l, a, b, rfl⟩ : ∃ (l : Fin 2) (a : Fin 2048) (b : Fin 1792), y = ix3 l a b := ⟨y 0, y 1, y 2, eq_ix3 y⟩
      refine Eq.trans ?_ (Cert.Kernel14Ideal.Opt.res4 m g c l a b).symm
      pointwise
      exact hs l a b
    · rw [e0, e1, e2, e3, e4]
      funext y
      obtain ⟨l, a, b, rfl⟩ : ∃ (l : Fin 2) (a : Fin 2048) (b : Fin 1792), y = ix3 l a b := ⟨y 0, y 1, y 2, eq_ix3 y⟩
      refine Eq.trans ?_ (Cert.Kernel14Ideal.Opt.res5 m g c l a b).symm
      pointwise
      exact Cert.Proof.Step.change_eq rfl rfl rfl (hs l a b)
    · rw [e1, e3, e4]
      funext y
      obtain ⟨l, a, b, rfl⟩ : ∃ (l : Fin 2) (a : Fin 2048) (b : Fin 1792), y = ix3 l a b := ⟨y 0, y 1, y 2, eq_ix3 y⟩
      refine Eq.trans ?_ (Cert.Kernel14Ideal.Opt.res6 m g c l a b).symm
      pointwise
      exact Cert.Proof.Step.mom_eq rfl (hs l a b)
    · rw [e2, e3, e4]
      funext y
      obtain ⟨l, a, b, rfl⟩ : ∃ (l : Fin 2) (a : Fin 2048) (b : Fin 1792), y = ix3 l a b := ⟨y 0, y 1, y 2, eq_ix3 y⟩
      refine Eq.trans ?_ (Cert.Kernel14Ideal.Opt.res7 m g c l a b).symm
      pointwise
      exact Cert.Proof.Step.sec_eq rfl (hs l a b)

end Cert.Proof.AdamwWin
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Band.Claims
public import Idealize.ShloMosaic.Adequacy
public import Idealize.ShloMosaic.Init
public import proofs.«01_k».proof.Proof.Gen.Kernel2
public import proofs.«01_k».proof.Proof.Gen.Kernel2Ideal
public import proofs.«01_k».proof.Proof.Gen.Reference2Ideal
public import proofs.«01_k».proof.Proof.Proj.InProjBwd
public import proofs.«01_k».proof.Proof.Gen.Kernel3
public import proofs.«01_k».proof.Proof.Gen.Kernel3Ideal
public import proofs.«01_k».proof.Proof.Gen.Reference3Ideal
public import proofs.«01_k».proof.Proof.Proj.InProj
public import proofs.«01_k».proof.Proof.Gen.Kernel4
public import proofs.«01_k».proof.Proof.Gen.Kernel4Ideal
public import proofs.«01_k».proof.Proof.Gen.Reference4Ideal
public import proofs.«01_k».proof.Proof.Prod.Dwin
public import proofs.«01_k».proof.Proof.Gen.Kernel6
public import proofs.«01_k».proof.Proof.Gen.Kernel6Ideal
public import proofs.«01_k».proof.Proof.Gen.Reference6Ideal
public import proofs.«01_k».proof.Proof.Prod.Dcat
public import proofs.«01_k».proof.Proof.Gen.Kernel7
public import proofs.«01_k».proof.Proof.Gen.Kernel7Ideal
public import proofs.«01_k».proof.Proof.Gen.Reference7Ideal
public import proofs.«01_k».proof.Proof.Prod.Dwout
public import proofs.«01_k».proof.Proof.Gen.Kernel8
public import proofs.«01_k».proof.Proof.Gen.Kernel8Ideal
public import proofs.«01_k».proof.Proof.Gen.Reference8Ideal
public import proofs.«01_k».proof.Proof.Prod.OutProj
public import proofs.«01_k».proof.Proof.Gen.Kernel9
public import proofs.«01_k».proof.Proof.Gen.Kernel9Ideal
public import proofs.«01_k».proof.Proof.Gen.Reference9Ideal
public import proofs.«01_k».proof.Proof.Prod.Dwpw
public import proofs.«01_k».proof.Proof.Gen.Kernel10
public import proofs.«01_k».proof.Proof.Gen.Kernel10Ideal
public import proofs.«01_k».proof.Proof.Gen.Reference10Ideal
public import proofs.«01_k».proof.Proof.Opt.AdamwSmall
public import proofs.«01_k».proof.Proof.Gen.Kernel11
public import proofs.«01_k».proof.Proof.Gen.Kernel11Ideal
public import proofs.«01_k».proof.Proof.Gen.Reference11Ideal
public import proofs.«01_k».proof.Proof.Opt.AdamwWpw
public import proofs.«01_k».proof.Proof.Gen.Kernel12
public import proofs.«01_k».proof.Proof.Gen.Kernel12Ideal
public import proofs.«01_k».proof.Proof.Gen.Reference12Ideal
public import proofs.«01_k».proof.Proof.Opt.AdamwWout
public import proofs.«01_k».proof.Proof.Gen.Kernel13
public import proofs.«01_k».proof.Proof.Gen.Kernel13Ideal
public import proofs.«01_k».proof.Proof.Gen.Reference13Ideal
public import proofs.«01_k».proof.Proof.Opt.AdamwDwk
public import proofs.«01_k».proof.Proof.Gen.Kernel14
public import proofs.«01_k».proof.Proof.Gen.Kernel14Ideal
public import proofs.«01_k».proof.Proof.Gen.Reference14Ideal
public import proofs.«01_k».proof.Proof.Opt.AdamwWin

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts,
  BandClaims.frame_p, BandClaims.frame_pi, BandClaims.frame_ri, InProjBwd.frame_p, InProjBwd.frame_pi, InProjBwd.frame_ri, InProj.frame_p, InProj.frame_pi, InProj.frame_ri, Dwin.frame_p, Dwin.frame_pi, Dwin.frame_ri, Dcat.frame_p, Dcat.frame_pi, Dcat.frame_ri, Dwout.frame_p, Dwout.frame_pi, Dwout.frame_ri, OutProj.frame_p, OutProj.frame_pi, OutProj.frame_ri, Dwpw.frame_p, Dwpw.frame_pi, Dwpw.frame_ri, AdamwSmall.frame_p, AdamwSmall.frame_pi, AdamwSmall.frame_ri, AdamwWpw.frame_p, AdamwWpw.frame_pi, AdamwWpw.frame_ri, AdamwWout.frame_p, AdamwWout.frame_pi, AdamwWout.frame_ri, AdamwDwk.frame_p, AdamwDwk.frame_pi, AdamwDwk.frame_ri, AdamwWin.frame_p, AdamwWin.frame_pi, AdamwWin.frame_ri,
  BandClaims.preserves, BandClaims.algebraic, InProjBwd.preserves, InProjBwd.algebraic, InProj.preserves, InProj.algebraic, Dwin.preserves, Dwin.algebraic, Dcat.preserves, Dcat.algebraic, Dwout.preserves, Dwout.algebraic, OutProj.preserves, OutProj.algebraic, Dwpw.preserves, Dwpw.algebraic, AdamwSmall.preserves, AdamwSmall.algebraic, AdamwWpw.preserves, AdamwWpw.algebraic, AdamwWout.preserves, AdamwWout.algebraic, AdamwDwk.preserves, AdamwDwk.algebraic, AdamwWin.preserves, AdamwWin.algebraic⟩

end Cert.Proof

end
